-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_FfTwoW (m : (ℓ : Loc Cert.FfTwoW.nD Cert.FfTwoW.τ Cert.FfTwoW.sig) → Buf (Elt Bits) ℓ) : Prop :=
  True

def Pre_FfTwoWIdeal (m : (ℓ : Loc Cert.FfTwoWIdeal.nD Cert.FfTwoWIdeal.τ Cert.FfTwoWIdeal.sig) → Buf (Elt Ideal) ℓ) : Prop :=
  True

def Pre_FfTwoWRefIdeal (m : (ℓ : Loc Cert.FfTwoWRefIdeal.nD Cert.FfTwoWRefIdeal.τ Cert.FfTwoWRefIdeal.sig) → Buf (Elt Ideal) ℓ) : Prop :=
  True

def Pre_FfOneW (m : (ℓ : Loc Cert.FfOneW.nD Cert.FfOneW.τ Cert.FfOneW.sig) → Buf (Elt Bits) ℓ) : Prop :=
  True

def Pre_FfOneWIdeal (m : (ℓ : Loc Cert.FfOneWIdeal.nD Cert.FfOneWIdeal.τ Cert.FfOneWIdeal.sig) → Buf (Elt Ideal) ℓ) : Prop :=
  True

def Pre_FfOneWRefIdeal (m : (ℓ : Loc Cert.FfOneWRefIdeal.nD Cert.FfOneWRefIdeal.τ Cert.FfOneWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpPoolW (m : (ℓ : Loc Cert.UpPoolW.nD Cert.UpPoolW.τ Cert.UpPoolW.sig) → Buf (Elt Bits) ℓ) : Prop :=
  True

def Pre_UpPoolWIdeal (m : (ℓ : Loc Cert.UpPoolWIdeal.nD Cert.UpPoolWIdeal.τ Cert.UpPoolWIdeal.sig) → Buf (Elt Ideal) ℓ) : Prop :=
  True

def Pre_UpPoolWRefIdeal (m : (ℓ : Loc Cert.UpPoolWRefIdeal.nD Cert.UpPoolWRefIdeal.τ Cert.UpPoolWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpPoolX (m : (ℓ : Loc Cert.UpPoolX.nD Cert.UpPoolX.τ Cert.UpPoolX.sig) → Buf (Elt Bits) ℓ) : Prop :=
  True

def Pre_UpPoolXIdeal (m : (ℓ : Loc Cert.UpPoolXIdeal.nD Cert.UpPoolXIdeal.τ Cert.UpPoolXIdeal.sig) → Buf (Elt Ideal) ℓ) : Prop :=
  True

def Pre_UpPoolXRefIdeal (m : (ℓ : Loc Cert.UpPoolXRefIdeal.nD Cert.UpPoolXRefIdeal.τ Cert.UpPoolXRefIdeal.sig) → Buf (Elt Ideal) ℓ) : Prop :=
  True

def Pre_FfTwoX (m : (ℓ : Loc Cert.FfTwoX.nD Cert.FfTwoX.τ Cert.FfTwoX.sig) → Buf (Elt Bits) ℓ) : Prop :=
  True

def Pre_FfTwoXIdeal (m : (ℓ : Loc Cert.FfTwoXIdeal.nD Cert.FfTwoXIdeal.τ Cert.FfTwoXIdeal.sig) → Buf (Elt Ideal) ℓ) : Prop :=
  True

def Pre_FfTwoXRefIdeal (m : (ℓ : Loc Cert.FfTwoXRefIdeal.nD Cert.FfTwoXRefIdeal.τ Cert.FfTwoXRefIdeal.sig) → Buf (Elt Ideal) ℓ) : Prop :=
  True

def Pre_FfOneX (m : (ℓ : Loc Cert.FfOneX.nD Cert.FfOneX.τ Cert.FfOneX.sig) → Buf (Elt Bits) ℓ) : Prop :=
  True

def Pre_FfOneXIdeal (m : (ℓ : Loc Cert.FfOneXIdeal.nD Cert.FfOneXIdeal.τ Cert.FfOneXIdeal.sig) → Buf (Elt Ideal) ℓ) : Prop :=
  True

def Pre_FfOneXRefIdeal (m : (ℓ : Loc Cert.FfOneXRefIdeal.nD Cert.FfOneXRefIdeal.τ Cert.FfOneXRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_GatesF (m : (ℓ : Loc Cert.GatesF.nD Cert.GatesF.τ Cert.GatesF.sig) → Buf (Elt Bits) ℓ) : Prop :=
  True

def Pre_GatesFIdeal (m : (ℓ : Loc Cert.GatesFIdeal.nD Cert.GatesFIdeal.τ Cert.GatesFIdeal.sig) → Buf (Elt Ideal) ℓ) : Prop :=
  True

def Pre_GatesFRefIdeal (m : (ℓ : Loc Cert.GatesFRefIdeal.nD Cert.GatesFRefIdeal.τ Cert.GatesFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_UpPoolF (m : (ℓ : Loc Cert.UpPoolF.nD Cert.UpPoolF.τ Cert.UpPoolF.sig) → Buf (Elt Bits) ℓ) : Prop :=
  True

def Pre_UpPoolFIdeal (m : (ℓ : Loc Cert.UpPoolFIdeal.nD Cert.UpPoolFIdeal.τ Cert.UpPoolFIdeal.sig) → Buf (Elt Ideal) ℓ) : Prop :=
  True

def Pre_UpPoolFRefIdeal (m : (ℓ : Loc Cert.UpPoolFRefIdeal.nD Cert.UpPoolFRefIdeal.τ Cert.UpPoolFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_FfOneF (m : (ℓ : Loc Cert.FfOneF.nD Cert.FfOneF.τ Cert.FfOneF.sig) → Buf (Elt Bits) ℓ) : Prop :=
  True

def Pre_FfOneFIdeal (m : (ℓ : Loc Cert.FfOneFIdeal.nD Cert.FfOneFIdeal.τ Cert.FfOneFIdeal.sig) → Buf (Elt Ideal) ℓ) : Prop :=
  True

def Pre_FfOneFRefIdeal (m : (ℓ : Loc Cert.FfOneFRefIdeal.nD Cert.FfOneFRefIdeal.τ Cert.FfOneFRefIdeal.sig) → Buf (Elt Ideal) ℓ) : Prop :=
  True

def Pre_FfTwoF (m : (ℓ : Loc Cert.FfTwoF.nD Cert.FfTwoF.τ Cert.FfTwoF.sig) → Buf (Elt Bits) ℓ) : Prop :=
  True

def Pre_FfTwoFIdeal (m : (ℓ : Loc Cert.FfTwoFIdeal.nD Cert.FfTwoFIdeal.τ Cert.FfTwoFIdeal.sig) → Buf (Elt Ideal) ℓ) : Prop :=
  True

def Pre_FfTwoFRefIdeal (m : (ℓ : Loc Cert.FfTwoFRefIdeal.nD Cert.FfTwoFRefIdeal.τ Cert.FfTwoFRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_GdnOutB (m : (ℓ : Loc Cert.GdnOutB.nD Cert.GdnOutB.τ Cert.GdnOutB.sig) → Buf (Elt Bits) ℓ) : Prop :=
  True

def Pre_GdnOutBIdeal (m : (ℓ : Loc Cert.GdnOutBIdeal.nD Cert.GdnOutBIdeal.τ Cert.GdnOutBIdeal.sig) → Buf (Elt Ideal) ℓ) : Prop :=
  True

def Pre_GdnOutBRefIdeal (m : (ℓ : Loc Cert.GdnOutBRefIdeal.nD Cert.GdnOutBRefIdeal.τ Cert.GdnOutBRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_GdnOutF (m : (ℓ : Loc Cert.GdnOutF.nD Cert.GdnOutF.τ Cert.GdnOutF.sig) → Buf (Elt Bits) ℓ) : Prop :=
  True

def Pre_GdnOutFIdeal (m : (ℓ : Loc Cert.GdnOutFIdeal.nD Cert.GdnOutFIdeal.τ Cert.GdnOutFIdeal.sig) → Buf (Elt Ideal) ℓ) : Prop :=
  True

def Pre_GdnOutFRefIdeal (m : (ℓ : Loc Cert.GdnOutFRefIdeal.nD Cert.GdnOutFRefIdeal.τ Cert.GdnOutFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBIdeal_finite_cotangent [hPre_finite_cotangent : Cert.Pre_finite_cotangent.Facts] (m : (ℓ : Loc Cert.ConvBIdeal.nD Cert.ConvBIdeal.τ Cert.ConvBIdeal.sig) → Buf (Elt Ideal) ℓ) : Prop :=
  ∀ c : Dev Cert.ConvBIdeal.nD,
    (Cert.Pre_finite_cotangent.fn (F := Ideal) (m ((c.tc : Thread Cert.ConvBIdeal.nD Cert.ConvBIdeal.τ).loc Cert.ConvBIdeal.main_arg0)) (m ((c.tc : Thread Cert.ConvBIdeal.nD Cert.ConvBIdeal.τ).loc Cert.ConvBIdeal.main_arg1)) (m ((c.tc : Thread Cert.ConvBIdeal.nD Cert.ConvBIdeal.τ).loc Cert.ConvBIdeal.main_arg2))) = (fun _ => 1#1)

def Pre_ConvBRefIdeal (m : (ℓ : Loc Cert.ConvBRefIdeal.nD Cert.ConvBRefIdeal.τ Cert.ConvBRefIdeal.sig) → Buf (Elt Ideal) ℓ) : Prop :=
  True

def Pre_ConvBRefIdeal_finite_cotangent [hPre_finite_cotangent : Cert.Pre_finite_cotangent.Facts] (m : (ℓ : Loc Cert.ConvBRefIdeal.nD Cert.ConvBRefIdeal.τ Cert.ConvBRefIdeal.sig) → Buf (Elt Ideal) ℓ) : Prop :=
  ∀ c : Dev Cert.ConvBRefIdeal.nD,
    (Cert.Pre_finite_cotangent.fn (F := Ideal) (m ((c.tc : Thread Cert.ConvBRefIdeal.nD Cert.ConvBRefIdeal.τ).loc Cert.ConvBRefIdeal.main_arg0)) (m ((c.tc : Thread Cert.ConvBRefIdeal.nD Cert.ConvBRefIdeal.τ).loc Cert.ConvBRefIdeal.main_arg1)) (m ((c.tc : Thread Cert.ConvBRefIdeal.nD Cert.ConvBRefIdeal.τ).loc Cert.ConvBRefIdeal.main_arg2))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_FfTwoW [hFfTwoW : Cert.FfTwoW.Facts] : Prop :=
  ∀ (m : (ℓ : Loc Cert.FfTwoW.nD Cert.FfTwoW.τ Cert.FfTwoW.sig) → Buf (Elt Bits) ℓ) (g : Dev Cert.FfTwoW.nD → PrngReg), Pre_FfTwoW m →
    θ_run (Cert.FfTwoW.defs (F := Bits)) (onTc (τ := Cert.FfTwoW.τ) (Cert.FfTwoW.main (F := Bits))) ⟨m, fun _ => 0, g⟩ (fun r => (∀ c : Dev Cert.FfTwoW.nD,
      r.2.mem ((c.tc : Thread Cert.FfTwoW.nD Cert.FfTwoW.τ).loc Cert.FfTwoW.main_arg0) = m ((c.tc : Thread Cert.FfTwoW.nD Cert.FfTwoW.τ).loc Cert.FfTwoW.main_arg0)
      ∧ r.2.mem ((c.tc : Thread Cert.FfTwoW.nD Cert.FfTwoW.τ).loc Cert.FfTwoW.main_arg1) = m ((c.tc : Thread Cert.FfTwoW.nD Cert.FfTwoW.τ).loc Cert.FfTwoW.main_arg1))
      ∧ r.2.sem = fun _ => 0)

def quiescent_FfTwoWIdeal [hFfTwoWIdeal : Cert.FfTwoWIdeal.Facts] : Prop :=
  ∀ (m : (ℓ : Loc Cert.FfTwoWIdeal.nD Cert.FfTwoWIdeal.τ Cert.FfTwoWIdeal.sig) → Buf (Elt Ideal) ℓ) (g : Dev Cert.FfTwoWIdeal.nD → PrngReg), Pre_FfTwoWIdeal m →
    θ_run (Cert.FfTwoWIdeal.defs (F := Ideal)) (onTc (τ := Cert.FfTwoWIdeal.τ) (Cert.FfTwoWIdeal.main (F := Ideal))) ⟨m, fun _ => 0, g⟩ (fun r => (∀ c : Dev Cert.FfTwoWIdeal.nD,
      r.2.mem ((c.tc : Thread Cert.FfTwoWIdeal.nD Cert.FfTwoWIdeal.τ).loc Cert.FfTwoWIdeal.main_arg0) = m ((c.tc : Thread Cert.FfTwoWIdeal.nD Cert.FfTwoWIdeal.τ).loc Cert.FfTwoWIdeal.main_arg0)
      ∧ r.2.mem ((c.tc : Thread Cert.FfTwoWIdeal.nD Cert.FfTwoWIdeal.τ).loc Cert.FfTwoWIdeal.main_arg1) = m ((c.tc : Thread Cert.FfTwoWIdeal.nD Cert.FfTwoWIdeal.τ).loc Cert.FfTwoWIdeal.main_arg1))
      ∧ r.2.sem = fun _ => 0)

def quiescent_FfTwoWRefIdeal [hFfTwoWRefIdeal : Cert.FfTwoWRefIdeal.Facts] : Prop :=
  ∀ (m : (ℓ : Loc Cert.FfTwoWRefIdeal.nD Cert.FfTwoWRefIdeal.τ Cert.FfTwoWRefIdeal.sig) → Buf (Elt Ideal) ℓ) (g : Dev Cert.FfTwoWRefIdeal.nD → PrngReg), Pre_FfTwoWRefIdeal m →
    θ_run (Cert.FfTwoWRefIdeal.defs (F := Ideal)) (onTc (τ := Cert.FfTwoWRefIdeal.τ) (Cert.FfTwoWRefIdeal.main (F := Ideal))) ⟨m, fun _ => 0, g⟩ (fun r => (∀ c : Dev Cert.FfTwoWRefIdeal.nD,
      r.2.mem ((c.tc : Thread Cert.FfTwoWRefIdeal.nD Cert.FfTwoWRefIdeal.τ).loc Cert.FfTwoWRefIdeal.main_arg0) = m ((c.tc : Thread Cert.FfTwoWRefIdeal.nD Cert.FfTwoWRefIdeal.τ).loc Cert.FfTwoWRefIdeal.main_arg0)
      ∧ r.2.mem ((c.tc : Thread Cert.FfTwoWRefIdeal.nD Cert.FfTwoWRefIdeal.τ).loc Cert.FfTwoWRefIdeal.main_arg1) = m ((c.tc : Thread Cert.FfTwoWRefIdeal.nD Cert.FfTwoWRefIdeal.τ).loc Cert.FfTwoWRefIdeal.main_arg1))
      ∧ r.2.sem = fun _ => 0)

def quiescent_FfOneW [hFfOneW : Cert.FfOneW.Facts] : Prop :=
  ∀ (m : (ℓ : Loc Cert.FfOneW.nD Cert.FfOneW.τ Cert.FfOneW.sig) → Buf (Elt Bits) ℓ) (g : Dev Cert.FfOneW.nD → PrngReg), Pre_FfOneW m →
    θ_run (Cert.FfOneW.defs (F := Bits)) (onTc (τ := Cert.FfOneW.τ) (Cert.FfOneW.main (F := Bits))) ⟨m, fun _ => 0, g⟩ (fun r => (∀ c : Dev Cert.FfOneW.nD,
      r.2.mem ((c.tc : Thread Cert.FfOneW.nD Cert.FfOneW.τ).loc Cert.FfOneW.main_arg0) = m ((c.tc : Thread Cert.FfOneW.nD Cert.FfOneW.τ).loc Cert.FfOneW.main_arg0)
      ∧ r.2.mem ((c.tc : Thread Cert.FfOneW.nD Cert.FfOneW.τ).loc Cert.FfOneW.main_arg1) = m ((c.tc : Thread Cert.FfOneW.nD Cert.FfOneW.τ).loc Cert.FfOneW.main_arg1))
      ∧ r.2.sem = fun _ => 0)

def quiescent_FfOneWIdeal [hFfOneWIdeal : Cert.FfOneWIdeal.Facts] : Prop :=
  ∀ (m : (ℓ : Loc Cert.FfOneWIdeal.nD Cert.FfOneWIdeal.τ Cert.FfOneWIdeal.sig) → Buf (Elt Ideal) ℓ) (g : Dev Cert.FfOneWIdeal.nD → PrngReg), Pre_FfOneWIdeal m →
    θ_run (Cert.FfOneWIdeal.defs (F := Ideal)) (onTc (τ := Cert.FfOneWIdeal.τ) (Cert.FfOneWIdeal.main (F := Ideal))) ⟨m, fun _ => 0, g⟩ (fun r => (∀ c : Dev Cert.FfOneWIdeal.nD,
      r.2.mem ((c.tc : Thread Cert.FfOneWIdeal.nD Cert.FfOneWIdeal.τ).loc Cert.FfOneWIdeal.main_arg0) = m ((c.tc : Thread Cert.FfOneWIdeal.nD Cert.FfOneWIdeal.τ).loc Cert.FfOneWIdeal.main_arg0)
      ∧ r.2.mem ((c.tc : Thread Cert.FfOneWIdeal.nD Cert.FfOneWIdeal.τ).loc Cert.FfOneWIdeal.main_arg1) = m ((c.tc : Thread Cert.FfOneWIdeal.nD Cert.FfOneWIdeal.τ).loc Cert.FfOneWIdeal.main_arg1))
      ∧ r.2.sem = fun _ => 0)

def quiescent_FfOneWRefIdeal [hFfOneWRefIdeal : Cert.FfOneWRefIdeal.Facts] : Prop :=
  ∀ (m : (ℓ : Loc Cert.FfOneWRefIdeal.nD Cert.FfOneWRefIdeal.τ Cert.FfOneWRefIdeal.sig) → Buf (Elt Ideal) ℓ) (g : Dev Cert.FfOneWRefIdeal.nD → PrngReg), Pre_FfOneWRefIdeal m →
    θ_run (Cert.FfOneWRefIdeal.defs (F := Ideal)) (onTc (τ := Cert.FfOneWRefIdeal.τ) (Cert.FfOneWRefIdeal.main (F := Ideal))) ⟨m, fun _ => 0, g⟩ (fun r => (∀ c : Dev Cert.FfOneWRefIdeal.nD,
      r.2.mem ((c.tc : Thread Cert.FfOneWRefIdeal.nD Cert.FfOneWRefIdeal.τ).loc Cert.FfOneWRefIdeal.main_arg0) = m ((c.tc : Thread Cert.FfOneWRefIdeal.nD Cert.FfOneWRefIdeal.τ).loc Cert.FfOneWRefIdeal.main_arg0)
      ∧ r.2.mem ((c.tc : Thread Cert.FfOneWRefIdeal.nD Cert.FfOneWRefIdeal.τ).loc Cert.FfOneWRefIdeal.main_arg1) = m ((c.tc : Thread Cert.FfOneWRefIdeal.nD Cert.FfOneWRefIdeal.τ).loc Cert.FfOneWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpPoolW [hUpPoolW : Cert.UpPoolW.Facts] : Prop :=
  ∀ (m : (ℓ : Loc Cert.UpPoolW.nD Cert.UpPoolW.τ Cert.UpPoolW.sig) → Buf (Elt Bits) ℓ) (g : Dev Cert.UpPoolW.nD → PrngReg), Pre_UpPoolW m →
    θ_run (Cert.UpPoolW.defs (F := Bits)) (onTc (τ := Cert.UpPoolW.τ) (Cert.UpPoolW.main (F := Bits))) ⟨m, fun _ => 0, g⟩ (fun r => (∀ c : Dev Cert.UpPoolW.nD,
      r.2.mem ((c.tc : Thread Cert.UpPoolW.nD Cert.UpPoolW.τ).loc Cert.UpPoolW.main_arg0) = m ((c.tc : Thread Cert.UpPoolW.nD Cert.UpPoolW.τ).loc Cert.UpPoolW.main_arg0)
      ∧ r.2.mem ((c.tc : Thread Cert.UpPoolW.nD Cert.UpPoolW.τ).loc Cert.UpPoolW.main_arg1) = m ((c.tc : Thread Cert.UpPoolW.nD Cert.UpPoolW.τ).loc Cert.UpPoolW.main_arg1))
      ∧ r.2.sem = fun _ => 0)

def quiescent_UpPoolWIdeal [hUpPoolWIdeal : Cert.UpPoolWIdeal.Facts] : Prop :=
  ∀ (m : (ℓ : Loc Cert.UpPoolWIdeal.nD Cert.UpPoolWIdeal.τ Cert.UpPoolWIdeal.sig) → Buf (Elt Ideal) ℓ) (g : Dev Cert.UpPoolWIdeal.nD → PrngReg), Pre_UpPoolWIdeal m →
    θ_run (Cert.UpPoolWIdeal.defs (F := Ideal)) (onTc (τ := Cert.UpPoolWIdeal.τ) (Cert.UpPoolWIdeal.main (F := Ideal))) ⟨m, fun _ => 0, g⟩ (fun r => (∀ c : Dev Cert.UpPoolWIdeal.nD,
      r.2.mem ((c.tc : Thread Cert.UpPoolWIdeal.nD Cert.UpPoolWIdeal.τ).loc Cert.UpPoolWIdeal.main_arg0) = m ((c.tc : Thread Cert.UpPoolWIdeal.nD Cert.UpPoolWIdeal.τ).loc Cert.UpPoolWIdeal.main_arg0)
      ∧ r.2.mem ((c.tc : Thread Cert.UpPoolWIdeal.nD Cert.UpPoolWIdeal.τ).loc Cert.UpPoolWIdeal.main_arg1) = m ((c.tc : Thread Cert.UpPoolWIdeal.nD Cert.UpPoolWIdeal.τ).loc Cert.UpPoolWIdeal.main_arg1))
      ∧ r.2.sem = fun _ => 0)

def quiescent_UpPoolWRefIdeal [hUpPoolWRefIdeal : Cert.UpPoolWRefIdeal.Facts] : Prop :=
  ∀ (m : (ℓ : Loc Cert.UpPoolWRefIdeal.nD Cert.UpPoolWRefIdeal.τ Cert.UpPoolWRefIdeal.sig) → Buf (Elt Ideal) ℓ) (g : Dev Cert.UpPoolWRefIdeal.nD → PrngReg), Pre_UpPoolWRefIdeal m →
    θ_run (Cert.UpPoolWRefIdeal.defs (F := Ideal)) (onTc (τ := Cert.UpPoolWRefIdeal.τ) (Cert.UpPoolWRefIdeal.main (F := Ideal))) ⟨m, fun _ => 0, g⟩ (fun r => (∀ c : Dev Cert.UpPoolWRefIdeal.nD,
      r.2.mem ((c.tc : Thread Cert.UpPoolWRefIdeal.nD Cert.UpPoolWRefIdeal.τ).loc Cert.UpPoolWRefIdeal.main_arg0) = m ((c.tc : Thread Cert.UpPoolWRefIdeal.nD Cert.UpPoolWRefIdeal.τ).loc Cert.UpPoolWRefIdeal.main_arg0)
      ∧ r.2.mem ((c.tc : Thread Cert.UpPoolWRefIdeal.nD Cert.UpPoolWRefIdeal.τ).loc Cert.UpPoolWRefIdeal.main_arg1) = m ((c.tc : Thread Cert.UpPoolWRefIdeal.nD Cert.UpPoolWRefIdeal.τ).loc Cert.UpPoolWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_UpPoolX [hUpPoolX : Cert.UpPoolX.Facts] : Prop :=
  ∀ (m : (ℓ : Loc Cert.UpPoolX.nD Cert.UpPoolX.τ Cert.UpPoolX.sig) → Buf (Elt Bits) ℓ) (g : Dev Cert.UpPoolX.nD → PrngReg), Pre_UpPoolX m →
    θ_run (Cert.UpPoolX.defs (F := Bits)) (onTc (τ := Cert.UpPoolX.τ) (Cert.UpPoolX.main (F := Bits))) ⟨m, fun _ => 0, g⟩ (fun r => (∀ c : Dev Cert.UpPoolX.nD,
      r.2.mem ((c.tc : Thread Cert.UpPoolX.nD Cert.UpPoolX.τ).loc Cert.UpPoolX.main_arg0) = m ((c.tc : Thread Cert.UpPoolX.nD Cert.UpPoolX.τ).loc Cert.UpPoolX.main_arg0)
      ∧ r.2.mem ((c.tc : Thread Cert.UpPoolX.nD Cert.UpPoolX.τ).loc Cert.UpPoolX.main_arg1) = m ((c.tc : Thread Cert.UpPoolX.nD Cert.UpPoolX.τ).loc Cert.UpPoolX.main_arg1))
      ∧ r.2.sem = fun _ => 0)

def quiescent_UpPoolXIdeal [hUpPoolXIdeal : Cert.UpPoolXIdeal.Facts] : Prop :=
  ∀ (m : (ℓ : Loc Cert.UpPoolXIdeal.nD Cert.UpPoolXIdeal.τ Cert.UpPoolXIdeal.sig) → Buf (Elt Ideal) ℓ) (g : Dev Cert.UpPoolXIdeal.nD → PrngReg), Pre_UpPoolXIdeal m →
    θ_run (Cert.UpPoolXIdeal.defs (F := Ideal)) (onTc (τ := Cert.UpPoolXIdeal.τ) (Cert.UpPoolXIdeal.main (F := Ideal))) ⟨m, fun _ => 0, g⟩ (fun r => (∀ c : Dev Cert.UpPoolXIdeal.nD,
      r.2.mem ((c.tc : Thread Cert.UpPoolXIdeal.nD Cert.UpPoolXIdeal.τ).loc Cert.UpPoolXIdeal.main_arg0) = m ((c.tc : Thread Cert.UpPoolXIdeal.nD Cert.UpPoolXIdeal.τ).loc Cert.UpPoolXIdeal.main_arg0)
      ∧ r.2.mem ((c.tc : Thread Cert.UpPoolXIdeal.nD Cert.UpPoolXIdeal.τ).loc Cert.UpPoolXIdeal.main_arg1) = m ((c.tc : Thread Cert.UpPoolXIdeal.nD Cert.UpPoolXIdeal.τ).loc Cert.UpPoolXIdeal.main_arg1))
      ∧ r.2.sem = fun _ => 0)

def quiescent_UpPoolXRefIdeal [hUpPoolXRefIdeal : Cert.UpPoolXRefIdeal.Facts] : Prop :=
  ∀ (m : (ℓ : Loc Cert.UpPoolXRefIdeal.nD Cert.UpPoolXRefIdeal.τ Cert.UpPoolXRefIdeal.sig) → Buf (Elt Ideal) ℓ) (g : Dev Cert.UpPoolXRefIdeal.nD → PrngReg), Pre_UpPoolXRefIdeal m →
    θ_run (Cert.UpPoolXRefIdeal.defs (F := Ideal)) (onTc (τ := Cert.UpPoolXRefIdeal.τ) (Cert.UpPoolXRefIdeal.main (F := Ideal))) ⟨m, fun _ => 0, g⟩ (fun r => (∀ c : Dev Cert.UpPoolXRefIdeal.nD,
      r.2.mem ((c.tc : Thread Cert.UpPoolXRefIdeal.nD Cert.UpPoolXRefIdeal.τ).loc Cert.UpPoolXRefIdeal.main_arg0) = m ((c.tc : Thread Cert.UpPoolXRefIdeal.nD Cert.UpPoolXRefIdeal.τ).loc Cert.UpPoolXRefIdeal.main_arg0)
      ∧ r.2.mem ((c.tc : Thread Cert.UpPoolXRefIdeal.nD Cert.UpPoolXRefIdeal.τ).loc Cert.UpPoolXRefIdeal.main_arg1) = m ((c.tc : Thread Cert.UpPoolXRefIdeal.nD Cert.UpPoolXRefIdeal.τ).loc Cert.UpPoolXRefIdeal.main_arg1))
      ∧ r.2.sem = fun _ => 0)

def quiescent_FfTwoX [hFfTwoX : Cert.FfTwoX.Facts] : Prop :=
  ∀ (m : (ℓ : Loc Cert.FfTwoX.nD Cert.FfTwoX.τ Cert.FfTwoX.sig) → Buf (Elt Bits) ℓ) (g : Dev Cert.FfTwoX.nD → PrngReg), Pre_FfTwoX m →
    θ_run (Cert.FfTwoX.defs (F := Bits)) (onTc (τ := Cert.FfTwoX.τ) (Cert.FfTwoX.main (F := Bits))) ⟨m, fun _ => 0, g⟩ (fun r => (∀ c : Dev Cert.FfTwoX.nD,
      r.2.mem ((c.tc : Thread Cert.FfTwoX.nD Cert.FfTwoX.τ).loc Cert.FfTwoX.main_arg0) = m ((c.tc : Thread Cert.FfTwoX.nD Cert.FfTwoX.τ).loc Cert.FfTwoX.main_arg0)
      ∧ r.2.mem ((c.tc : Thread Cert.FfTwoX.nD Cert.FfTwoX.τ).loc Cert.FfTwoX.main_arg1) = m ((c.tc : Thread Cert.FfTwoX.nD Cert.FfTwoX.τ).loc Cert.FfTwoX.main_arg1)
      ∧ r.2.mem ((c.tc : Thread Cert.FfTwoX.nD Cert.FfTwoX.τ).loc Cert.FfTwoX.main_arg2) = m ((c.tc : Thread Cert.FfTwoX.nD Cert.FfTwoX.τ).loc Cert.FfTwoX.main_arg2))
      ∧ r.2.sem = fun _ => 0)

def quiescent_FfTwoXIdeal [hFfTwoXIdeal : Cert.FfTwoXIdeal.Facts] : Prop :=
  ∀ (m : (ℓ : Loc Cert.FfTwoXIdeal.nD Cert.FfTwoXIdeal.τ Cert.FfTwoXIdeal.sig) → Buf (Elt Ideal) ℓ) (g : Dev Cert.FfTwoXIdeal.nD → PrngReg), Pre_FfTwoXIdeal m →
    θ_run (Cert.FfTwoXIdeal.defs (F := Ideal)) (onTc (τ := Cert.FfTwoXIdeal.τ) (Cert.FfTwoXIdeal.main (F := Ideal))) ⟨m, fun _ => 0, g⟩ (fun r => (∀ c : Dev Cert.FfTwoXIdeal.nD,
      r.2.mem ((c.tc : Thread Cert.FfTwoXIdeal.nD Cert.FfTwoXIdeal.τ).loc Cert.FfTwoXIdeal.main_arg0) = m ((c.tc : Thread Cert.FfTwoXIdeal.nD Cert.FfTwoXIdeal.τ).loc Cert.FfTwoXIdeal.main_arg0)
      ∧ r.2.mem ((c.tc : Thread Cert.FfTwoXIdeal.nD Cert.FfTwoXIdeal.τ).loc Cert.FfTwoXIdeal.main_arg1) = m ((c.tc : Thread Cert.FfTwoXIdeal.nD Cert.FfTwoXIdeal.τ).loc Cert.FfTwoXIdeal.main_arg1)
      ∧ r.2.mem ((c.tc : Thread Cert.FfTwoXIdeal.nD Cert.FfTwoXIdeal.τ).loc Cert.FfTwoXIdeal.main_arg2) = m ((c.tc : Thread Cert.FfTwoXIdeal.nD Cert.FfTwoXIdeal.τ).loc Cert.FfTwoXIdeal.main_arg2))
      ∧ r.2.sem = fun _ => 0)

def quiescent_FfTwoXRefIdeal [hFfTwoXRefIdeal : Cert.FfTwoXRefIdeal.Facts] : Prop :=
  ∀ (m : (ℓ : Loc Cert.FfTwoXRefIdeal.nD Cert.FfTwoXRefIdeal.τ Cert.FfTwoXRefIdeal.sig) → Buf (Elt Ideal) ℓ) (g : Dev Cert.FfTwoXRefIdeal.nD → PrngReg), Pre_FfTwoXRefIdeal m →
    θ_run (Cert.FfTwoXRefIdeal.defs (F := Ideal)) (onTc (τ := Cert.FfTwoXRefIdeal.τ) (Cert.FfTwoXRefIdeal.main (F := Ideal))) ⟨m, fun _ => 0, g⟩ (fun r => (∀ c : Dev Cert.FfTwoXRefIdeal.nD,
      r.2.mem ((c.tc : Thread Cert.FfTwoXRefIdeal.nD Cert.FfTwoXRefIdeal.τ).loc Cert.FfTwoXRefIdeal.main_arg0) = m ((c.tc : Thread Cert.FfTwoXRefIdeal.nD Cert.FfTwoXRefIdeal.τ).loc Cert.FfTwoXRefIdeal.main_arg0)
      ∧ r.2.mem ((c.tc : Thread Cert.FfTwoXRefIdeal.nD Cert.FfTwoXRefIdeal.τ).loc Cert.FfTwoXRefIdeal.main_arg1) = m ((c.tc : Thread Cert.FfTwoXRefIdeal.nD Cert.FfTwoXRefIdeal.τ).loc Cert.FfTwoXRefIdeal.main_arg1)
      ∧ r.2.mem ((c.tc : Thread Cert.FfTwoXRefIdeal.nD Cert.FfTwoXRefIdeal.τ).loc Cert.FfTwoXRefIdeal.main_arg2) = m ((c.tc : Thread Cert.FfTwoXRefIdeal.nD Cert.FfTwoXRefIdeal.τ).loc Cert.FfTwoXRefIdeal.main_arg2))
      ∧ r.2.sem = fun _ => 0)

def quiescent_FfOneX [hFfOneX : Cert.FfOneX.Facts] : Prop :=
  ∀ (m : (ℓ : Loc Cert.FfOneX.nD Cert.FfOneX.τ Cert.FfOneX.sig) → Buf (Elt Bits) ℓ) (g : Dev Cert.FfOneX.nD → PrngReg), Pre_FfOneX m →
    θ_run (Cert.FfOneX.defs (F := Bits)) (onTc (τ := Cert.FfOneX.τ) (Cert.FfOneX.main (F := Bits))) ⟨m, fun _ => 0, g⟩ (fun r => (∀ c : Dev Cert.FfOneX.nD,
      r.2.mem ((c.tc : Thread Cert.FfOneX.nD Cert.FfOneX.τ).loc Cert.FfOneX.main_arg0) = m ((c.tc : Thread Cert.FfOneX.nD Cert.FfOneX.τ).loc Cert.FfOneX.main_arg0)
      ∧ r.2.mem ((c.tc : Thread Cert.FfOneX.nD Cert.FfOneX.τ).loc Cert.FfOneX.main_arg1) = m ((c.tc : Thread Cert.FfOneX.nD Cert.FfOneX.τ).loc Cert.FfOneX.main_arg1))
      ∧ r.2.sem = fun _ => 0)

def quiescent_FfOneXIdeal [hFfOneXIdeal : Cert.FfOneXIdeal.Facts] : Prop :=
  ∀ (m : (ℓ : Loc Cert.FfOneXIdeal.nD Cert.FfOneXIdeal.τ Cert.FfOneXIdeal.sig) → Buf (Elt Ideal) ℓ) (g : Dev Cert.FfOneXIdeal.nD → PrngReg), Pre_FfOneXIdeal m →
    θ_run (Cert.FfOneXIdeal.defs (F := Ideal)) (onTc (τ := Cert.FfOneXIdeal.τ) (Cert.FfOneXIdeal.main (F := Ideal))) ⟨m, fun _ => 0, g⟩ (fun r => (∀ c : Dev Cert.FfOneXIdeal.nD,
      r.2.mem ((c.tc : Thread Cert.FfOneXIdeal.nD Cert.FfOneXIdeal.τ).loc Cert.FfOneXIdeal.main_arg0) = m ((c.tc : Thread Cert.FfOneXIdeal.nD Cert.FfOneXIdeal.τ).loc Cert.FfOneXIdeal.main_arg0)
      ∧ r.2.mem ((c.tc : Thread Cert.FfOneXIdeal.nD Cert.FfOneXIdeal.τ).loc Cert.FfOneXIdeal.main_arg1) = m ((c.tc : Thread Cert.FfOneXIdeal.nD Cert.FfOneXIdeal.τ).loc Cert.FfOneXIdeal.main_arg1))
      ∧ r.2.sem = fun _ => 0)

def quiescent_FfOneXRefIdeal [hFfOneXRefIdeal : Cert.FfOneXRefIdeal.Facts] : Prop :=
  ∀ (m : (ℓ : Loc Cert.FfOneXRefIdeal.nD Cert.FfOneXRefIdeal.τ Cert.FfOneXRefIdeal.sig) → Buf (Elt Ideal) ℓ) (g : Dev Cert.FfOneXRefIdeal.nD → PrngReg), Pre_FfOneXRefIdeal m →
    θ_run (Cert.FfOneXRefIdeal.defs (F := Ideal)) (onTc (τ := Cert.FfOneXRefIdeal.τ) (Cert.FfOneXRefIdeal.main (F := Ideal))) ⟨m, fun _ => 0, g⟩ (fun r => (∀ c : Dev Cert.FfOneXRefIdeal.nD,
      r.2.mem ((c.tc : Thread Cert.FfOneXRefIdeal.nD Cert.FfOneXRefIdeal.τ).loc Cert.FfOneXRefIdeal.main_arg0) = m ((c.tc : Thread Cert.FfOneXRefIdeal.nD Cert.FfOneXRefIdeal.τ).loc Cert.FfOneXRefIdeal.main_arg0)
      ∧ r.2.mem ((c.tc : Thread Cert.FfOneXRefIdeal.nD Cert.FfOneXRefIdeal.τ).loc Cert.FfOneXRefIdeal.main_arg1) = m ((c.tc : Thread Cert.FfOneXRefIdeal.nD Cert.FfOneXRefIdeal.τ).loc Cert.FfOneXRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_GatesF [hGatesF : Cert.GatesF.Facts] : Prop :=
  ∀ (m : (ℓ : Loc Cert.GatesF.nD Cert.GatesF.τ Cert.GatesF.sig) → Buf (Elt Bits) ℓ) (g : Dev Cert.GatesF.nD → PrngReg), Pre_GatesF m →
    θ_run (Cert.GatesF.defs (F := Bits)) (onTc (τ := Cert.GatesF.τ) (Cert.GatesF.main (F := Bits))) ⟨m, fun _ => 0, g⟩ (fun r => (∀ c : Dev Cert.GatesF.nD,
      r.2.mem ((c.tc : Thread Cert.GatesF.nD Cert.GatesF.τ).loc Cert.GatesF.main_arg0) = m ((c.tc : Thread Cert.GatesF.nD Cert.GatesF.τ).loc Cert.GatesF.main_arg0)
      ∧ r.2.mem ((c.tc : Thread Cert.GatesF.nD Cert.GatesF.τ).loc Cert.GatesF.main_arg1) = m ((c.tc : Thread Cert.GatesF.nD Cert.GatesF.τ).loc Cert.GatesF.main_arg1))
      ∧ r.2.sem = fun _ => 0)

def quiescent_GatesFIdeal [hGatesFIdeal : Cert.GatesFIdeal.Facts] : Prop :=
  ∀ (m : (ℓ : Loc Cert.GatesFIdeal.nD Cert.GatesFIdeal.τ Cert.GatesFIdeal.sig) → Buf (Elt Ideal) ℓ) (g : Dev Cert.GatesFIdeal.nD → PrngReg), Pre_GatesFIdeal m →
    θ_run (Cert.GatesFIdeal.defs (F := Ideal)) (onTc (τ := Cert.GatesFIdeal.τ) (Cert.GatesFIdeal.main (F := Ideal))) ⟨m, fun _ => 0, g⟩ (fun r => (∀ c : Dev Cert.GatesFIdeal.nD,
      r.2.mem ((c.tc : Thread Cert.GatesFIdeal.nD Cert.GatesFIdeal.τ).loc Cert.GatesFIdeal.main_arg0) = m ((c.tc : Thread Cert.GatesFIdeal.nD Cert.GatesFIdeal.τ).loc Cert.GatesFIdeal.main_arg0)
      ∧ r.2.mem ((c.tc : Thread Cert.GatesFIdeal.nD Cert.GatesFIdeal.τ).loc Cert.GatesFIdeal.main_arg1) = m ((c.tc : Thread Cert.GatesFIdeal.nD Cert.GatesFIdeal.τ).loc Cert.GatesFIdeal.main_arg1))
      ∧ r.2.sem = fun _ => 0)

def quiescent_GatesFRefIdeal [hGatesFRefIdeal : Cert.GatesFRefIdeal.Facts] : Prop :=
  ∀ (m : (ℓ : Loc Cert.GatesFRefIdeal.nD Cert.GatesFRefIdeal.τ Cert.GatesFRefIdeal.sig) → Buf (Elt Ideal) ℓ) (g : Dev Cert.GatesFRefIdeal.nD → PrngReg), Pre_GatesFRefIdeal m →
    θ_run (Cert.GatesFRefIdeal.defs (F := Ideal)) (onTc (τ := Cert.GatesFRefIdeal.τ) (Cert.GatesFRefIdeal.main (F := Ideal))) ⟨m, fun _ => 0, g⟩ (fun r => (∀ c : Dev Cert.GatesFRefIdeal.nD,
      r.2.mem ((c.tc : Thread Cert.GatesFRefIdeal.nD Cert.GatesFRefIdeal.τ).loc Cert.GatesFRefIdeal.main_arg0) = m ((c.tc : Thread Cert.GatesFRefIdeal.nD Cert.GatesFRefIdeal.τ).loc Cert.GatesFRefIdeal.main_arg0)
      ∧ r.2.mem ((c.tc : Thread Cert.GatesFRefIdeal.nD Cert.GatesFRefIdeal.τ).loc Cert.GatesFRefIdeal.main_arg1) = m ((c.tc : Thread Cert.GatesFRefIdeal.nD Cert.GatesFRefIdeal.τ).loc Cert.GatesFRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_UpPoolF [hUpPoolF : Cert.UpPoolF.Facts] : Prop :=
  ∀ (m : (ℓ : Loc Cert.UpPoolF.nD Cert.UpPoolF.τ Cert.UpPoolF.sig) → Buf (Elt Bits) ℓ) (g : Dev Cert.UpPoolF.nD → PrngReg), Pre_UpPoolF m →
    θ_run (Cert.UpPoolF.defs (F := Bits)) (onTc (τ := Cert.UpPoolF.τ) (Cert.UpPoolF.main (F := Bits))) ⟨m, fun _ => 0, g⟩ (fun r => (∀ c : Dev Cert.UpPoolF.nD,
      r.2.mem ((c.tc : Thread Cert.UpPoolF.nD Cert.UpPoolF.τ).loc Cert.UpPoolF.main_arg0) = m ((c.tc : Thread Cert.UpPoolF.nD Cert.UpPoolF.τ).loc Cert.UpPoolF.main_arg0)
      ∧ r.2.mem ((c.tc : Thread Cert.UpPoolF.nD Cert.UpPoolF.τ).loc Cert.UpPoolF.main_arg1) = m ((c.tc : Thread Cert.UpPoolF.nD Cert.UpPoolF.τ).loc Cert.UpPoolF.main_arg1))
      ∧ r.2.sem = fun _ => 0)

def quiescent_UpPoolFIdeal [hUpPoolFIdeal : Cert.UpPoolFIdeal.Facts] : Prop :=
  ∀ (m : (ℓ : Loc Cert.UpPoolFIdeal.nD Cert.UpPoolFIdeal.τ Cert.UpPoolFIdeal.sig) → Buf (Elt Ideal) ℓ) (g : Dev Cert.UpPoolFIdeal.nD → PrngReg), Pre_UpPoolFIdeal m →
    θ_run (Cert.UpPoolFIdeal.defs (F := Ideal)) (onTc (τ := Cert.UpPoolFIdeal.τ) (Cert.UpPoolFIdeal.main (F := Ideal))) ⟨m, fun _ => 0, g⟩ (fun r => (∀ c : Dev Cert.UpPoolFIdeal.nD,
      r.2.mem ((c.tc : Thread Cert.UpPoolFIdeal.nD Cert.UpPoolFIdeal.τ).loc Cert.UpPoolFIdeal.main_arg0) = m ((c.tc : Thread Cert.UpPoolFIdeal.nD Cert.UpPoolFIdeal.τ).loc Cert.UpPoolFIdeal.main_arg0)
      ∧ r.2.mem ((c.tc : Thread Cert.UpPoolFIdeal.nD Cert.UpPoolFIdeal.τ).loc Cert.UpPoolFIdeal.main_arg1) = m ((c.tc : Thread Cert.UpPoolFIdeal.nD Cert.UpPoolFIdeal.τ).loc Cert.UpPoolFIdeal.main_arg1))
      ∧ r.2.sem = fun _ => 0)

def quiescent_UpPoolFRefIdeal [hUpPoolFRefIdeal : Cert.UpPoolFRefIdeal.Facts] : Prop :=
  ∀ (m : (ℓ : Loc Cert.UpPoolFRefIdeal.nD Cert.UpPoolFRefIdeal.τ Cert.UpPoolFRefIdeal.sig) → Buf (Elt Ideal) ℓ) (g : Dev Cert.UpPoolFRefIdeal.nD → PrngReg), Pre_UpPoolFRefIdeal m →
    θ_run (Cert.UpPoolFRefIdeal.defs (F := Ideal)) (onTc (τ := Cert.UpPoolFRefIdeal.τ) (Cert.UpPoolFRefIdeal.main (F := Ideal))) ⟨m, fun _ => 0, g⟩ (fun r => (∀ c : Dev Cert.UpPoolFRefIdeal.nD,
      r.2.mem ((c.tc : Thread Cert.UpPoolFRefIdeal.nD Cert.UpPoolFRefIdeal.τ).loc Cert.UpPoolFRefIdeal.main_arg0) = m ((c.tc : Thread Cert.UpPoolFRefIdeal.nD Cert.UpPoolFRefIdeal.τ).loc Cert.UpPoolFRefIdeal.main_arg0)
      ∧ r.2.mem ((c.tc : Thread Cert.UpPoolFRefIdeal.nD Cert.UpPoolFRefIdeal.τ).loc Cert.UpPoolFRefIdeal.main_arg1) = m ((c.tc : Thread Cert.UpPoolFRefIdeal.nD Cert.UpPoolFRefIdeal.τ).loc Cert.UpPoolFRefIdeal.main_arg1))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2))
      ∧ r.2.sem = fun _ => 0)

def quiescent_FfOneF [hFfOneF : Cert.FfOneF.Facts] : Prop :=
  ∀ (m : (ℓ : Loc Cert.FfOneF.nD Cert.FfOneF.τ Cert.FfOneF.sig) → Buf (Elt Bits) ℓ) (g : Dev Cert.FfOneF.nD → PrngReg), Pre_FfOneF m →
    θ_run (Cert.FfOneF.defs (F := Bits)) (onTc (τ := Cert.FfOneF.τ) (Cert.FfOneF.main (F := Bits))) ⟨m, fun _ => 0, g⟩ (fun r => (∀ c : Dev Cert.FfOneF.nD,
      r.2.mem ((c.tc : Thread Cert.FfOneF.nD Cert.FfOneF.τ).loc Cert.FfOneF.main_arg0) = m ((c.tc : Thread Cert.FfOneF.nD Cert.FfOneF.τ).loc Cert.FfOneF.main_arg0)
      ∧ r.2.mem ((c.tc : Thread Cert.FfOneF.nD Cert.FfOneF.τ).loc Cert.FfOneF.main_arg1) = m ((c.tc : Thread Cert.FfOneF.nD Cert.FfOneF.τ).loc Cert.FfOneF.main_arg1))
      ∧ r.2.sem = fun _ => 0)

def quiescent_FfOneFIdeal [hFfOneFIdeal : Cert.FfOneFIdeal.Facts] : Prop :=
  ∀ (m : (ℓ : Loc Cert.FfOneFIdeal.nD Cert.FfOneFIdeal.τ Cert.FfOneFIdeal.sig) → Buf (Elt Ideal) ℓ) (g : Dev Cert.FfOneFIdeal.nD → PrngReg), Pre_FfOneFIdeal m →
    θ_run (Cert.FfOneFIdeal.defs (F := Ideal)) (onTc (τ := Cert.FfOneFIdeal.τ) (Cert.FfOneFIdeal.main (F := Ideal))) ⟨m, fun _ => 0, g⟩ (fun r => (∀ c : Dev Cert.FfOneFIdeal.nD,
      r.2.mem ((c.tc : Thread Cert.FfOneFIdeal.nD Cert.FfOneFIdeal.τ).loc Cert.FfOneFIdeal.main_arg0) = m ((c.tc : Thread Cert.FfOneFIdeal.nD Cert.FfOneFIdeal.τ).loc Cert.FfOneFIdeal.main_arg0)
      ∧ r.2.mem ((c.tc : Thread Cert.FfOneFIdeal.nD Cert.FfOneFIdeal.τ).loc Cert.FfOneFIdeal.main_arg1) = m ((c.tc : Thread Cert.FfOneFIdeal.nD Cert.FfOneFIdeal.τ).loc Cert.FfOneFIdeal.main_arg1))
      ∧ r.2.sem = fun _ => 0)

def quiescent_FfOneFRefIdeal [hFfOneFRefIdeal : Cert.FfOneFRefIdeal.Facts] : Prop :=
  ∀ (m : (ℓ : Loc Cert.FfOneFRefIdeal.nD Cert.FfOneFRefIdeal.τ Cert.FfOneFRefIdeal.sig) → Buf (Elt Ideal) ℓ) (g : Dev Cert.FfOneFRefIdeal.nD → PrngReg), Pre_FfOneFRefIdeal m →
    θ_run (Cert.FfOneFRefIdeal.defs (F := Ideal)) (onTc (τ := Cert.FfOneFRefIdeal.τ) (Cert.FfOneFRefIdeal.main (F := Ideal))) ⟨m, fun _ => 0, g⟩ (fun r => (∀ c : Dev Cert.FfOneFRefIdeal.nD,
      r.2.mem ((c.tc : Thread Cert.FfOneFRefIdeal.nD Cert.FfOneFRefIdeal.τ).loc Cert.FfOneFRefIdeal.main_arg0) = m ((c.tc : Thread Cert.FfOneFRefIdeal.nD Cert.FfOneFRefIdeal.τ).loc Cert.FfOneFRefIdeal.main_arg0)
      ∧ r.2.mem ((c.tc : Thread Cert.FfOneFRefIdeal.nD Cert.FfOneFRefIdeal.τ).loc Cert.FfOneFRefIdeal.main_arg1) = m ((c.tc : Thread Cert.FfOneFRefIdeal.nD Cert.FfOneFRefIdeal.τ).loc Cert.FfOneFRefIdeal.main_arg1))
      ∧ r.2.sem = fun _ => 0)

def quiescent_FfTwoF [hFfTwoF : Cert.FfTwoF.Facts] : Prop :=
  ∀ (m : (ℓ : Loc Cert.FfTwoF.nD Cert.FfTwoF.τ Cert.FfTwoF.sig) → Buf (Elt Bits) ℓ) (g : Dev Cert.FfTwoF.nD → PrngReg), Pre_FfTwoF m →
    θ_run (Cert.FfTwoF.defs (F := Bits)) (onTc (τ := Cert.FfTwoF.τ) (Cert.FfTwoF.main (F := Bits))) ⟨m, fun _ => 0, g⟩ (fun r => (∀ c : Dev Cert.FfTwoF.nD,
      r.2.mem ((c.tc : Thread Cert.FfTwoF.nD Cert.FfTwoF.τ).loc Cert.FfTwoF.main_arg0) = m ((c.tc : Thread Cert.FfTwoF.nD Cert.FfTwoF.τ).loc Cert.FfTwoF.main_arg0)
      ∧ r.2.mem ((c.tc : Thread Cert.FfTwoF.nD Cert.FfTwoF.τ).loc Cert.FfTwoF.main_arg1) = m ((c.tc : Thread Cert.FfTwoF.nD Cert.FfTwoF.τ).loc Cert.FfTwoF.main_arg1)
      ∧ r.2.mem ((c.tc : Thread Cert.FfTwoF.nD Cert.FfTwoF.τ).loc Cert.FfTwoF.main_arg2) = m ((c.tc : Thread Cert.FfTwoF.nD Cert.FfTwoF.τ).loc Cert.FfTwoF.main_arg2))
      ∧ r.2.sem = fun _ => 0)

def quiescent_FfTwoFIdeal [hFfTwoFIdeal : Cert.FfTwoFIdeal.Facts] : Prop :=
  ∀ (m : (ℓ : Loc Cert.FfTwoFIdeal.nD Cert.FfTwoFIdeal.τ Cert.FfTwoFIdeal.sig) → Buf (Elt Ideal) ℓ) (g : Dev Cert.FfTwoFIdeal.nD → PrngReg), Pre_FfTwoFIdeal m →
    θ_run (Cert.FfTwoFIdeal.defs (F := Ideal)) (onTc (τ := Cert.FfTwoFIdeal.τ) (Cert.FfTwoFIdeal.main (F := Ideal))) ⟨m, fun _ => 0, g⟩ (fun r => (∀ c : Dev Cert.FfTwoFIdeal.nD,
      r.2.mem ((c.tc : Thread Cert.FfTwoFIdeal.nD Cert.FfTwoFIdeal.τ).loc Cert.FfTwoFIdeal.main_arg0) = m ((c.tc : Thread Cert.FfTwoFIdeal.nD Cert.FfTwoFIdeal.τ).loc Cert.FfTwoFIdeal.main_arg0)
      ∧ r.2.mem ((c.tc : Thread Cert.FfTwoFIdeal.nD Cert.FfTwoFIdeal.τ).loc Cert.FfTwoFIdeal.main_arg1) = m ((c.tc : Thread Cert.FfTwoFIdeal.nD Cert.FfTwoFIdeal.τ).loc Cert.FfTwoFIdeal.main_arg1)
      ∧ r.2.mem ((c.tc : Thread Cert.FfTwoFIdeal.nD Cert.FfTwoFIdeal.τ).loc Cert.FfTwoFIdeal.main_arg2) = m ((c.tc : Thread Cert.FfTwoFIdeal.nD Cert.FfTwoFIdeal.τ).loc Cert.FfTwoFIdeal.main_arg2))
      ∧ r.2.sem = fun _ => 0)

def quiescent_FfTwoFRefIdeal [hFfTwoFRefIdeal : Cert.FfTwoFRefIdeal.Facts] : Prop :=
  ∀ (m : (ℓ : Loc Cert.FfTwoFRefIdeal.nD Cert.FfTwoFRefIdeal.τ Cert.FfTwoFRefIdeal.sig) → Buf (Elt Ideal) ℓ) (g : Dev Cert.FfTwoFRefIdeal.nD → PrngReg), Pre_FfTwoFRefIdeal m →
    θ_run (Cert.FfTwoFRefIdeal.defs (F := Ideal)) (onTc (τ := Cert.FfTwoFRefIdeal.τ) (Cert.FfTwoFRefIdeal.main (F := Ideal))) ⟨m, fun _ => 0, g⟩ (fun r => (∀ c : Dev Cert.FfTwoFRefIdeal.nD,
      r.2.mem ((c.tc : Thread Cert.FfTwoFRefIdeal.nD Cert.FfTwoFRefIdeal.τ).loc Cert.FfTwoFRefIdeal.main_arg0) = m ((c.tc : Thread Cert.FfTwoFRefIdeal.nD Cert.FfTwoFRefIdeal.τ).loc Cert.FfTwoFRefIdeal.main_arg0)
      ∧ r.2.mem ((c.tc : Thread Cert.FfTwoFRefIdeal.nD Cert.FfTwoFRefIdeal.τ).loc Cert.FfTwoFRefIdeal.main_arg1) = m ((c.tc : Thread Cert.FfTwoFRefIdeal.nD Cert.FfTwoFRefIdeal.τ).loc Cert.FfTwoFRefIdeal.main_arg1)
      ∧ r.2.mem ((c.tc : Thread Cert.FfTwoFRefIdeal.nD Cert.FfTwoFRefIdeal.τ).loc Cert.FfTwoFRefIdeal.main_arg2) = m ((c.tc : Thread Cert.FfTwoFRefIdeal.nD Cert.FfTwoFRefIdeal.τ).loc Cert.FfTwoFRefIdeal.main_arg2))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_GdnOutB [hGdnOutB : Cert.GdnOutB.Facts] : Prop :=
  ∀ (m : (ℓ : Loc Cert.GdnOutB.nD Cert.GdnOutB.τ Cert.GdnOutB.sig) → Buf (Elt Bits) ℓ) (g : Dev Cert.GdnOutB.nD → PrngReg), Pre_GdnOutB m →
    θ_run (Cert.GdnOutB.defs (F := Bits)) (onTc (τ := Cert.GdnOutB.τ) (Cert.GdnOutB.main (F := Bits))) ⟨m, fun _ => 0, g⟩ (fun r => (∀ c : Dev Cert.GdnOutB.nD,
      r.2.mem ((c.tc : Thread Cert.GdnOutB.nD Cert.GdnOutB.τ).loc Cert.GdnOutB.main_arg0) = m ((c.tc : Thread Cert.GdnOutB.nD Cert.GdnOutB.τ).loc Cert.GdnOutB.main_arg0)
      ∧ r.2.mem ((c.tc : Thread Cert.GdnOutB.nD Cert.GdnOutB.τ).loc Cert.GdnOutB.main_arg1) = m ((c.tc : Thread Cert.GdnOutB.nD Cert.GdnOutB.τ).loc Cert.GdnOutB.main_arg1)
      ∧ r.2.mem ((c.tc : Thread Cert.GdnOutB.nD Cert.GdnOutB.τ).loc Cert.GdnOutB.main_arg2) = m ((c.tc : Thread Cert.GdnOutB.nD Cert.GdnOutB.τ).loc Cert.GdnOutB.main_arg2)
      ∧ r.2.mem ((c.tc : Thread Cert.GdnOutB.nD Cert.GdnOutB.τ).loc Cert.GdnOutB.main_arg3) = m ((c.tc : Thread Cert.GdnOutB.nD Cert.GdnOutB.τ).loc Cert.GdnOutB.main_arg3))
      ∧ r.2.sem = fun _ => 0)

def quiescent_GdnOutBIdeal [hGdnOutBIdeal : Cert.GdnOutBIdeal.Facts] : Prop :=
  ∀ (m : (ℓ : Loc Cert.GdnOutBIdeal.nD Cert.GdnOutBIdeal.τ Cert.GdnOutBIdeal.sig) → Buf (Elt Ideal) ℓ) (g : Dev Cert.GdnOutBIdeal.nD → PrngReg), Pre_GdnOutBIdeal m →
    θ_run (Cert.GdnOutBIdeal.defs (F := Ideal)) (onTc (τ := Cert.GdnOutBIdeal.τ) (Cert.GdnOutBIdeal.main (F := Ideal))) ⟨m, fun _ => 0, g⟩ (fun r => (∀ c : Dev Cert.GdnOutBIdeal.nD,
      r.2.mem ((c.tc : Thread Cert.GdnOutBIdeal.nD Cert.GdnOutBIdeal.τ).loc Cert.GdnOutBIdeal.main_arg0) = m ((c.tc : Thread Cert.GdnOutBIdeal.nD Cert.GdnOutBIdeal.τ).loc Cert.GdnOutBIdeal.main_arg0)
      ∧ r.2.mem ((c.tc : Thread Cert.GdnOutBIdeal.nD Cert.GdnOutBIdeal.τ).loc Cert.GdnOutBIdeal.main_arg1) = m ((c.tc : Thread Cert.GdnOutBIdeal.nD Cert.GdnOutBIdeal.τ).loc Cert.GdnOutBIdeal.main_arg1)
      ∧ r.2.mem ((c.tc : Thread Cert.GdnOutBIdeal.nD Cert.GdnOutBIdeal.τ).loc Cert.GdnOutBIdeal.main_arg2) = m ((c.tc : Thread Cert.GdnOutBIdeal.nD Cert.GdnOutBIdeal.τ).loc Cert.GdnOutBIdeal.main_arg2)
      ∧ r.2.mem ((c.tc : Thread Cert.GdnOutBIdeal.nD Cert.GdnOutBIdeal.τ).loc Cert.GdnOutBIdeal.main_arg3) = m ((c.tc : Thread Cert.GdnOutBIdeal.nD Cert.GdnOutBIdeal.τ).loc Cert.GdnOutBIdeal.main_arg3))
      ∧ r.2.sem = fun _ => 0)

def quiescent_GdnOutBRefIdeal [hGdnOutBRefIdeal : Cert.GdnOutBRefIdeal.Facts] : Prop :=
  ∀ (m : (ℓ : Loc Cert.GdnOutBRefIdeal.nD Cert.GdnOutBRefIdeal.τ Cert.GdnOutBRefIdeal.sig) → Buf (Elt Ideal) ℓ) (g : Dev Cert.GdnOutBRefIdeal.nD → PrngReg), Pre_GdnOutBRefIdeal m →
    θ_run (Cert.GdnOutBRefIdeal.defs (F := Ideal)) (onTc (τ := Cert.GdnOutBRefIdeal.τ) (Cert.GdnOutBRefIdeal.main (F := Ideal))) ⟨m, fun _ => 0, g⟩ (fun r => (∀ c : Dev Cert.GdnOutBRefIdeal.nD,
      r.2.mem ((c.tc : Thread Cert.GdnOutBRefIdeal.nD Cert.GdnOutBRefIdeal.τ).loc Cert.GdnOutBRefIdeal.main_arg0) = m ((c.tc : Thread Cert.GdnOutBRefIdeal.nD Cert.GdnOutBRefIdeal.τ).loc Cert.GdnOutBRefIdeal.main_arg0)
      ∧ r.2.mem ((c.tc : Thread Cert.GdnOutBRefIdeal.nD Cert.GdnOutBRefIdeal.τ).loc Cert.GdnOutBRefIdeal.main_arg1) = m ((c.tc : Thread Cert.GdnOutBRefIdeal.nD Cert.GdnOutBRefIdeal.τ).loc Cert.GdnOutBRefIdeal.main_arg1)
      ∧ r.2.mem ((c.tc : Thread Cert.GdnOutBRefIdeal.nD Cert.GdnOutBRefIdeal.τ).loc Cert.GdnOutBRefIdeal.main_arg2) = m ((c.tc : Thread Cert.GdnOutBRefIdeal.nD Cert.GdnOutBRefIdeal.τ).loc Cert.GdnOutBRefIdeal.main_arg2)
      ∧ r.2.mem ((c.tc : Thread Cert.GdnOutBRefIdeal.nD Cert.GdnOutBRefIdeal.τ).loc Cert.GdnOutBRefIdeal.main_arg3) = m ((c.tc : Thread Cert.GdnOutBRefIdeal.nD Cert.GdnOutBRefIdeal.τ).loc Cert.GdnOutBRefIdeal.main_arg3))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_GdnOutF [hGdnOutF : Cert.GdnOutF.Facts] : Prop :=
  ∀ (m : (ℓ : Loc Cert.GdnOutF.nD Cert.GdnOutF.τ Cert.GdnOutF.sig) → Buf (Elt Bits) ℓ) (g : Dev Cert.GdnOutF.nD → PrngReg), Pre_GdnOutF m →
    θ_run (Cert.GdnOutF.defs (F := Bits)) (onTc (τ := Cert.GdnOutF.τ) (Cert.GdnOutF.main (F := Bits))) ⟨m, fun _ => 0, g⟩ (fun r => (∀ c : Dev Cert.GdnOutF.nD,
      r.2.mem ((c.tc : Thread Cert.GdnOutF.nD Cert.GdnOutF.τ).loc Cert.GdnOutF.main_arg0) = m ((c.tc : Thread Cert.GdnOutF.nD Cert.GdnOutF.τ).loc Cert.GdnOutF.main_arg0)
      ∧ r.2.mem ((c.tc : Thread Cert.GdnOutF.nD Cert.GdnOutF.τ).loc Cert.GdnOutF.main_arg1) = m ((c.tc : Thread Cert.GdnOutF.nD Cert.GdnOutF.τ).loc Cert.GdnOutF.main_arg1)
      ∧ r.2.mem ((c.tc : Thread Cert.GdnOutF.nD Cert.GdnOutF.τ).loc Cert.GdnOutF.main_arg2) = m ((c.tc : Thread Cert.GdnOutF.nD Cert.GdnOutF.τ).loc Cert.GdnOutF.main_arg2))
      ∧ r.2.sem = fun _ => 0)

def quiescent_GdnOutFIdeal [hGdnOutFIdeal : Cert.GdnOutFIdeal.Facts] : Prop :=
  ∀ (m : (ℓ : Loc Cert.GdnOutFIdeal.nD Cert.GdnOutFIdeal.τ Cert.GdnOutFIdeal.sig) → Buf (Elt Ideal) ℓ) (g : Dev Cert.GdnOutFIdeal.nD → PrngReg), Pre_GdnOutFIdeal m →
    θ_run (Cert.GdnOutFIdeal.defs (F := Ideal)) (onTc (τ := Cert.GdnOutFIdeal.τ) (Cert.GdnOutFIdeal.main (F := Ideal))) ⟨m, fun _ => 0, g⟩ (fun r => (∀ c : Dev Cert.GdnOutFIdeal.nD,
      r.2.mem ((c.tc : Thread Cert.GdnOutFIdeal.nD Cert.GdnOutFIdeal.τ).loc Cert.GdnOutFIdeal.main_arg0) = m ((c.tc : Thread Cert.GdnOutFIdeal.nD Cert.GdnOutFIdeal.τ).loc Cert.GdnOutFIdeal.main_arg0)
      ∧ r.2.mem ((c.tc : Thread Cert.GdnOutFIdeal.nD Cert.GdnOutFIdeal.τ).loc Cert.GdnOutFIdeal.main_arg1) = m ((c.tc : Thread Cert.GdnOutFIdeal.nD Cert.GdnOutFIdeal.τ).loc Cert.GdnOutFIdeal.main_arg1)
      ∧ r.2.mem ((c.tc : Thread Cert.GdnOutFIdeal.nD Cert.GdnOutFIdeal.τ).loc Cert.GdnOutFIdeal.main_arg2) = m ((c.tc : Thread Cert.GdnOutFIdeal.nD Cert.GdnOutFIdeal.τ).loc Cert.GdnOutFIdeal.main_arg2))
      ∧ r.2.sem = fun _ => 0)

def quiescent_GdnOutFRefIdeal [hGdnOutFRefIdeal : Cert.GdnOutFRefIdeal.Facts] : Prop :=
  ∀ (m : (ℓ : Loc Cert.GdnOutFRefIdeal.nD Cert.GdnOutFRefIdeal.τ Cert.GdnOutFRefIdeal.sig) → Buf (Elt Ideal) ℓ) (g : Dev Cert.GdnOutFRefIdeal.nD → PrngReg), Pre_GdnOutFRefIdeal m →
    θ_run (Cert.GdnOutFRefIdeal.defs (F := Ideal)) (onTc (τ := Cert.GdnOutFRefIdeal.τ) (Cert.GdnOutFRefIdeal.main (F := Ideal))) ⟨m, fun _ => 0, g⟩ (fun r => (∀ c : Dev Cert.GdnOutFRefIdeal.nD,
      r.2.mem ((c.tc : Thread Cert.GdnOutFRefIdeal.nD Cert.GdnOutFRefIdeal.τ).loc Cert.GdnOutFRefIdeal.main_arg0) = m ((c.tc : Thread Cert.GdnOutFRefIdeal.nD Cert.GdnOutFRefIdeal.τ).loc Cert.GdnOutFRefIdeal.main_arg0)
      ∧ r.2.mem ((c.tc : Thread Cert.GdnOutFRefIdeal.nD Cert.GdnOutFRefIdeal.τ).loc Cert.GdnOutFRefIdeal.main_arg1) = m ((c.tc : Thread Cert.GdnOutFRefIdeal.nD Cert.GdnOutFRefIdeal.τ).loc Cert.GdnOutFRefIdeal.main_arg1)
      ∧ r.2.mem ((c.tc : Thread Cert.GdnOutFRefIdeal.nD Cert.GdnOutFRefIdeal.τ).loc Cert.GdnOutFRefIdeal.main_arg2) = m ((c.tc : Thread Cert.GdnOutFRefIdeal.nD Cert.GdnOutFRefIdeal.τ).loc Cert.GdnOutFRefIdeal.main_arg2))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBIdeal_pre_finite_cotangent [hConvBIdeal : Cert.ConvBIdeal.Facts] [hPre_finite_cotangent : Cert.Pre_finite_cotangent.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal_finite_cotangent m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2))
      ∧ r.2.sem = fun _ => 0)

def quiescent_ConvBRefIdeal_pre_finite_cotangent [hConvBRefIdeal : Cert.ConvBRefIdeal.Facts] [hPre_finite_cotangent : Cert.Pre_finite_cotangent.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal_finite_cotangent m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_v31) = v1 c
          ∧ r.2.mem ((c.tc : Thread Cert.MergeRefIdeal.nD Cert.MergeRefIdeal.τ).loc Cert.MergeRefIdeal.main_v32) = v2 c
          ∧ r.2.mem ((c.tc : Thread Cert.MergeRefIdeal.nD Cert.MergeRefIdeal.τ).loc Cert.MergeRefIdeal.main_v33) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Sb_SbIdeal : Prop :=
  True

def preserves_FfTwoW_FfTwoWIdeal : Prop :=
  True

def algebraic_FfTwoWIdeal_FfTwoWRefIdeal [hFfTwoWIdeal : Cert.FfTwoWIdeal.Facts] [hFfTwoWRefIdeal : Cert.FfTwoWRefIdeal.Facts] : Prop :=
  ∀ (m : (ℓ : Loc Cert.FfTwoWIdeal.nD Cert.FfTwoWIdeal.τ Cert.FfTwoWIdeal.sig) → Buf (Elt Ideal) ℓ) (g : Dev Cert.FfTwoWIdeal.nD → PrngReg)
    (m' : (ℓ : Loc Cert.FfTwoWRefIdeal.nD Cert.FfTwoWRefIdeal.τ Cert.FfTwoWRefIdeal.sig) → Buf (Elt Ideal) ℓ) (g' : Dev Cert.FfTwoWRefIdeal.nD → PrngReg), Pre_FfTwoWIdeal m →
    (∀ c : Dev Cert.FfTwoWIdeal.nD,
      m' ((c.tc : Thread Cert.FfTwoWRefIdeal.nD Cert.FfTwoWRefIdeal.τ).loc Cert.FfTwoWRefIdeal.main_arg0) = m ((c.tc : Thread Cert.FfTwoWIdeal.nD Cert.FfTwoWIdeal.τ).loc Cert.FfTwoWIdeal.main_arg0)
      ∧ m' ((c.tc : Thread Cert.FfTwoWRefIdeal.nD Cert.FfTwoWRefIdeal.τ).loc Cert.FfTwoWRefIdeal.main_arg1) = m ((c.tc : Thread Cert.FfTwoWIdeal.nD Cert.FfTwoWIdeal.τ).loc Cert.FfTwoWIdeal.main_arg1)) →
    ∃ (v0 : (c : Dev Cert.FfTwoWIdeal.nD) → Buf (Elt Ideal) ((c.tc : Thread Cert.FfTwoWIdeal.nD Cert.FfTwoWIdeal.τ).loc Cert.FfTwoWIdeal.main_v0)),
      θ_run (Cert.FfTwoWIdeal.defs (F := Ideal)) (onTc (τ := Cert.FfTwoWIdeal.τ) (Cert.FfTwoWIdeal.main (F := Ideal))) ⟨m, fun _ => 0, g⟩ (fun r => ∀ c : Dev Cert.FfTwoWIdeal.nD,
          r.2.mem ((c.tc : Thread Cert.FfTwoWIdeal.nD Cert.FfTwoWIdeal.τ).loc Cert.FfTwoWIdeal.main_v0) = v0 c
          ∧ r.2.mem ((c.tc : Thread Cert.FfTwoWIdeal.nD Cert.FfTwoWIdeal.τ).loc Cert.FfTwoWIdeal.main_arg0) = m ((c.tc : Thread Cert.FfTwoWIdeal.nD Cert.FfTwoWIdeal.τ).loc Cert.FfTwoWIdeal.main_arg0)
          ∧ r.2.mem ((c.tc : Thread Cert.FfTwoWIdeal.nD Cert.FfTwoWIdeal.τ).loc Cert.FfTwoWIdeal.main_arg1) = m ((c.tc : Thread Cert.FfTwoWIdeal.nD Cert.FfTwoWIdeal.τ).loc Cert.FfTwoWIdeal.main_arg1))
      ∧ θ_run (Cert.FfTwoWRefIdeal.defs (F := Ideal)) (onTc (τ := Cert.FfTwoWRefIdeal.τ) (Cert.FfTwoWRefIdeal.main (F := Ideal))) ⟨m', fun _ => 0, g'⟩ (fun r => ∀ c : Dev Cert.FfTwoWRefIdeal.nD,
          r.2.mem ((c.tc : Thread Cert.FfTwoWRefIdeal.nD Cert.FfTwoWRefIdeal.τ).loc Cert.FfTwoWRefIdeal.main_v6) = v0 c
          ∧ r.2.mem ((c.tc : Thread Cert.FfTwoWRefIdeal.nD Cert.FfTwoWRefIdeal.τ).loc Cert.FfTwoWRefIdeal.main_arg0) = m' ((c.tc : Thread Cert.FfTwoWRefIdeal.nD Cert.FfTwoWRefIdeal.τ).loc Cert.FfTwoWRefIdeal.main_arg0)
          ∧ r.2.mem ((c.tc : Thread Cert.FfTwoWRefIdeal.nD Cert.FfTwoWRefIdeal.τ).loc Cert.FfTwoWRefIdeal.main_arg1) = m' ((c.tc : Thread Cert.FfTwoWRefIdeal.nD Cert.FfTwoWRefIdeal.τ).loc Cert.FfTwoWRefIdeal.main_arg1))

def preserves_FfOneW_FfOneWIdeal : Prop :=
  True

def algebraic_FfOneWIdeal_FfOneWRefIdeal [hFfOneWIdeal : Cert.FfOneWIdeal.Facts] [hFfOneWRefIdeal : Cert.FfOneWRefIdeal.Facts] : Prop :=
  ∀ (m : (ℓ : Loc Cert.FfOneWIdeal.nD Cert.FfOneWIdeal.τ Cert.FfOneWIdeal.sig) → Buf (Elt Ideal) ℓ) (g : Dev Cert.FfOneWIdeal.nD → PrngReg)
    (m' : (ℓ : Loc Cert.FfOneWRefIdeal.nD Cert.FfOneWRefIdeal.τ Cert.FfOneWRefIdeal.sig) → Buf (Elt Ideal) ℓ) (g' : Dev Cert.FfOneWRefIdeal.nD → PrngReg), Pre_FfOneWIdeal m →
    (∀ c : Dev Cert.FfOneWIdeal.nD,
      m' ((c.tc : Thread Cert.FfOneWRefIdeal.nD Cert.FfOneWRefIdeal.τ).loc Cert.FfOneWRefIdeal.main_arg0) = m ((c.tc : Thread Cert.FfOneWIdeal.nD Cert.FfOneWIdeal.τ).loc Cert.FfOneWIdeal.main_arg0)
      ∧ m' ((c.tc : Thread Cert.FfOneWRefIdeal.nD Cert.FfOneWRefIdeal.τ).loc Cert.FfOneWRefIdeal.main_arg1) = m ((c.tc : Thread Cert.FfOneWIdeal.nD Cert.FfOneWIdeal.τ).loc Cert.FfOneWIdeal.main_arg1)) →
    ∃ (v0 : (c : Dev Cert.FfOneWIdeal.nD) → Buf (Elt Ideal) ((c.tc : Thread Cert.FfOneWIdeal.nD Cert.FfOneWIdeal.τ).loc Cert.FfOneWIdeal.main_v0)),
      θ_run (Cert.FfOneWIdeal.defs (F := Ideal)) (onTc (τ := Cert.FfOneWIdeal.τ) (Cert.FfOneWIdeal.main (F := Ideal))) ⟨m, fun _ => 0, g⟩ (fun r => ∀ c : Dev Cert.FfOneWIdeal.nD,
          r.2.mem ((c.tc : Thread Cert.FfOneWIdeal.nD Cert.FfOneWIdeal.τ).loc Cert.FfOneWIdeal.main_v0) = v0 c
          ∧ r.2.mem ((c.tc : Thread Cert.FfOneWIdeal.nD Cert.FfOneWIdeal.τ).loc Cert.FfOneWIdeal.main_arg0) = m ((c.tc : Thread Cert.FfOneWIdeal.nD Cert.FfOneWIdeal.τ).loc Cert.FfOneWIdeal.main_arg0)
          ∧ r.2.mem ((c.tc : Thread Cert.FfOneWIdeal.nD Cert.FfOneWIdeal.τ).loc Cert.FfOneWIdeal.main_arg1) = m ((c.tc : Thread Cert.FfOneWIdeal.nD Cert.FfOneWIdeal.τ).loc Cert.FfOneWIdeal.main_arg1))
      ∧ θ_run (Cert.FfOneWRefIdeal.defs (F := Ideal)) (onTc (τ := Cert.FfOneWRefIdeal.τ) (Cert.FfOneWRefIdeal.main (F := Ideal))) ⟨m', fun _ => 0, g'⟩ (fun r => ∀ c : Dev Cert.FfOneWRefIdeal.nD,
          r.2.mem ((c.tc : Thread Cert.FfOneWRefIdeal.nD Cert.FfOneWRefIdeal.τ).loc Cert.FfOneWRefIdeal.main_v6) = v0 c
          ∧ r.2.mem ((c.tc : Thread Cert.FfOneWRefIdeal.nD Cert.FfOneWRefIdeal.τ).loc Cert.FfOneWRefIdeal.main_arg0) = m' ((c.tc : Thread Cert.FfOneWRefIdeal.nD Cert.FfOneWRefIdeal.τ).loc Cert.FfOneWRefIdeal.main_arg0)
          ∧ r.2.mem ((c.tc : Thread Cert.FfOneWRefIdeal.nD Cert.FfOneWRefIdeal.τ).loc Cert.FfOneWRefIdeal.main_arg1) = m' ((c.tc : Thread Cert.FfOneWRefIdeal.nD Cert.FfOneWRefIdeal.τ).loc Cert.FfOneWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpPoolW_UpPoolWIdeal : Prop :=
  True

def algebraic_UpPoolWIdeal_UpPoolWRefIdeal [hUpPoolWIdeal : Cert.UpPoolWIdeal.Facts] [hUpPoolWRefIdeal : Cert.UpPoolWRefIdeal.Facts] : Prop :=
  ∀ (m : (ℓ : Loc Cert.UpPoolWIdeal.nD Cert.UpPoolWIdeal.τ Cert.UpPoolWIdeal.sig) → Buf (Elt Ideal) ℓ) (g : Dev Cert.UpPoolWIdeal.nD → PrngReg)
    (m' : (ℓ : Loc Cert.UpPoolWRefIdeal.nD Cert.UpPoolWRefIdeal.τ Cert.UpPoolWRefIdeal.sig) → Buf (Elt Ideal) ℓ) (g' : Dev Cert.UpPoolWRefIdeal.nD → PrngReg), Pre_UpPoolWIdeal m →
    (∀ c : Dev Cert.UpPoolWIdeal.nD,
      m' ((c.tc : Thread Cert.UpPoolWRefIdeal.nD Cert.UpPoolWRefIdeal.τ).loc Cert.UpPoolWRefIdeal.main_arg0) = m ((c.tc : Thread Cert.UpPoolWIdeal.nD Cert.UpPoolWIdeal.τ).loc Cert.UpPoolWIdeal.main_arg0)
      ∧ m' ((c.tc : Thread Cert.UpPoolWRefIdeal.nD Cert.UpPoolWRefIdeal.τ).loc Cert.UpPoolWRefIdeal.main_arg1) = m ((c.tc : Thread Cert.UpPoolWIdeal.nD Cert.UpPoolWIdeal.τ).loc Cert.UpPoolWIdeal.main_arg1)) →
    ∃ (v0 : (c : Dev Cert.UpPoolWIdeal.nD) → Buf (Elt Ideal) ((c.tc : Thread Cert.UpPoolWIdeal.nD Cert.UpPoolWIdeal.τ).loc Cert.UpPoolWIdeal.main_v0)),
      θ_run (Cert.UpPoolWIdeal.defs (F := Ideal)) (onTc (τ := Cert.UpPoolWIdeal.τ) (Cert.UpPoolWIdeal.main (F := Ideal))) ⟨m, fun _ => 0, g⟩ (fun r => ∀ c : Dev Cert.UpPoolWIdeal.nD,
          r.2.mem ((c.tc : Thread Cert.UpPoolWIdeal.nD Cert.UpPoolWIdeal.τ).loc Cert.UpPoolWIdeal.main_v0) = v0 c
          ∧ r.2.mem ((c.tc : Thread Cert.UpPoolWIdeal.nD Cert.UpPoolWIdeal.τ).loc Cert.UpPoolWIdeal.main_arg0) = m ((c.tc : Thread Cert.UpPoolWIdeal.nD Cert.UpPoolWIdeal.τ).loc Cert.UpPoolWIdeal.main_arg0)
          ∧ r.2.mem ((c.tc : Thread Cert.UpPoolWIdeal.nD Cert.UpPoolWIdeal.τ).loc Cert.UpPoolWIdeal.main_arg1) = m ((c.tc : Thread Cert.UpPoolWIdeal.nD Cert.UpPoolWIdeal.τ).loc Cert.UpPoolWIdeal.main_arg1))
      ∧ θ_run (Cert.UpPoolWRefIdeal.defs (F := Ideal)) (onTc (τ := Cert.UpPoolWRefIdeal.τ) (Cert.UpPoolWRefIdeal.main (F := Ideal))) ⟨m', fun _ => 0, g'⟩ (fun r => ∀ c : Dev Cert.UpPoolWRefIdeal.nD,
          r.2.mem ((c.tc : Thread Cert.UpPoolWRefIdeal.nD Cert.UpPoolWRefIdeal.τ).loc Cert.UpPoolWRefIdeal.main_v6) = v0 c
          ∧ r.2.mem ((c.tc : Thread Cert.UpPoolWRefIdeal.nD Cert.UpPoolWRefIdeal.τ).loc Cert.UpPoolWRefIdeal.main_arg0) = m' ((c.tc : Thread Cert.UpPoolWRefIdeal.nD Cert.UpPoolWRefIdeal.τ).loc Cert.UpPoolWRefIdeal.main_arg0)
          ∧ r.2.mem ((c.tc : Thread Cert.UpPoolWRefIdeal.nD Cert.UpPoolWRefIdeal.τ).loc Cert.UpPoolWRefIdeal.main_arg1) = m' ((c.tc : Thread Cert.UpPoolWRefIdeal.nD Cert.UpPoolWRefIdeal.τ).loc Cert.UpPoolWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v8) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v5) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v5) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_UpPoolX_UpPoolXIdeal : Prop :=
  True

def algebraic_UpPoolXIdeal_UpPoolXRefIdeal [hUpPoolXIdeal : Cert.UpPoolXIdeal.Facts] [hUpPoolXRefIdeal : Cert.UpPoolXRefIdeal.Facts] : Prop :=
  ∀ (m : (ℓ : Loc Cert.UpPoolXIdeal.nD Cert.UpPoolXIdeal.τ Cert.UpPoolXIdeal.sig) → Buf (Elt Ideal) ℓ) (g : Dev Cert.UpPoolXIdeal.nD → PrngReg)
    (m' : (ℓ : Loc Cert.UpPoolXRefIdeal.nD Cert.UpPoolXRefIdeal.τ Cert.UpPoolXRefIdeal.sig) → Buf (Elt Ideal) ℓ) (g' : Dev Cert.UpPoolXRefIdeal.nD → PrngReg), Pre_UpPoolXIdeal m →
    (∀ c : Dev Cert.UpPoolXIdeal.nD,
      m' ((c.tc : Thread Cert.UpPoolXRefIdeal.nD Cert.UpPoolXRefIdeal.τ).loc Cert.UpPoolXRefIdeal.main_arg0) = m ((c.tc : Thread Cert.UpPoolXIdeal.nD Cert.UpPoolXIdeal.τ).loc Cert.UpPoolXIdeal.main_arg0)
      ∧ m' ((c.tc : Thread Cert.UpPoolXRefIdeal.nD Cert.UpPoolXRefIdeal.τ).loc Cert.UpPoolXRefIdeal.main_arg1) = m ((c.tc : Thread Cert.UpPoolXIdeal.nD Cert.UpPoolXIdeal.τ).loc Cert.UpPoolXIdeal.main_arg1)) →
    ∃ (v0 : (c : Dev Cert.UpPoolXIdeal.nD) → Buf (Elt Ideal) ((c.tc : Thread Cert.UpPoolXIdeal.nD Cert.UpPoolXIdeal.τ).loc Cert.UpPoolXIdeal.main_v0)),
      θ_run (Cert.UpPoolXIdeal.defs (F := Ideal)) (onTc (τ := Cert.UpPoolXIdeal.τ) (Cert.UpPoolXIdeal.main (F := Ideal))) ⟨m, fun _ => 0, g⟩ (fun r => ∀ c : Dev Cert.UpPoolXIdeal.nD,
          r.2.mem ((c.tc : Thread Cert.UpPoolXIdeal.nD Cert.UpPoolXIdeal.τ).loc Cert.UpPoolXIdeal.main_v0) = v0 c
          ∧ r.2.mem ((c.tc : Thread Cert.UpPoolXIdeal.nD Cert.UpPoolXIdeal.τ).loc Cert.UpPoolXIdeal.main_arg0) = m ((c.tc : Thread Cert.UpPoolXIdeal.nD Cert.UpPoolXIdeal.τ).loc Cert.UpPoolXIdeal.main_arg0)
          ∧ r.2.mem ((c.tc : Thread Cert.UpPoolXIdeal.nD Cert.UpPoolXIdeal.τ).loc Cert.UpPoolXIdeal.main_arg1) = m ((c.tc : Thread Cert.UpPoolXIdeal.nD Cert.UpPoolXIdeal.τ).loc Cert.UpPoolXIdeal.main_arg1))
      ∧ θ_run (Cert.UpPoolXRefIdeal.defs (F := Ideal)) (onTc (τ := Cert.UpPoolXRefIdeal.τ) (Cert.UpPoolXRefIdeal.main (F := Ideal))) ⟨m', fun _ => 0, g'⟩ (fun r => ∀ c : Dev Cert.UpPoolXRefIdeal.nD,
          r.2.mem ((c.tc : Thread Cert.UpPoolXRefIdeal.nD Cert.UpPoolXRefIdeal.τ).loc Cert.UpPoolXRefIdeal.main_v5) = v0 c
          ∧ r.2.mem ((c.tc : Thread Cert.UpPoolXRefIdeal.nD Cert.UpPoolXRefIdeal.τ).loc Cert.UpPoolXRefIdeal.main_arg0) = m' ((c.tc : Thread Cert.UpPoolXRefIdeal.nD Cert.UpPoolXRefIdeal.τ).loc Cert.UpPoolXRefIdeal.main_arg0)
          ∧ r.2.mem ((c.tc : Thread Cert.UpPoolXRefIdeal.nD Cert.UpPoolXRefIdeal.τ).loc Cert.UpPoolXRefIdeal.main_arg1) = m' ((c.tc : Thread Cert.UpPoolXRefIdeal.nD Cert.UpPoolXRefIdeal.τ).loc Cert.UpPoolXRefIdeal.main_arg1))

def preserves_FfTwoX_FfTwoXIdeal : Prop :=
  True

def algebraic_FfTwoXIdeal_FfTwoXRefIdeal [hFfTwoXIdeal : Cert.FfTwoXIdeal.Facts] [hFfTwoXRefIdeal : Cert.FfTwoXRefIdeal.Facts] : Prop :=
  ∀ (m : (ℓ : Loc Cert.FfTwoXIdeal.nD Cert.FfTwoXIdeal.τ Cert.FfTwoXIdeal.sig) → Buf (Elt Ideal) ℓ) (g : Dev Cert.FfTwoXIdeal.nD → PrngReg)
    (m' : (ℓ : Loc Cert.FfTwoXRefIdeal.nD Cert.FfTwoXRefIdeal.τ Cert.FfTwoXRefIdeal.sig) → Buf (Elt Ideal) ℓ) (g' : Dev Cert.FfTwoXRefIdeal.nD → PrngReg), Pre_FfTwoXIdeal m →
    (∀ c : Dev Cert.FfTwoXIdeal.nD,
      m' ((c.tc : Thread Cert.FfTwoXRefIdeal.nD Cert.FfTwoXRefIdeal.τ).loc Cert.FfTwoXRefIdeal.main_arg0) = m ((c.tc : Thread Cert.FfTwoXIdeal.nD Cert.FfTwoXIdeal.τ).loc Cert.FfTwoXIdeal.main_arg0)
      ∧ m' ((c.tc : Thread Cert.FfTwoXRefIdeal.nD Cert.FfTwoXRefIdeal.τ).loc Cert.FfTwoXRefIdeal.main_arg1) = m ((c.tc : Thread Cert.FfTwoXIdeal.nD Cert.FfTwoXIdeal.τ).loc Cert.FfTwoXIdeal.main_arg1)
      ∧ m' ((c.tc : Thread Cert.FfTwoXRefIdeal.nD Cert.FfTwoXRefIdeal.τ).loc Cert.FfTwoXRefIdeal.main_arg2) = m ((c.tc : Thread Cert.FfTwoXIdeal.nD Cert.FfTwoXIdeal.τ).loc Cert.FfTwoXIdeal.main_arg2)) →
    ∃ (v0 : (c : Dev Cert.FfTwoXIdeal.nD) → Buf (Elt Ideal) ((c.tc : Thread Cert.FfTwoXIdeal.nD Cert.FfTwoXIdeal.τ).loc Cert.FfTwoXIdeal.main_v3)),
      θ_run (Cert.FfTwoXIdeal.defs (F := Ideal)) (onTc (τ := Cert.FfTwoXIdeal.τ) (Cert.FfTwoXIdeal.main (F := Ideal))) ⟨m, fun _ => 0, g⟩ (fun r => ∀ c : Dev Cert.FfTwoXIdeal.nD,
          r.2.mem ((c.tc : Thread Cert.FfTwoXIdeal.nD Cert.FfTwoXIdeal.τ).loc Cert.FfTwoXIdeal.main_v3) = v0 c
          ∧ r.2.mem ((c.tc : Thread Cert.FfTwoXIdeal.nD Cert.FfTwoXIdeal.τ).loc Cert.FfTwoXIdeal.main_arg0) = m ((c.tc : Thread Cert.FfTwoXIdeal.nD Cert.FfTwoXIdeal.τ).loc Cert.FfTwoXIdeal.main_arg0)
          ∧ r.2.mem ((c.tc : Thread Cert.FfTwoXIdeal.nD Cert.FfTwoXIdeal.τ).loc Cert.FfTwoXIdeal.main_arg1) = m ((c.tc : Thread Cert.FfTwoXIdeal.nD Cert.FfTwoXIdeal.τ).loc Cert.FfTwoXIdeal.main_arg1)
          ∧ r.2.mem ((c.tc : Thread Cert.FfTwoXIdeal.nD Cert.FfTwoXIdeal.τ).loc Cert.FfTwoXIdeal.main_arg2) = m ((c.tc : Thread Cert.FfTwoXIdeal.nD Cert.FfTwoXIdeal.τ).loc Cert.FfTwoXIdeal.main_arg2))
      ∧ θ_run (Cert.FfTwoXRefIdeal.defs (F := Ideal)) (onTc (τ := Cert.FfTwoXRefIdeal.τ) (Cert.FfTwoXRefIdeal.main (F := Ideal))) ⟨m', fun _ => 0, g'⟩ (fun r => ∀ c : Dev Cert.FfTwoXRefIdeal.nD,
          r.2.mem ((c.tc : Thread Cert.FfTwoXRefIdeal.nD Cert.FfTwoXRefIdeal.τ).loc Cert.FfTwoXRefIdeal.main_v14) = v0 c
          ∧ r.2.mem ((c.tc : Thread Cert.FfTwoXRefIdeal.nD Cert.FfTwoXRefIdeal.τ).loc Cert.FfTwoXRefIdeal.main_arg0) = m' ((c.tc : Thread Cert.FfTwoXRefIdeal.nD Cert.FfTwoXRefIdeal.τ).loc Cert.FfTwoXRefIdeal.main_arg0)
          ∧ r.2.mem ((c.tc : Thread Cert.FfTwoXRefIdeal.nD Cert.FfTwoXRefIdeal.τ).loc Cert.FfTwoXRefIdeal.main_arg1) = m' ((c.tc : Thread Cert.FfTwoXRefIdeal.nD Cert.FfTwoXRefIdeal.τ).loc Cert.FfTwoXRefIdeal.main_arg1)
          ∧ r.2.mem ((c.tc : Thread Cert.FfTwoXRefIdeal.nD Cert.FfTwoXRefIdeal.τ).loc Cert.FfTwoXRefIdeal.main_arg2) = m' ((c.tc : Thread Cert.FfTwoXRefIdeal.nD Cert.FfTwoXRefIdeal.τ).loc Cert.FfTwoXRefIdeal.main_arg2))

def preserves_FfOneX_FfOneXIdeal : Prop :=
  True

def algebraic_FfOneXIdeal_FfOneXRefIdeal [hFfOneXIdeal : Cert.FfOneXIdeal.Facts] [hFfOneXRefIdeal : Cert.FfOneXRefIdeal.Facts] : Prop :=
  ∀ (m : (ℓ : Loc Cert.FfOneXIdeal.nD Cert.FfOneXIdeal.τ Cert.FfOneXIdeal.sig) → Buf (Elt Ideal) ℓ) (g : Dev Cert.FfOneXIdeal.nD → PrngReg)
    (m' : (ℓ : Loc Cert.FfOneXRefIdeal.nD Cert.FfOneXRefIdeal.τ Cert.FfOneXRefIdeal.sig) → Buf (Elt Ideal) ℓ) (g' : Dev Cert.FfOneXRefIdeal.nD → PrngReg), Pre_FfOneXIdeal m →
    (∀ c : Dev Cert.FfOneXIdeal.nD,
      m' ((c.tc : Thread Cert.FfOneXRefIdeal.nD Cert.FfOneXRefIdeal.τ).loc Cert.FfOneXRefIdeal.main_arg0) = m ((c.tc : Thread Cert.FfOneXIdeal.nD Cert.FfOneXIdeal.τ).loc Cert.FfOneXIdeal.main_arg0)
      ∧ m' ((c.tc : Thread Cert.FfOneXRefIdeal.nD Cert.FfOneXRefIdeal.τ).loc Cert.FfOneXRefIdeal.main_arg1) = m ((c.tc : Thread Cert.FfOneXIdeal.nD Cert.FfOneXIdeal.τ).loc Cert.FfOneXIdeal.main_arg1)) →
    ∃ (v0 : (c : Dev Cert.FfOneXIdeal.nD) → Buf (Elt Ideal) ((c.tc : Thread Cert.FfOneXIdeal.nD Cert.FfOneXIdeal.τ).loc Cert.FfOneXIdeal.main_v0)),
      θ_run (Cert.FfOneXIdeal.defs (F := Ideal)) (onTc (τ := Cert.FfOneXIdeal.τ) (Cert.FfOneXIdeal.main (F := Ideal))) ⟨m, fun _ => 0, g⟩ (fun r => ∀ c : Dev Cert.FfOneXIdeal.nD,
          r.2.mem ((c.tc : Thread Cert.FfOneXIdeal.nD Cert.FfOneXIdeal.τ).loc Cert.FfOneXIdeal.main_v0) = v0 c
          ∧ r.2.mem ((c.tc : Thread Cert.FfOneXIdeal.nD Cert.FfOneXIdeal.τ).loc Cert.FfOneXIdeal.main_arg0) = m ((c.tc : Thread Cert.FfOneXIdeal.nD Cert.FfOneXIdeal.τ).loc Cert.FfOneXIdeal.main_arg0)
          ∧ r.2.mem ((c.tc : Thread Cert.FfOneXIdeal.nD Cert.FfOneXIdeal.τ).loc Cert.FfOneXIdeal.main_arg1) = m ((c.tc : Thread Cert.FfOneXIdeal.nD Cert.FfOneXIdeal.τ).loc Cert.FfOneXIdeal.main_arg1))
      ∧ θ_run (Cert.FfOneXRefIdeal.defs (F := Ideal)) (onTc (τ := Cert.FfOneXRefIdeal.τ) (Cert.FfOneXRefIdeal.main (F := Ideal))) ⟨m', fun _ => 0, g'⟩ (fun r => ∀ c : Dev Cert.FfOneXRefIdeal.nD,
          r.2.mem ((c.tc : Thread Cert.FfOneXRefIdeal.nD Cert.FfOneXRefIdeal.τ).loc Cert.FfOneXRefIdeal.main_v4) = v0 c
          ∧ r.2.mem ((c.tc : Thread Cert.FfOneXRefIdeal.nD Cert.FfOneXRefIdeal.τ).loc Cert.FfOneXRefIdeal.main_arg0) = m' ((c.tc : Thread Cert.FfOneXRefIdeal.nD Cert.FfOneXRefIdeal.τ).loc Cert.FfOneXRefIdeal.main_arg0)
          ∧ r.2.mem ((c.tc : Thread Cert.FfOneXRefIdeal.nD Cert.FfOneXRefIdeal.τ).loc Cert.FfOneXRefIdeal.main_arg1) = m' ((c.tc : Thread Cert.FfOneXRefIdeal.nD Cert.FfOneXRefIdeal.τ).loc Cert.FfOneXRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v6) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v0)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v0) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v3) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_GatesF_GatesFIdeal : Prop :=
  True

def algebraic_GatesFIdeal_GatesFRefIdeal [hGatesFIdeal : Cert.GatesFIdeal.Facts] [hGatesFRefIdeal : Cert.GatesFRefIdeal.Facts] : Prop :=
  ∀ (m : (ℓ : Loc Cert.GatesFIdeal.nD Cert.GatesFIdeal.τ Cert.GatesFIdeal.sig) → Buf (Elt Ideal) ℓ) (g : Dev Cert.GatesFIdeal.nD → PrngReg)
    (m' : (ℓ : Loc Cert.GatesFRefIdeal.nD Cert.GatesFRefIdeal.τ Cert.GatesFRefIdeal.sig) → Buf (Elt Ideal) ℓ) (g' : Dev Cert.GatesFRefIdeal.nD → PrngReg), Pre_GatesFIdeal m →
    (∀ c : Dev Cert.GatesFIdeal.nD,
      m' ((c.tc : Thread Cert.GatesFRefIdeal.nD Cert.GatesFRefIdeal.τ).loc Cert.GatesFRefIdeal.main_arg0) = m ((c.tc : Thread Cert.GatesFIdeal.nD Cert.GatesFIdeal.τ).loc Cert.GatesFIdeal.main_arg0)
      ∧ m' ((c.tc : Thread Cert.GatesFRefIdeal.nD Cert.GatesFRefIdeal.τ).loc Cert.GatesFRefIdeal.main_arg1) = m ((c.tc : Thread Cert.GatesFIdeal.nD Cert.GatesFIdeal.τ).loc Cert.GatesFIdeal.main_arg1)) →
    ∃ (v0 : (c : Dev Cert.GatesFIdeal.nD) → Buf (Elt Ideal) ((c.tc : Thread Cert.GatesFIdeal.nD Cert.GatesFIdeal.τ).loc Cert.GatesFIdeal.main_v0)),
      θ_run (Cert.GatesFIdeal.defs (F := Ideal)) (onTc (τ := Cert.GatesFIdeal.τ) (Cert.GatesFIdeal.main (F := Ideal))) ⟨m, fun _ => 0, g⟩ (fun r => ∀ c : Dev Cert.GatesFIdeal.nD,
          r.2.mem ((c.tc : Thread Cert.GatesFIdeal.nD Cert.GatesFIdeal.τ).loc Cert.GatesFIdeal.main_v0) = v0 c
          ∧ r.2.mem ((c.tc : Thread Cert.GatesFIdeal.nD Cert.GatesFIdeal.τ).loc Cert.GatesFIdeal.main_arg0) = m ((c.tc : Thread Cert.GatesFIdeal.nD Cert.GatesFIdeal.τ).loc Cert.GatesFIdeal.main_arg0)
          ∧ r.2.mem ((c.tc : Thread Cert.GatesFIdeal.nD Cert.GatesFIdeal.τ).loc Cert.GatesFIdeal.main_arg1) = m ((c.tc : Thread Cert.GatesFIdeal.nD Cert.GatesFIdeal.τ).loc Cert.GatesFIdeal.main_arg1))
      ∧ θ_run (Cert.GatesFRefIdeal.defs (F := Ideal)) (onTc (τ := Cert.GatesFRefIdeal.τ) (Cert.GatesFRefIdeal.main (F := Ideal))) ⟨m', fun _ => 0, g'⟩ (fun r => ∀ c : Dev Cert.GatesFRefIdeal.nD,
          r.2.mem ((c.tc : Thread Cert.GatesFRefIdeal.nD Cert.GatesFRefIdeal.τ).loc Cert.GatesFRefIdeal.main_v4) = v0 c
          ∧ r.2.mem ((c.tc : Thread Cert.GatesFRefIdeal.nD Cert.GatesFRefIdeal.τ).loc Cert.GatesFRefIdeal.main_arg0) = m' ((c.tc : Thread Cert.GatesFRefIdeal.nD Cert.GatesFRefIdeal.τ).loc Cert.GatesFRefIdeal.main_arg0)
          ∧ r.2.mem ((c.tc : Thread Cert.GatesFRefIdeal.nD Cert.GatesFRefIdeal.τ).loc Cert.GatesFRefIdeal.main_arg1) = m' ((c.tc : Thread Cert.GatesFRefIdeal.nD Cert.GatesFRefIdeal.τ).loc Cert.GatesFRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v0)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v0) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v3) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_UpPoolF_UpPoolFIdeal : Prop :=
  True

def algebraic_UpPoolFIdeal_UpPoolFRefIdeal [hUpPoolFIdeal : Cert.UpPoolFIdeal.Facts] [hUpPoolFRefIdeal : Cert.UpPoolFRefIdeal.Facts] : Prop :=
  ∀ (m : (ℓ : Loc Cert.UpPoolFIdeal.nD Cert.UpPoolFIdeal.τ Cert.UpPoolFIdeal.sig) → Buf (Elt Ideal) ℓ) (g : Dev Cert.UpPoolFIdeal.nD → PrngReg)
    (m' : (ℓ : Loc Cert.UpPoolFRefIdeal.nD Cert.UpPoolFRefIdeal.τ Cert.UpPoolFRefIdeal.sig) → Buf (Elt Ideal) ℓ) (g' : Dev Cert.UpPoolFRefIdeal.nD → PrngReg), Pre_UpPoolFIdeal m →
    (∀ c : Dev Cert.UpPoolFIdeal.nD,
      m' ((c.tc : Thread Cert.UpPoolFRefIdeal.nD Cert.UpPoolFRefIdeal.τ).loc Cert.UpPoolFRefIdeal.main_arg0) = m ((c.tc : Thread Cert.UpPoolFIdeal.nD Cert.UpPoolFIdeal.τ).loc Cert.UpPoolFIdeal.main_arg0)
      ∧ m' ((c.tc : Thread Cert.UpPoolFRefIdeal.nD Cert.UpPoolFRefIdeal.τ).loc Cert.UpPoolFRefIdeal.main_arg1) = m ((c.tc : Thread Cert.UpPoolFIdeal.nD Cert.UpPoolFIdeal.τ).loc Cert.UpPoolFIdeal.main_arg1)) →
    ∃ (v0 : (c : Dev Cert.UpPoolFIdeal.nD) → Buf (Elt Ideal) ((c.tc : Thread Cert.UpPoolFIdeal.nD Cert.UpPoolFIdeal.τ).loc Cert.UpPoolFIdeal.main_v0)),
      θ_run (Cert.UpPoolFIdeal.defs (F := Ideal)) (onTc (τ := Cert.UpPoolFIdeal.τ) (Cert.UpPoolFIdeal.main (F := Ideal))) ⟨m, fun _ => 0, g⟩ (fun r => ∀ c : Dev Cert.UpPoolFIdeal.nD,
          r.2.mem ((c.tc : Thread Cert.UpPoolFIdeal.nD Cert.UpPoolFIdeal.τ).loc Cert.UpPoolFIdeal.main_v0) = v0 c
          ∧ r.2.mem ((c.tc : Thread Cert.UpPoolFIdeal.nD Cert.UpPoolFIdeal.τ).loc Cert.UpPoolFIdeal.main_arg0) = m ((c.tc : Thread Cert.UpPoolFIdeal.nD Cert.UpPoolFIdeal.τ).loc Cert.UpPoolFIdeal.main_arg0)
          ∧ r.2.mem ((c.tc : Thread Cert.UpPoolFIdeal.nD Cert.UpPoolFIdeal.τ).loc Cert.UpPoolFIdeal.main_arg1) = m ((c.tc : Thread Cert.UpPoolFIdeal.nD Cert.UpPoolFIdeal.τ).loc Cert.UpPoolFIdeal.main_arg1))
      ∧ θ_run (Cert.UpPoolFRefIdeal.defs (F := Ideal)) (onTc (τ := Cert.UpPoolFRefIdeal.τ) (Cert.UpPoolFRefIdeal.main (F := Ideal))) ⟨m', fun _ => 0, g'⟩ (fun r => ∀ c : Dev Cert.UpPoolFRefIdeal.nD,
          r.2.mem ((c.tc : Thread Cert.UpPoolFRefIdeal.nD Cert.UpPoolFRefIdeal.τ).loc Cert.UpPoolFRefIdeal.main_v3) = v0 c
          ∧ r.2.mem ((c.tc : Thread Cert.UpPoolFRefIdeal.nD Cert.UpPoolFRefIdeal.τ).loc Cert.UpPoolFRefIdeal.main_arg0) = m' ((c.tc : Thread Cert.UpPoolFRefIdeal.nD Cert.UpPoolFRefIdeal.τ).loc Cert.UpPoolFRefIdeal.main_arg0)
          ∧ r.2.mem ((c.tc : Thread Cert.UpPoolFRefIdeal.nD Cert.UpPoolFRefIdeal.τ).loc Cert.UpPoolFRefIdeal.main_arg1) = m' ((c.tc : Thread Cert.UpPoolFRefIdeal.nD Cert.UpPoolFRefIdeal.τ).loc Cert.UpPoolFRefIdeal.main_arg1))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)) →
    ∃ (v0 : (c : Dev Cert.OutFIdeal.nD) → Buf (Elt Ideal) ((c.tc : Thread Cert.OutFIdeal.nD Cert.OutFIdeal.τ).loc Cert.OutFIdeal.main_v0)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2))

def preserves_FfOneF_FfOneFIdeal : Prop :=
  True

def algebraic_FfOneFIdeal_FfOneFRefIdeal [hFfOneFIdeal : Cert.FfOneFIdeal.Facts] [hFfOneFRefIdeal : Cert.FfOneFRefIdeal.Facts] : Prop :=
  ∀ (m : (ℓ : Loc Cert.FfOneFIdeal.nD Cert.FfOneFIdeal.τ Cert.FfOneFIdeal.sig) → Buf (Elt Ideal) ℓ) (g : Dev Cert.FfOneFIdeal.nD → PrngReg)
    (m' : (ℓ : Loc Cert.FfOneFRefIdeal.nD Cert.FfOneFRefIdeal.τ Cert.FfOneFRefIdeal.sig) → Buf (Elt Ideal) ℓ) (g' : Dev Cert.FfOneFRefIdeal.nD → PrngReg), Pre_FfOneFIdeal m →
    (∀ c : Dev Cert.FfOneFIdeal.nD,
      m' ((c.tc : Thread Cert.FfOneFRefIdeal.nD Cert.FfOneFRefIdeal.τ).loc Cert.FfOneFRefIdeal.main_arg0) = m ((c.tc : Thread Cert.FfOneFIdeal.nD Cert.FfOneFIdeal.τ).loc Cert.FfOneFIdeal.main_arg0)
      ∧ m' ((c.tc : Thread Cert.FfOneFRefIdeal.nD Cert.FfOneFRefIdeal.τ).loc Cert.FfOneFRefIdeal.main_arg1) = m ((c.tc : Thread Cert.FfOneFIdeal.nD Cert.FfOneFIdeal.τ).loc Cert.FfOneFIdeal.main_arg1)) →
    ∃ (v0 : (c : Dev Cert.FfOneFIdeal.nD) → Buf (Elt Ideal) ((c.tc : Thread Cert.FfOneFIdeal.nD Cert.FfOneFIdeal.τ).loc Cert.FfOneFIdeal.main_v0)),
      θ_run (Cert.FfOneFIdeal.defs (F := Ideal)) (onTc (τ := Cert.FfOneFIdeal.τ) (Cert.FfOneFIdeal.main (F := Ideal))) ⟨m, fun _ => 0, g⟩ (fun r => ∀ c : Dev Cert.FfOneFIdeal.nD,
          r.2.mem ((c.tc : Thread Cert.FfOneFIdeal.nD Cert.FfOneFIdeal.τ).loc Cert.FfOneFIdeal.main_v0) = v0 c
          ∧ r.2.mem ((c.tc : Thread Cert.FfOneFIdeal.nD Cert.FfOneFIdeal.τ).loc Cert.FfOneFIdeal.main_arg0) = m ((c.tc : Thread Cert.FfOneFIdeal.nD Cert.FfOneFIdeal.τ).loc Cert.FfOneFIdeal.main_arg0)
          ∧ r.2.mem ((c.tc : Thread Cert.FfOneFIdeal.nD Cert.FfOneFIdeal.τ).loc Cert.FfOneFIdeal.main_arg1) = m ((c.tc : Thread Cert.FfOneFIdeal.nD Cert.FfOneFIdeal.τ).loc Cert.FfOneFIdeal.main_arg1))
      ∧ θ_run (Cert.FfOneFRefIdeal.defs (F := Ideal)) (onTc (τ := Cert.FfOneFRefIdeal.τ) (Cert.FfOneFRefIdeal.main (F := Ideal))) ⟨m', fun _ => 0, g'⟩ (fun r => ∀ c : Dev Cert.FfOneFRefIdeal.nD,
          r.2.mem ((c.tc : Thread Cert.FfOneFRefIdeal.nD Cert.FfOneFRefIdeal.τ).loc Cert.FfOneFRefIdeal.main_v5) = v0 c
          ∧ r.2.mem ((c.tc : Thread Cert.FfOneFRefIdeal.nD Cert.FfOneFRefIdeal.τ).loc Cert.FfOneFRefIdeal.main_arg0) = m' ((c.tc : Thread Cert.FfOneFRefIdeal.nD Cert.FfOneFRefIdeal.τ).loc Cert.FfOneFRefIdeal.main_arg0)
          ∧ r.2.mem ((c.tc : Thread Cert.FfOneFRefIdeal.nD Cert.FfOneFRefIdeal.τ).loc Cert.FfOneFRefIdeal.main_arg1) = m' ((c.tc : Thread Cert.FfOneFRefIdeal.nD Cert.FfOneFRefIdeal.τ).loc Cert.FfOneFRefIdeal.main_arg1))

def preserves_FfTwoF_FfTwoFIdeal : Prop :=
  True

def algebraic_FfTwoFIdeal_FfTwoFRefIdeal [hFfTwoFIdeal : Cert.FfTwoFIdeal.Facts] [hFfTwoFRefIdeal : Cert.FfTwoFRefIdeal.Facts] : Prop :=
  ∀ (m : (ℓ : Loc Cert.FfTwoFIdeal.nD Cert.FfTwoFIdeal.τ Cert.FfTwoFIdeal.sig) → Buf (Elt Ideal) ℓ) (g : Dev Cert.FfTwoFIdeal.nD → PrngReg)
    (m' : (ℓ : Loc Cert.FfTwoFRefIdeal.nD Cert.FfTwoFRefIdeal.τ Cert.FfTwoFRefIdeal.sig) → Buf (Elt Ideal) ℓ) (g' : Dev Cert.FfTwoFRefIdeal.nD → PrngReg), Pre_FfTwoFIdeal m →
    (∀ c : Dev Cert.FfTwoFIdeal.nD,
      m' ((c.tc : Thread Cert.FfTwoFRefIdeal.nD Cert.FfTwoFRefIdeal.τ).loc Cert.FfTwoFRefIdeal.main_arg0) = m ((c.tc : Thread Cert.FfTwoFIdeal.nD Cert.FfTwoFIdeal.τ).loc Cert.FfTwoFIdeal.main_arg0)
      ∧ m' ((c.tc : Thread Cert.FfTwoFRefIdeal.nD Cert.FfTwoFRefIdeal.τ).loc Cert.FfTwoFRefIdeal.main_arg1) = m ((c.tc : Thread Cert.FfTwoFIdeal.nD Cert.FfTwoFIdeal.τ).loc Cert.FfTwoFIdeal.main_arg1)
      ∧ m' ((c.tc : Thread Cert.FfTwoFRefIdeal.nD Cert.FfTwoFRefIdeal.τ).loc Cert.FfTwoFRefIdeal.main_arg2) = m ((c.tc : Thread Cert.FfTwoFIdeal.nD Cert.FfTwoFIdeal.τ).loc Cert.FfTwoFIdeal.main_arg2)) →
    ∃ (v0 : (c : Dev Cert.FfTwoFIdeal.nD) → Buf (Elt Ideal) ((c.tc : Thread Cert.FfTwoFIdeal.nD Cert.FfTwoFIdeal.τ).loc Cert.FfTwoFIdeal.main_v0)),
      θ_run (Cert.FfTwoFIdeal.defs (F := Ideal)) (onTc (τ := Cert.FfTwoFIdeal.τ) (Cert.FfTwoFIdeal.main (F := Ideal))) ⟨m, fun _ => 0, g⟩ (fun r => ∀ c : Dev Cert.FfTwoFIdeal.nD,
          r.2.mem ((c.tc : Thread Cert.FfTwoFIdeal.nD Cert.FfTwoFIdeal.τ).loc Cert.FfTwoFIdeal.main_v0) = v0 c
          ∧ r.2.mem ((c.tc : Thread Cert.FfTwoFIdeal.nD Cert.FfTwoFIdeal.τ).loc Cert.FfTwoFIdeal.main_arg0) = m ((c.tc : Thread Cert.FfTwoFIdeal.nD Cert.FfTwoFIdeal.τ).loc Cert.FfTwoFIdeal.main_arg0)
          ∧ r.2.mem ((c.tc : Thread Cert.FfTwoFIdeal.nD Cert.FfTwoFIdeal.τ).loc Cert.FfTwoFIdeal.main_arg1) = m ((c.tc : Thread Cert.FfTwoFIdeal.nD Cert.FfTwoFIdeal.τ).loc Cert.FfTwoFIdeal.main_arg1)
          ∧ r.2.mem ((c.tc : Thread Cert.FfTwoFIdeal.nD Cert.FfTwoFIdeal.τ).loc Cert.FfTwoFIdeal.main_arg2) = m ((c.tc : Thread Cert.FfTwoFIdeal.nD Cert.FfTwoFIdeal.τ).loc Cert.FfTwoFIdeal.main_arg2))
      ∧ θ_run (Cert.FfTwoFRefIdeal.defs (F := Ideal)) (onTc (τ := Cert.FfTwoFRefIdeal.τ) (Cert.FfTwoFRefIdeal.main (F := Ideal))) ⟨m', fun _ => 0, g'⟩ (fun r => ∀ c : Dev Cert.FfTwoFRefIdeal.nD,
          r.2.mem ((c.tc : Thread Cert.FfTwoFRefIdeal.nD Cert.FfTwoFRefIdeal.τ).loc Cert.FfTwoFRefIdeal.main_v3) = v0 c
          ∧ r.2.mem ((c.tc : Thread Cert.FfTwoFRefIdeal.nD Cert.FfTwoFRefIdeal.τ).loc Cert.FfTwoFRefIdeal.main_arg0) = m' ((c.tc : Thread Cert.FfTwoFRefIdeal.nD Cert.FfTwoFRefIdeal.τ).loc Cert.FfTwoFRefIdeal.main_arg0)
          ∧ r.2.mem ((c.tc : Thread Cert.FfTwoFRefIdeal.nD Cert.FfTwoFRefIdeal.τ).loc Cert.FfTwoFRefIdeal.main_arg1) = m' ((c.tc : Thread Cert.FfTwoFRefIdeal.nD Cert.FfTwoFRefIdeal.τ).loc Cert.FfTwoFRefIdeal.main_arg1)
          ∧ r.2.mem ((c.tc : Thread Cert.FfTwoFRefIdeal.nD Cert.FfTwoFRefIdeal.τ).loc Cert.FfTwoFRefIdeal.main_arg2) = m' ((c.tc : Thread Cert.FfTwoFRefIdeal.nD Cert.FfTwoFRefIdeal.τ).loc Cert.FfTwoFRefIdeal.main_arg2))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v0_0)) (v1 : (c : Dev Cert.RmsBIdeal.nD) → Buf (Elt Ideal) ((c.tc : Thread Cert.RmsBIdeal.nD Cert.RmsBIdeal.τ).loc Cert.RmsBIdeal.main_v0_1)) (v2 : (c : Dev Cert.RmsBIdeal.nD) → Buf (Elt Ideal) ((c.tc : Thread Cert.RmsBIdeal.nD Cert.RmsBIdeal.τ).loc Cert.RmsBIdeal.main_v0_2)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v0_0) = v0 c
          ∧ r.2.mem ((c.tc : Thread Cert.RmsBIdeal.nD Cert.RmsBIdeal.τ).loc Cert.RmsBIdeal.main_v0_1) = v1 c
          ∧ r.2.mem ((c.tc : Thread Cert.RmsBIdeal.nD Cert.RmsBIdeal.τ).loc Cert.RmsBIdeal.main_v0_2) = v2 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v37) = v0 c
          ∧ r.2.mem ((c.tc : Thread Cert.RmsBRefIdeal.nD Cert.RmsBRefIdeal.τ).loc Cert.RmsBRefIdeal.main_v38) = v1 c
          ∧ r.2.mem ((c.tc : Thread Cert.RmsBRefIdeal.nD Cert.RmsBRefIdeal.τ).loc Cert.RmsBRefIdeal.main_v39) = v2 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_GdnOutB_GdnOutBIdeal : Prop :=
  True

def algebraic_GdnOutBIdeal_GdnOutBRefIdeal [hGdnOutBIdeal : Cert.GdnOutBIdeal.Facts] [hGdnOutBRefIdeal : Cert.GdnOutBRefIdeal.Facts] : Prop :=
  ∀ (m : (ℓ : Loc Cert.GdnOutBIdeal.nD Cert.GdnOutBIdeal.τ Cert.GdnOutBIdeal.sig) → Buf (Elt Ideal) ℓ) (g : Dev Cert.GdnOutBIdeal.nD → PrngReg)
    (m' : (ℓ : Loc Cert.GdnOutBRefIdeal.nD Cert.GdnOutBRefIdeal.τ Cert.GdnOutBRefIdeal.sig) → Buf (Elt Ideal) ℓ) (g' : Dev Cert.GdnOutBRefIdeal.nD → PrngReg), Pre_GdnOutBIdeal m →
    (∀ c : Dev Cert.GdnOutBIdeal.nD,
      m' ((c.tc : Thread Cert.GdnOutBRefIdeal.nD Cert.GdnOutBRefIdeal.τ).loc Cert.GdnOutBRefIdeal.main_arg0) = m ((c.tc : Thread Cert.GdnOutBIdeal.nD Cert.GdnOutBIdeal.τ).loc Cert.GdnOutBIdeal.main_arg0)
      ∧ m' ((c.tc : Thread Cert.GdnOutBRefIdeal.nD Cert.GdnOutBRefIdeal.τ).loc Cert.GdnOutBRefIdeal.main_arg1) = m ((c.tc : Thread Cert.GdnOutBIdeal.nD Cert.GdnOutBIdeal.τ).loc Cert.GdnOutBIdeal.main_arg1)
      ∧ m' ((c.tc : Thread Cert.GdnOutBRefIdeal.nD Cert.GdnOutBRefIdeal.τ).loc Cert.GdnOutBRefIdeal.main_arg2) = m ((c.tc : Thread Cert.GdnOutBIdeal.nD Cert.GdnOutBIdeal.τ).loc Cert.GdnOutBIdeal.main_arg2)
      ∧ m' ((c.tc : Thread Cert.GdnOutBRefIdeal.nD Cert.GdnOutBRefIdeal.τ).loc Cert.GdnOutBRefIdeal.main_arg3) = m ((c.tc : Thread Cert.GdnOutBIdeal.nD Cert.GdnOutBIdeal.τ).loc Cert.GdnOutBIdeal.main_arg3)) →
    ∃ (v0 : (c : Dev Cert.GdnOutBIdeal.nD) → Buf (Elt Ideal) ((c.tc : Thread Cert.GdnOutBIdeal.nD Cert.GdnOutBIdeal.τ).loc Cert.GdnOutBIdeal.main_v0_0)) (v1 : (c : Dev Cert.GdnOutBIdeal.nD) → Buf (Elt Ideal) ((c.tc : Thread Cert.GdnOutBIdeal.nD Cert.GdnOutBIdeal.τ).loc Cert.GdnOutBIdeal.main_v0_1)) (v2 : (c : Dev Cert.GdnOutBIdeal.nD) → Buf (Elt Ideal) ((c.tc : Thread Cert.GdnOutBIdeal.nD Cert.GdnOutBIdeal.τ).loc Cert.GdnOutBIdeal.main_v0_2)),
      θ_run (Cert.GdnOutBIdeal.defs (F := Ideal)) (onTc (τ := Cert.GdnOutBIdeal.τ) (Cert.GdnOutBIdeal.main (F := Ideal))) ⟨m, fun _ => 0, g⟩ (fun r => ∀ c : Dev Cert.GdnOutBIdeal.nD,
          r.2.mem ((c.tc : Thread Cert.GdnOutBIdeal.nD Cert.GdnOutBIdeal.τ).loc Cert.GdnOutBIdeal.main_v0_0) = v0 c
          ∧ r.2.mem ((c.tc : Thread Cert.GdnOutBIdeal.nD Cert.GdnOutBIdeal.τ).loc Cert.GdnOutBIdeal.main_v0_1) = v1 c
          ∧ r.2.mem ((c.tc : Thread Cert.GdnOutBIdeal.nD Cert.GdnOutBIdeal.τ).loc Cert.GdnOutBIdeal.main_v0_2) = v2 c
          ∧ r.2.mem ((c.tc : Thread Cert.GdnOutBIdeal.nD Cert.GdnOutBIdeal.τ).loc Cert.GdnOutBIdeal.main_arg0) = m ((c.tc : Thread Cert.GdnOutBIdeal.nD Cert.GdnOutBIdeal.τ).loc Cert.GdnOutBIdeal.main_arg0)
          ∧ r.2.mem ((c.tc : Thread Cert.GdnOutBIdeal.nD Cert.GdnOutBIdeal.τ).loc Cert.GdnOutBIdeal.main_arg1) = m ((c.tc : Thread Cert.GdnOutBIdeal.nD Cert.GdnOutBIdeal.τ).loc Cert.GdnOutBIdeal.main_arg1)
          ∧ r.2.mem ((c.tc : Thread Cert.GdnOutBIdeal.nD Cert.GdnOutBIdeal.τ).loc Cert.GdnOutBIdeal.main_arg2) = m ((c.tc : Thread Cert.GdnOutBIdeal.nD Cert.GdnOutBIdeal.τ).loc Cert.GdnOutBIdeal.main_arg2)
          ∧ r.2.mem ((c.tc : Thread Cert.GdnOutBIdeal.nD Cert.GdnOutBIdeal.τ).loc Cert.GdnOutBIdeal.main_arg3) = m ((c.tc : Thread Cert.GdnOutBIdeal.nD Cert.GdnOutBIdeal.τ).loc Cert.GdnOutBIdeal.main_arg3))
      ∧ θ_run (Cert.GdnOutBRefIdeal.defs (F := Ideal)) (onTc (τ := Cert.GdnOutBRefIdeal.τ) (Cert.GdnOutBRefIdeal.main (F := Ideal))) ⟨m', fun _ => 0, g'⟩ (fun r => ∀ c : Dev Cert.GdnOutBRefIdeal.nD,
          r.2.mem ((c.tc : Thread Cert.GdnOutBRefIdeal.nD Cert.GdnOutBRefIdeal.τ).loc Cert.GdnOutBRefIdeal.main_v49) = v0 c
          ∧ r.2.mem ((c.tc : Thread Cert.GdnOutBRefIdeal.nD Cert.GdnOutBRefIdeal.τ).loc Cert.GdnOutBRefIdeal.main_v50) = v1 c
          ∧ r.2.mem ((c.tc : Thread Cert.GdnOutBRefIdeal.nD Cert.GdnOutBRefIdeal.τ).loc Cert.GdnOutBRefIdeal.main_v51) = v2 c
          ∧ r.2.mem ((c.tc : Thread Cert.GdnOutBRefIdeal.nD Cert.GdnOutBRefIdeal.τ).loc Cert.GdnOutBRefIdeal.main_arg0) = m' ((c.tc : Thread Cert.GdnOutBRefIdeal.nD Cert.GdnOutBRefIdeal.τ).loc Cert.GdnOutBRefIdeal.main_arg0)
          ∧ r.2.mem ((c.tc : Thread Cert.GdnOutBRefIdeal.nD Cert.GdnOutBRefIdeal.τ).loc Cert.GdnOutBRefIdeal.main_arg1) = m' ((c.tc : Thread Cert.GdnOutBRefIdeal.nD Cert.GdnOutBRefIdeal.τ).loc Cert.GdnOutBRefIdeal.main_arg1)
          ∧ r.2.mem ((c.tc : Thread Cert.GdnOutBRefIdeal.nD Cert.GdnOutBRefIdeal.τ).loc Cert.GdnOutBRefIdeal.main_arg2) = m' ((c.tc : Thread Cert.GdnOutBRefIdeal.nD Cert.GdnOutBRefIdeal.τ).loc Cert.GdnOutBRefIdeal.main_arg2)
          ∧ r.2.mem ((c.tc : Thread Cert.GdnOutBRefIdeal.nD Cert.GdnOutBRefIdeal.τ).loc Cert.GdnOutBRefIdeal.main_arg3) = m' ((c.tc : Thread Cert.GdnOutBRefIdeal.nD Cert.GdnOutBRefIdeal.τ).loc Cert.GdnOutBRefIdeal.main_arg3))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v18) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v14) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_GdnOutF_GdnOutFIdeal : Prop :=
  True

def algebraic_GdnOutFIdeal_GdnOutFRefIdeal [hGdnOutFIdeal : Cert.GdnOutFIdeal.Facts] [hGdnOutFRefIdeal : Cert.GdnOutFRefIdeal.Facts] : Prop :=
  ∀ (m : (ℓ : Loc Cert.GdnOutFIdeal.nD Cert.GdnOutFIdeal.τ Cert.GdnOutFIdeal.sig) → Buf (Elt Ideal) ℓ) (g : Dev Cert.GdnOutFIdeal.nD → PrngReg)
    (m' : (ℓ : Loc Cert.GdnOutFRefIdeal.nD Cert.GdnOutFRefIdeal.τ Cert.GdnOutFRefIdeal.sig) → Buf (Elt Ideal) ℓ) (g' : Dev Cert.GdnOutFRefIdeal.nD → PrngReg), Pre_GdnOutFIdeal m →
    (∀ c : Dev Cert.GdnOutFIdeal.nD,
      m' ((c.tc : Thread Cert.GdnOutFRefIdeal.nD Cert.GdnOutFRefIdeal.τ).loc Cert.GdnOutFRefIdeal.main_arg0) = m ((c.tc : Thread Cert.GdnOutFIdeal.nD Cert.GdnOutFIdeal.τ).loc Cert.GdnOutFIdeal.main_arg0)
      ∧ m' ((c.tc : Thread Cert.GdnOutFRefIdeal.nD Cert.GdnOutFRefIdeal.τ).loc Cert.GdnOutFRefIdeal.main_arg1) = m ((c.tc : Thread Cert.GdnOutFIdeal.nD Cert.GdnOutFIdeal.τ).loc Cert.GdnOutFIdeal.main_arg1)
      ∧ m' ((c.tc : Thread Cert.GdnOutFRefIdeal.nD Cert.GdnOutFRefIdeal.τ).loc Cert.GdnOutFRefIdeal.main_arg2) = m ((c.tc : Thread Cert.GdnOutFIdeal.nD Cert.GdnOutFIdeal.τ).loc Cert.GdnOutFIdeal.main_arg2)) →
    ∃ (v0 : (c : Dev Cert.GdnOutFIdeal.nD) → Buf (Elt Ideal) ((c.tc : Thread Cert.GdnOutFIdeal.nD Cert.GdnOutFIdeal.τ).loc Cert.GdnOutFIdeal.main_v0)),
      θ_run (Cert.GdnOutFIdeal.defs (F := Ideal)) (onTc (τ := Cert.GdnOutFIdeal.τ) (Cert.GdnOutFIdeal.main (F := Ideal))) ⟨m, fun _ => 0, g⟩ (fun r => ∀ c : Dev Cert.GdnOutFIdeal.nD,
          r.2.mem ((c.tc : Thread Cert.GdnOutFIdeal.nD Cert.GdnOutFIdeal.τ).loc Cert.GdnOutFIdeal.main_v0) = v0 c
          ∧ r.2.mem ((c.tc : Thread Cert.GdnOutFIdeal.nD Cert.GdnOutFIdeal.τ).loc Cert.GdnOutFIdeal.main_arg0) = m ((c.tc : Thread Cert.GdnOutFIdeal.nD Cert.GdnOutFIdeal.τ).loc Cert.GdnOutFIdeal.main_arg0)
          ∧ r.2.mem ((c.tc : Thread Cert.GdnOutFIdeal.nD Cert.GdnOutFIdeal.τ).loc Cert.GdnOutFIdeal.main_arg1) = m ((c.tc : Thread Cert.GdnOutFIdeal.nD Cert.GdnOutFIdeal.τ).loc Cert.GdnOutFIdeal.main_arg1)
          ∧ r.2.mem ((c.tc : Thread Cert.GdnOutFIdeal.nD Cert.GdnOutFIdeal.τ).loc Cert.GdnOutFIdeal.main_arg2) = m ((c.tc : Thread Cert.GdnOutFIdeal.nD Cert.GdnOutFIdeal.τ).loc Cert.GdnOutFIdeal.main_arg2))
      ∧ θ_run (Cert.GdnOutFRefIdeal.defs (F := Ideal)) (onTc (τ := Cert.GdnOutFRefIdeal.τ) (Cert.GdnOutFRefIdeal.main (F := Ideal))) ⟨m', fun _ => 0, g'⟩ (fun r => ∀ c : Dev Cert.GdnOutFRefIdeal.nD,
          r.2.mem ((c.tc : Thread Cert.GdnOutFRefIdeal.nD Cert.GdnOutFRefIdeal.τ).loc Cert.GdnOutFRefIdeal.main_v20) = v0 c
          ∧ r.2.mem ((c.tc : Thread Cert.GdnOutFRefIdeal.nD Cert.GdnOutFRefIdeal.τ).loc Cert.GdnOutFRefIdeal.main_arg0) = m' ((c.tc : Thread Cert.GdnOutFRefIdeal.nD Cert.GdnOutFRefIdeal.τ).loc Cert.GdnOutFRefIdeal.main_arg0)
          ∧ r.2.mem ((c.tc : Thread Cert.GdnOutFRefIdeal.nD Cert.GdnOutFRefIdeal.τ).loc Cert.GdnOutFRefIdeal.main_arg1) = m' ((c.tc : Thread Cert.GdnOutFRefIdeal.nD Cert.GdnOutFRefIdeal.τ).loc Cert.GdnOutFRefIdeal.main_arg1)
          ∧ r.2.mem ((c.tc : Thread Cert.GdnOutFRefIdeal.nD Cert.GdnOutFRefIdeal.τ).loc Cert.GdnOutFRefIdeal.main_arg2) = m' ((c.tc : Thread Cert.GdnOutFRefIdeal.nD Cert.GdnOutFRefIdeal.τ).loc Cert.GdnOutFRefIdeal.main_arg2))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v32) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_ConvB_ConvBIdeal : Prop :=
  True

def algebraic_ConvBIdeal_ConvBRefIdeal_pre_finite_cotangent [hConvBIdeal : Cert.ConvBIdeal.Facts] [hConvBRefIdeal : Cert.ConvBRefIdeal.Facts] [hPre_finite_cotangent : Cert.Pre_finite_cotangent.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal_finite_cotangent m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)
      ∧ m' ((c.tc : Thread Cert.ConvBRefIdeal.nD Cert.ConvBRefIdeal.τ).loc Cert.ConvBRefIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v0_0)) (v1 : (c : Dev Cert.ConvBIdeal.nD) → Buf (Elt Ideal) ((c.tc : Thread Cert.ConvBIdeal.nD Cert.ConvBIdeal.τ).loc Cert.ConvBIdeal.main_v0_1)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0_0) = v0 c
          ∧ r.2.mem ((c.tc : Thread Cert.ConvBIdeal.nD Cert.ConvBIdeal.τ).loc Cert.ConvBIdeal.main_v0_1) = v1 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v79) = v0 c
          ∧ r.2.mem ((c.tc : Thread Cert.ConvBRefIdeal.nD Cert.ConvBRefIdeal.τ).loc Cert.ConvBRefIdeal.main_v76) = v1 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1)
          ∧ r.2.mem ((c.tc : Thread Cert.ConvBRefIdeal.nD Cert.ConvBRefIdeal.τ).loc Cert.ConvBRefIdeal.main_arg2) = m' ((c.tc : Thread Cert.ConvBRefIdeal.nD Cert.ConvBRefIdeal.τ).loc Cert.ConvBRefIdeal.main_arg2))

def Claim : Prop :=
  ∃ (hMerge : Cert.Merge.Facts) (hMergeIdeal : Cert.MergeIdeal.Facts) (hMergeRefIdeal : Cert.MergeRefIdeal.Facts) (hSb : Cert.Sb.Facts) (hSbIdeal : Cert.SbIdeal.Facts) (hSbRefIdeal : Cert.SbRefIdeal.Facts) (hFfTwoW : Cert.FfTwoW.Facts) (hFfTwoWIdeal : Cert.FfTwoWIdeal.Facts) (hFfTwoWRefIdeal : Cert.FfTwoWRefIdeal.Facts) (hFfOneW : Cert.FfOneW.Facts) (hFfOneWIdeal : Cert.FfOneWIdeal.Facts) (hFfOneWRefIdeal : Cert.FfOneWRefIdeal.Facts) (hOutW : Cert.OutW.Facts) (hOutWIdeal : Cert.OutWIdeal.Facts) (hOutWRefIdeal : Cert.OutWRefIdeal.Facts) (hUpW : Cert.UpW.Facts) (hUpWIdeal : Cert.UpWIdeal.Facts) (hUpWRefIdeal : Cert.UpWRefIdeal.Facts) (hUpPoolW : Cert.UpPoolW.Facts) (hUpPoolWIdeal : Cert.UpPoolWIdeal.Facts) (hUpPoolWRefIdeal : Cert.UpPoolWRefIdeal.Facts) (hInW : Cert.InW.Facts) (hInWIdeal : Cert.InWIdeal.Facts) (hInWRefIdeal : Cert.InWRefIdeal.Facts) (hOutX : Cert.OutX.Facts) (hOutXIdeal : Cert.OutXIdeal.Facts) (hOutXRefIdeal : Cert.OutXRefIdeal.Facts) (hUpX : Cert.UpX.Facts) (hUpXIdeal : Cert.UpXIdeal.Facts) (hUpXRefIdeal : Cert.UpXRefIdeal.Facts) (hUpPoolX : Cert.UpPoolX.Facts) (hUpPoolXIdeal : Cert.UpPoolXIdeal.Facts) (hUpPoolXRefIdeal : Cert.UpPoolXRefIdeal.Facts) (hFfTwoX : Cert.FfTwoX.Facts) (hFfTwoXIdeal : Cert.FfTwoXIdeal.Facts) (hFfTwoXRefIdeal : Cert.FfTwoXRefIdeal.Facts) (hFfOneX : Cert.FfOneX.Facts) (hFfOneXIdeal : Cert.FfOneXIdeal.Facts) (hFfOneXRefIdeal : Cert.FfOneXRefIdeal.Facts) (hInX : Cert.InX.Facts) (hInXIdeal : Cert.InXIdeal.Facts) (hInXRefIdeal : Cert.InXRefIdeal.Facts) (hInF : Cert.InF.Facts) (hInFIdeal : Cert.InFIdeal.Facts) (hInFRefIdeal : Cert.InFRefIdeal.Facts) (hGatesF : Cert.GatesF.Facts) (hGatesFIdeal : Cert.GatesFIdeal.Facts) (hGatesFRefIdeal : Cert.GatesFRefIdeal.Facts) (hUpF : Cert.UpF.Facts) (hUpFIdeal : Cert.UpFIdeal.Facts) (hUpFRefIdeal : Cert.UpFRefIdeal.Facts) (hUpPoolF : Cert.UpPoolF.Facts) (hUpPoolFIdeal : Cert.UpPoolFIdeal.Facts) (hUpPoolFRefIdeal : Cert.UpPoolFRefIdeal.Facts) (hOutF : Cert.OutF.Facts) (hOutFIdeal : Cert.OutFIdeal.Facts) (hOutFRefIdeal : Cert.OutFRefIdeal.Facts) (hFfOneF : Cert.FfOneF.Facts) (hFfOneFIdeal : Cert.FfOneFIdeal.Facts) (hFfOneFRefIdeal : Cert.FfOneFRefIdeal.Facts) (hFfTwoF : Cert.FfTwoF.Facts) (hFfTwoFIdeal : Cert.FfTwoFIdeal.Facts) (hFfTwoFRefIdeal : Cert.FfTwoFRefIdeal.Facts) (hRmsB : Cert.RmsB.Facts) (hRmsBIdeal : Cert.RmsBIdeal.Facts) (hRmsBRefIdeal : Cert.RmsBRefIdeal.Facts) (hGdnOutB : Cert.GdnOutB.Facts) (hGdnOutBIdeal : Cert.GdnOutBIdeal.Facts) (hGdnOutBRefIdeal : Cert.GdnOutBRefIdeal.Facts) (hMergeF : Cert.MergeF.Facts) (hMergeFIdeal : Cert.MergeFIdeal.Facts) (hMergeFRefIdeal : Cert.MergeFRefIdeal.Facts) (hRmsF : Cert.RmsF.Facts) (hRmsFIdeal : Cert.RmsFIdeal.Facts) (hRmsFRefIdeal : Cert.RmsFRefIdeal.Facts) (hGdnOutF : Cert.GdnOutF.Facts) (hGdnOutFIdeal : Cert.GdnOutFIdeal.Facts) (hGdnOutFRefIdeal : Cert.GdnOutFRefIdeal.Facts) (hConvF : Cert.ConvF.Facts) (hConvFIdeal : Cert.ConvFIdeal.Facts) (hConvFRefIdeal : Cert.ConvFRefIdeal.Facts) (hConvB : Cert.ConvB.Facts) (hConvBIdeal : Cert.ConvBIdeal.Facts) (hConvBRefIdeal : Cert.ConvBRefIdeal.Facts) (hPre_finite_cotangent : Cert.Pre_finite_cotangent.Facts),
    quiescent_Merge (hMerge := hMerge)
    ∧ quiescent_MergeIdeal (hMergeIdeal := hMergeIdeal)
    ∧ quiescent_MergeRefIdeal (hMergeRefIdeal := hMergeRefIdeal)
    ∧ quiescent_Sb (hSb := hSb)
    ∧ quiescent_SbIdeal (hSbIdeal := hSbIdeal)
    ∧ quiescent_SbRefIdeal (hSbRefIdeal := hSbRefIdeal)
    ∧ quiescent_FfTwoW (hFfTwoW := hFfTwoW)
    ∧ quiescent_FfTwoWIdeal (hFfTwoWIdeal := hFfTwoWIdeal)
    ∧ quiescent_FfTwoWRefIdeal (hFfTwoWRefIdeal := hFfTwoWRefIdeal)
    ∧ quiescent_FfOneW (hFfOneW := hFfOneW)
    ∧ quiescent_FfOneWIdeal (hFfOneWIdeal := hFfOneWIdeal)
    ∧ quiescent_FfOneWRefIdeal (hFfOneWRefIdeal := hFfOneWRefIdeal)
    ∧ quiescent_OutW (hOutW := hOutW)
    ∧ quiescent_OutWIdeal (hOutWIdeal := hOutWIdeal)
    ∧ quiescent_OutWRefIdeal (hOutWRefIdeal := hOutWRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpPoolW (hUpPoolW := hUpPoolW)
    ∧ quiescent_UpPoolWIdeal (hUpPoolWIdeal := hUpPoolWIdeal)
    ∧ quiescent_UpPoolWRefIdeal (hUpPoolWRefIdeal := hUpPoolWRefIdeal)
    ∧ quiescent_InW (hInW := hInW)
    ∧ quiescent_InWIdeal (hInWIdeal := hInWIdeal)
    ∧ quiescent_InWRefIdeal (hInWRefIdeal := hInWRefIdeal)
    ∧ quiescent_OutX (hOutX := hOutX)
    ∧ quiescent_OutXIdeal (hOutXIdeal := hOutXIdeal)
    ∧ quiescent_OutXRefIdeal (hOutXRefIdeal := hOutXRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpPoolX (hUpPoolX := hUpPoolX)
    ∧ quiescent_UpPoolXIdeal (hUpPoolXIdeal := hUpPoolXIdeal)
    ∧ quiescent_UpPoolXRefIdeal (hUpPoolXRefIdeal := hUpPoolXRefIdeal)
    ∧ quiescent_FfTwoX (hFfTwoX := hFfTwoX)
    ∧ quiescent_FfTwoXIdeal (hFfTwoXIdeal := hFfTwoXIdeal)
    ∧ quiescent_FfTwoXRefIdeal (hFfTwoXRefIdeal := hFfTwoXRefIdeal)
    ∧ quiescent_FfOneX (hFfOneX := hFfOneX)
    ∧ quiescent_FfOneXIdeal (hFfOneXIdeal := hFfOneXIdeal)
    ∧ quiescent_FfOneXRefIdeal (hFfOneXRefIdeal := hFfOneXRefIdeal)
    ∧ quiescent_InX (hInX := hInX)
    ∧ quiescent_InXIdeal (hInXIdeal := hInXIdeal)
    ∧ quiescent_InXRefIdeal (hInXRefIdeal := hInXRefIdeal)
    ∧ quiescent_InF (hInF := hInF)
    ∧ quiescent_InFIdeal (hInFIdeal := hInFIdeal)
    ∧ quiescent_InFRefIdeal (hInFRefIdeal := hInFRefIdeal)
    ∧ quiescent_GatesF (hGatesF := hGatesF)
    ∧ quiescent_GatesFIdeal (hGatesFIdeal := hGatesFIdeal)
    ∧ quiescent_GatesFRefIdeal (hGatesFRefIdeal := hGatesFRefIdeal)
    ∧ quiescent_UpF (hUpF := hUpF)
    ∧ quiescent_UpFIdeal (hUpFIdeal := hUpFIdeal)
    ∧ quiescent_UpFRefIdeal (hUpFRefIdeal := hUpFRefIdeal)
    ∧ quiescent_UpPoolF (hUpPoolF := hUpPoolF)
    ∧ quiescent_UpPoolFIdeal (hUpPoolFIdeal := hUpPoolFIdeal)
    ∧ quiescent_UpPoolFRefIdeal (hUpPoolFRefIdeal := hUpPoolFRefIdeal)
    ∧ quiescent_OutF (hOutF := hOutF)
    ∧ quiescent_OutFIdeal (hOutFIdeal := hOutFIdeal)
    ∧ quiescent_OutFRefIdeal (hOutFRefIdeal := hOutFRefIdeal)
    ∧ quiescent_FfOneF (hFfOneF := hFfOneF)
    ∧ quiescent_FfOneFIdeal (hFfOneFIdeal := hFfOneFIdeal)
    ∧ quiescent_FfOneFRefIdeal (hFfOneFRefIdeal := hFfOneFRefIdeal)
    ∧ quiescent_FfTwoF (hFfTwoF := hFfTwoF)
    ∧ quiescent_FfTwoFIdeal (hFfTwoFIdeal := hFfTwoFIdeal)
    ∧ quiescent_FfTwoFRefIdeal (hFfTwoFRefIdeal := hFfTwoFRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_GdnOutB (hGdnOutB := hGdnOutB)
    ∧ quiescent_GdnOutBIdeal (hGdnOutBIdeal := hGdnOutBIdeal)
    ∧ quiescent_GdnOutBRefIdeal (hGdnOutBRefIdeal := hGdnOutBRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_GdnOutF (hGdnOutF := hGdnOutF)
    ∧ quiescent_GdnOutFIdeal (hGdnOutFIdeal := hGdnOutFIdeal)
    ∧ quiescent_GdnOutFRefIdeal (hGdnOutFRefIdeal := hGdnOutFRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_ConvB (hConvB := hConvB)
    ∧ quiescent_ConvBIdeal (hConvBIdeal := hConvBIdeal)
    ∧ quiescent_ConvBIdeal_pre_finite_cotangent (hConvBIdeal := hConvBIdeal) (hPre_finite_cotangent := hPre_finite_cotangent)
    ∧ quiescent_ConvBRefIdeal (hConvBRefIdeal := hConvBRefIdeal)
    ∧ quiescent_ConvBRefIdeal_pre_finite_cotangent (hConvBRefIdeal := hConvBRefIdeal) (hPre_finite_cotangent := hPre_finite_cotangent)
    ∧ preserves_Merge_MergeIdeal
    ∧ algebraic_MergeIdeal_MergeRefIdeal (hMergeIdeal := hMergeIdeal) (hMergeRefIdeal := hMergeRefIdeal)
    ∧ preserves_Sb_SbIdeal
    ∧ preserves_FfTwoW_FfTwoWIdeal
    ∧ algebraic_FfTwoWIdeal_FfTwoWRefIdeal (hFfTwoWIdeal := hFfTwoWIdeal) (hFfTwoWRefIdeal := hFfTwoWRefIdeal)
    ∧ preserves_FfOneW_FfOneWIdeal
    ∧ algebraic_FfOneWIdeal_FfOneWRefIdeal (hFfOneWIdeal := hFfOneWIdeal) (hFfOneWRefIdeal := hFfOneWRefIdeal)
    ∧ preserves_OutW_OutWIdeal
    ∧ algebraic_OutWIdeal_OutWRefIdeal (hOutWIdeal := hOutWIdeal) (hOutWRefIdeal := hOutWRefIdeal)
    ∧ preserves_UpW_UpWIdeal
    ∧ algebraic_UpWIdeal_UpWRefIdeal (hUpWIdeal := hUpWIdeal) (hUpWRefIdeal := hUpWRefIdeal)
    ∧ preserves_UpPoolW_UpPoolWIdeal
    ∧ algebraic_UpPoolWIdeal_UpPoolWRefIdeal (hUpPoolWIdeal := hUpPoolWIdeal) (hUpPoolWRefIdeal := hUpPoolWRefIdeal)
    ∧ preserves_InW_InWIdeal
    ∧ algebraic_InWIdeal_InWRefIdeal (hInWIdeal := hInWIdeal) (hInWRefIdeal := hInWRefIdeal)
    ∧ preserves_OutX_OutXIdeal
    ∧ algebraic_OutXIdeal_OutXRefIdeal (hOutXIdeal := hOutXIdeal) (hOutXRefIdeal := hOutXRefIdeal)
    ∧ preserves_UpX_UpXIdeal
    ∧ algebraic_UpXIdeal_UpXRefIdeal (hUpXIdeal := hUpXIdeal) (hUpXRefIdeal := hUpXRefIdeal)
    ∧ preserves_UpPoolX_UpPoolXIdeal
    ∧ algebraic_UpPoolXIdeal_UpPoolXRefIdeal (hUpPoolXIdeal := hUpPoolXIdeal) (hUpPoolXRefIdeal := hUpPoolXRefIdeal)
    ∧ preserves_FfTwoX_FfTwoXIdeal
    ∧ algebraic_FfTwoXIdeal_FfTwoXRefIdeal (hFfTwoXIdeal := hFfTwoXIdeal) (hFfTwoXRefIdeal := hFfTwoXRefIdeal)
    ∧ preserves_FfOneX_FfOneXIdeal
    ∧ algebraic_FfOneXIdeal_FfOneXRefIdeal (hFfOneXIdeal := hFfOneXIdeal) (hFfOneXRefIdeal := hFfOneXRefIdeal)
    ∧ preserves_InX_InXIdeal
    ∧ algebraic_InXIdeal_InXRefIdeal (hInXIdeal := hInXIdeal) (hInXRefIdeal := hInXRefIdeal)
    ∧ preserves_InF_InFIdeal
    ∧ algebraic_InFIdeal_InFRefIdeal (hInFIdeal := hInFIdeal) (hInFRefIdeal := hInFRefIdeal)
    ∧ preserves_GatesF_GatesFIdeal
    ∧ algebraic_GatesFIdeal_GatesFRefIdeal (hGatesFIdeal := hGatesFIdeal) (hGatesFRefIdeal := hGatesFRefIdeal)
    ∧ preserves_UpF_UpFIdeal
    ∧ algebraic_UpFIdeal_UpFRefIdeal (hUpFIdeal := hUpFIdeal) (hUpFRefIdeal := hUpFRefIdeal)
    ∧ preserves_UpPoolF_UpPoolFIdeal
    ∧ algebraic_UpPoolFIdeal_UpPoolFRefIdeal (hUpPoolFIdeal := hUpPoolFIdeal) (hUpPoolFRefIdeal := hUpPoolFRefIdeal)
    ∧ preserves_OutF_OutFIdeal
    ∧ algebraic_OutFIdeal_OutFRefIdeal (hOutFIdeal := hOutFIdeal) (hOutFRefIdeal := hOutFRefIdeal)
    ∧ preserves_FfOneF_FfOneFIdeal
    ∧ algebraic_FfOneFIdeal_FfOneFRefIdeal (hFfOneFIdeal := hFfOneFIdeal) (hFfOneFRefIdeal := hFfOneFRefIdeal)
    ∧ preserves_FfTwoF_FfTwoFIdeal
    ∧ algebraic_FfTwoFIdeal_FfTwoFRefIdeal (hFfTwoFIdeal := hFfTwoFIdeal) (hFfTwoFRefIdeal := hFfTwoFRefIdeal)
    ∧ preserves_RmsB_RmsBIdeal
    ∧ algebraic_RmsBIdeal_RmsBRefIdeal (hRmsBIdeal := hRmsBIdeal) (hRmsBRefIdeal := hRmsBRefIdeal)
    ∧ preserves_GdnOutB_GdnOutBIdeal
    ∧ algebraic_GdnOutBIdeal_GdnOutBRefIdeal (hGdnOutBIdeal := hGdnOutBIdeal) (hGdnOutBRefIdeal := hGdnOutBRefIdeal)
    ∧ preserves_MergeF_MergeFIdeal
    ∧ algebraic_MergeFIdeal_MergeFRefIdeal (hMergeFIdeal := hMergeFIdeal) (hMergeFRefIdeal := hMergeFRefIdeal)
    ∧ preserves_RmsF_RmsFIdeal
    ∧ algebraic_RmsFIdeal_RmsFRefIdeal (hRmsFIdeal := hRmsFIdeal) (hRmsFRefIdeal := hRmsFRefIdeal)
    ∧ preserves_GdnOutF_GdnOutFIdeal
    ∧ algebraic_GdnOutFIdeal_GdnOutFRefIdeal (hGdnOutFIdeal := hGdnOutFIdeal) (hGdnOutFRefIdeal := hGdnOutFRefIdeal)
    ∧ preserves_ConvF_ConvFIdeal
    ∧ algebraic_ConvFIdeal_ConvFRefIdeal (hConvFIdeal := hConvFIdeal) (hConvFRefIdeal := hConvFRefIdeal)
    ∧ preserves_ConvB_ConvBIdeal
    ∧ algebraic_ConvBIdeal_ConvBRefIdeal_pre_finite_cotangent (hConvBIdeal := hConvBIdeal) (hConvBRefIdeal := hConvBRefIdeal) (hPre_finite_cotangent := hPre_finite_cotangent)
-- ==== Pre_finite_cotangent.lean ====
abbrev S2048x6144 : Shape := ⟨2, ![2048, 6144]⟩
abbrev S4x2304 : Shape := ⟨2, ![4, 2304]⟩
abbrev S2048x2304 : Shape := ⟨2, ![2048, 2304]⟩
abbrev S_ : Shape := ⟨0, ![]⟩

class Facts : Prop where
  bcast_S_S2048x2304 : S_.BroadcastsInDim S2048x2304 (![] : Fin 0 → Fin S2048x2304.rank)

variable [Facts]

def fn {F : FTy → Type} [FloatOps F] (main_arg0 : FVec F S2048x6144 .f32) (main_arg1 : FVec F S4x2304 .f32) (main_arg2 : FVec F S2048x2304 .f32) : IVec S2048x2304 1 :=
  let main_v0 : FVec F S2048x2304 .f32 := Host.absf main_arg2
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  main_v2
-- ==== Merge.lean ====
abbrev S2048x6144 : Shape := ⟨2, ![2048, 6144]⟩
abbrev S2048x2048 : Shape := ⟨2, ![2048, 2048]⟩
abbrev S128x6144 : Shape := ⟨2, ![128, 6144]⟩
abbrev S128x2048 : Shape := ⟨2, ![128, 2048]⟩
abbrev S128x4096 : Shape := ⟨2, ![128, 4096]⟩

abbrev nBuf : Space → Nat
  | .hbm => 9
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S128x6144, .bf16⟩
  | .local _ .vmem, ⟨1, _⟩ => ⟨S128x6144, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x6144, .bf16⟩
  | .local _ .vmem, ⟨11, _⟩ => ⟨S128x6144, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S2048x6144 : Shape := ⟨2, ![2048, 6144]⟩
abbrev S2048x2048 : Shape := ⟨2, ![2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S_, .f32⟩
  | .hbm, ⟨18, _⟩ => ⟨S2048x6144, .f32⟩
  | .hbm, ⟨19, _⟩ => ⟨S2048x6144, .f32⟩
  | .hbm, ⟨20, _⟩ => ⟨S2048x6144, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x6144, .f32⟩
  | .hbm, ⟨37, _⟩ => ⟨S2048x6144, .f32⟩
  | .hbm, ⟨38, _⟩ => ⟨S2048x6144, .bf16⟩
  | .hbm, ⟨39, _⟩ => ⟨S2048x2048, .bf16⟩
  | .hbm, ⟨40, _⟩ => ⟨S2048x2048, .bf16⟩
  | .hbm, ⟨41, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Sb.lean ====
abbrev S2048x6144 : Shape := ⟨2, ![2048, 6144]⟩
abbrev S2048x768 : Shape := ⟨2, ![2048, 768]⟩
abbrev S256x384 : Shape := ⟨2, ![256, 384]⟩
abbrev S2048x384 : Shape := ⟨2, ![2048, 384]⟩
abbrev S8x3x256x256 : Shape := ⟨4, ![8, 3, 256, 256]⟩
abbrev S256x128 : Shape := ⟨2, ![256, 128]⟩
abbrev S1x256x128 : Shape := ⟨3, ![1, 256, 128]⟩
abbrev S3x256x128 : Shape := ⟨3, ![3, 256, 128]⟩
abbrev S3x256x1 : Shape := ⟨3, ![3, 256, 1]⟩
abbrev S3x256x256 : Shape := ⟨3, ![3, 256, 256]⟩
abbrev S256x256 : Shape := ⟨2, ![256, 256]⟩
abbrev S1x256x256 : Shape := ⟨3, ![1, 256, 256]⟩
abbrev S768x256 : Shape := ⟨2, ![768, 256]⟩
abbrev S1x3x256x256 : Shape := ⟨4, ![1, 3, 256, 256]⟩
abbrev S3x256 : Shape := ⟨2, ![3, 256]⟩

abbrev nBuf : Space → Nat
  | .hbm => 5
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S2048x768, .bf16⟩
  | .hbm, ⟨2, _⟩ => ⟨S2048x768, .bf16⟩
  | .hbm, ⟨3, _⟩ => ⟨S2048x768, .bf16⟩
  | .hbm, ⟨4, _⟩ => ⟨S2048x768, .bf16⟩
  | .local _ .vmem, ⟨0, _⟩ => ⟨S256x384, .f32⟩
  | .local _ .vmem, ⟨1, _⟩ => ⟨S256x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S256x384, .bf16⟩
  | .local _ .vmem, ⟨7, _⟩ => ⟨S256x384, .bf16⟩
  | .local _ .vmem, ⟨8, _⟩ => ⟨S256x384, .bf16⟩
  | .local _ .vmem, ⟨9, _⟩ => ⟨S256x384, .bf16⟩
  | .local _ .vmem, ⟨10, _⟩ => ⟨S2048x384, .bf16⟩
  | .local _ .vmem, ⟨11, _⟩ => ⟨S2048x384, .bf16⟩
  | .local _ .vmem, ⟨12, _⟩ => ⟨S2048x384, .bf16⟩
  | .local _ .vmem, ⟨13, _⟩ => ⟨S2048x384, .bf16⟩
  | .local _ .vmem, ⟨14, _⟩ => ⟨S8x3x256x256, .f32⟩
  | .local _ .vmem, ⟨15, _⟩ => ⟨S8x3x256x256, .f32⟩
  | .local _ .vmem, ⟨16, _⟩ => ⟨S2048x384, .f32⟩
  | .local _ .vmem, ⟨17, _⟩ => ⟨S2048x384, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c0_i32_5 : BitVec 32 := 0#32
  let v24 : BitVec 32 := Scalar.subi arg1 c0_i32_5
  let c256_i32 : BitVec 32 := 256#32
  let v25 : BitVec 32 := Scalar.muli v24 c256_i32
  v25
def k0_mult2 (i : grid0.Coords) : BitVec 32 :=
  let arg1 : BitVec 32 := BitVec.ofNat 32 (i 1).val
  let c0_i32_5 : BitVec 32 := 0#32
  let v24 : BitVec 32 := Scalar.subi arg1 c0_i32_5
  let c256_i32_6 : BitVec 32 := 256#32
  let v27 : BitVec 32 := Scalar.muli v24 c256_i32_6
  v27
def k0_off1 (i : grid0.Coords) : Fin 2 → Nat :=
  let arg1 : BitVec 32 := BitVec.ofNat 32 (i 1).val
  let c0_i32_5 : BitVec 32 := 0#32
  let v24 : BitVec 32 := Scalar.subi arg1 c0_i32_5
  let c256_i32_6 : BitVec 32 := 256#32
  let v27 : BitVec 32 := Scalar.muli v24 c256_i32_6
  let v28 : BitVec 32 := v27
  let v29 : Index := Scalar.indexCast v28
  let c0_7 : Index := 0#32
  ![v29.toNat, 0]
def k0_off2 (i : grid0.Coords) : Fin 4 → Nat :=
  let arg1 : BitVec 32 := BitVec.ofNat 32 (i 1).val
  let c0_i32_5 : BitVec 32 := 0#32
  let v24 : BitVec 32 := Scalar.subi arg1 c0_i32_5
  let v103 : Index := Scalar.indexCast v24
  let c0_20 : Index := 0#32
  let c0_21 : Index := 0#32
  let c0_22 : Index := 0#32
  ![v103.toNat, 0, 0, 0]
def k0_off3 (i : grid0.Coords) : Fin 2 → Nat :=
  let arg1 : BitVec 32 := BitVec.ofNat 32 (i 1).val
  let c0_i32_5 : BitVec 32 := 0#32
  let v24 : BitVec 32 := Scalar.subi arg1 c0_i32_5
  let c256_i32 : BitVec 32 := 256#32
  let v25 : BitVec 32 := Scalar.muli v24 c256_i32
  let v26 : BitVec 32 := v25
  let v113 : Index := Scalar.indexCast v26
  let c0_27 : Index := 0#32
  ![v113.toNat, 0]
def k0_off4 (i : grid0.Coords) : Fin 2 → Nat :=
  let arg1 : BitVec 32 := BitVec.ofNat 32 (i 1).val
  let c0_i32_5 : BitVec 32 := 0#32
  let v24 : BitVec 32 := Scalar.subi arg1 c0_i32_5
  let c256_i32 : BitVec 32 := 256#32
  let v25 : BitVec 32 := Scalar.muli v24 c256_i32
  let v26 : BitVec 32 := v25
  let v122 : Index := Scalar.indexCast v26
  let c128 : Index := 128#32
  ![v122.toNat, 128]
def k0_off5 (i : grid0.Coords) : Fin 2 → Nat :=
  let arg1 : BitVec 32 := BitVec.ofNat 32 (i 1).val
  let c0_i32_5 : BitVec 32 := 0#32
  let v24 : BitVec 32 := Scalar.subi arg1 c0_i32_5
  let c256_i32 : BitVec 32 := 256#32
  let v25 : BitVec 32 := Scalar.muli v24 c256_i32
  let v26 : BitVec 32 := v25
  let v131 : Index := Scalar.indexCast v26
  let c256 : Index := 256#32
  ![v131.toNat, 256]
@[reducible] def k0_t1_loop (i : grid0.Coords) : Scf.Loop 32 :=
  let c1_i32_32 : BitVec 32 := 1#32
  let arg1 : BitVec 32 := BitVec.ofNat 32 (i 1).val
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_34 : BitVec 32 := 1#32
  ⟨c1_i32_32, v147, c1_i32_34⟩
def k0_mult3 (i : grid0.Coords) (k0_t1 : Fin (k0_t1_loop i).trips) : BitVec 32 :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_72 : BitVec 32 := 256#32
  let v260 : BitVec 32 := Scalar.muli v259 c256_i32_72
  v260
def k0_mult4 (i : grid0.Coords) (k0_t1 : Fin (k0_t1_loop i).trips) : BitVec 32 :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_73 : BitVec 32 := 256#32
  let v262 : BitVec 32 := Scalar.muli v259 c256_i32_73
  v262
def k0_off6 (i : grid0.Coords) (k0_t1 : Fin (k0_t1_loop i).trips) : Fin 2 → Nat :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_73 : BitVec 32 := 256#32
  let v262 : BitVec 32 := Scalar.muli v259 c256_i32_73
  let v263 : BitVec 32 := v262
  let v264 : Index := Scalar.indexCast v263
  let c0_74 : Index := 0#32
  ![v264.toNat, 0]
def k0_off7 (i : grid0.Coords) (k0_t1 : Fin (k0_t1_loop i).trips) : Fin 4 → Nat :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let v327 : Index := Scalar.indexCast v259
  let c0_85 : Index := 0#32
  let c0_86 : Index := 0#32
  let c0_87 : Index := 0#32
  ![v327.toNat, 0, 0, 0]
def k0_off8 (i : grid0.Coords) (k0_t1 : Fin (k0_t1_loop i).trips) : Fin 2 → Nat :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_72 : BitVec 32 := 256#32
  let v260 : BitVec 32 := Scalar.muli v259 c256_i32_72
  let v261 : BitVec 32 := v260
  let v337 : Index := Scalar.indexCast v261
  let c0_92 : Index := 0#32
  ![v337.toNat, 0]
def k0_off9 (i : grid0.Coords) (k0_t1 : Fin (k0_t1_loop i).trips) : Fin 2 → Nat :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_72 : BitVec 32 := 256#32
  let v260 : BitVec 32 := Scalar.muli v259 c256_i32_72
  let v261 : BitVec 32 := v260
  let v346 : Index := Scalar.indexCast v261
  let c128_94 : Index := 128#32
  ![v346.toNat, 128]
def k0_off10 (i : grid0.Coords) (k0_t1 : Fin (k0_t1_loop i).trips) : Fin 2 → Nat :=
  let arg1 : BitVec 32 := BitVec.ofNat 32 (i 1).val
  let c1_i32_32 : BitVec 32 := 1#32
  let c1_i32_34 : BitVec 32 := 1#32
  let arg13 : BitVec 32 := Scf.iv c1_i32_32 c1_i32_34 k0_t1
  let v259 : BitVec 32 := Scalar.subi arg1 arg13
  let c256_i32_72 : BitVec 32 := 256#32
  let v260 : BitVec 32 := Scalar.muli v259 c256_i32_72
  let v261 : BitVec 32 := v260
  let v355 : Index := Scalar.indexCast v261
  let c256_96 : Index := 256#32
  ![v355.toNat, 256]
@[reducible] def k0_t2_loop (i : grid0.Coords) : Scf.Loop 32 :=
  let c1_i32_32 : BitVec 32 := 1#32
  let arg1 : BitVec 32 := BitVec.ofNat 32 (i 1).val
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let v144 : BitVec 32 := Scalar.addi c1_i32_32 v143
  let c1_i32_35 : BitVec 32 := 1#32
  ⟨v147, v144, c1_i32_35⟩
def k0_mult5 (i : grid0.Coords) (k0_t2 : Fin (k0_t2_loop i).trips) : BitVec 32 :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_72 : BitVec 32 := 256#32
  let v260 : BitVec 32 := Scalar.muli v259 c256_i32_72
  v260
def k0_mult6 (i : grid0.Coords) (k0_t2 : Fin (k0_t2_loop i).trips) : BitVec 32 :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_73 : BitVec 32 := 256#32
  let v262 : BitVec 32 := Scalar.muli v259 c256_i32_73
  v262
def k0_off11 (i : grid0.Coords) (k0_t2 : Fin (k0_t2_loop i).trips) : Fin 2 → Nat :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_73 : BitVec 32 := 256#32
  let v262 : BitVec 32 := Scalar.muli v259 c256_i32_73
  let v263 : BitVec 32 := v262
  let v264 : Index := Scalar.indexCast v263
  let c0_74 : Index := 0#32
  ![v264.toNat, 0]
def k0_off12 (i : grid0.Coords) (k0_t2 : Fin (k0_t2_loop i).trips) : Fin 4 → Nat :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let v327 : Index := Scalar.indexCast v259
  let c0_85 : Index := 0#32
  let c0_86 : Index := 0#32
  let c0_87 : Index := 0#32
  ![v327.toNat, 0, 0, 0]
def k0_off13 (i : grid0.Coords) (k0_t2 : Fin (k0_t2_loop i).trips) : Fin 2 → Nat :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_72 : BitVec 32 := 256#32
  let v260 : BitVec 32 := Scalar.muli v259 c256_i32_72
  let v261 : BitVec 32 := v260
  let v337 : Index := Scalar.indexCast v261
  let c0_92 : Index := 0#32
  ![v337.toNat, 0]
def k0_off14 (i : grid0.Coords) (k0_t2 : Fin (k0_t2_loop i).trips) : Fin 2 → Nat :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_72 : BitVec 32 := 256#32
  let v260 : BitVec 32 := Scalar.muli v259 c256_i32_72
  let v261 : BitVec 32 := v260
  let v346 : Index := Scalar.indexCast v261
  let c128_94 : Index := 128#32
  ![v346.toNat, 128]
def k0_off15 (i : grid0.Coords) (k0_t2 : Fin (k0_t2_loop i).trips) : Fin 2 → Nat :=
  let arg1 : BitVec 32 := BitVec.ofNat 32 (i 1).val
  let c1_i32_32 : BitVec 32 := 1#32
  let c1_i32 : BitVec 32 := 1#32
  let v22 : BitVec 32 := Scalar.addi arg1 c1_i32
  let v143 : BitVec 32 := Scalar.subi v22 c1_i32_32
  let c1_i32_33 : BitVec 32 := 1#32
  let v145 : BitVec 32 := Scalar.divsi v143 c1_i32_33
  let v146 : BitVec 32 := Scalar.muli v145 c1_i32_33
  let v147 : BitVec 32 := Scalar.addi c1_i32_32 v146
  let c1_i32_35 : BitVec 32 := 1#32
  let arg13 : BitVec 32 := Scf.iv v147 c1_i32_35 k0_t2
  let v259 : BitVec 32 := Scalar.subi arg1 arg13
  let c256_i32_72 : BitVec 32 := 256#32
  let v260 : BitVec 32 := Scalar.muli v259 c256_i32_72
  let v261 : BitVec 32 := v260
  let v355 : Index := Scalar.indexCast v261
  let c256_96 : Index := 256#32
  ![v355.toNat, 256]
@[reducible] def k0_t3_loop (i : grid0.Coords) : Scf.Loop 32 :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_40 : BitVec 32 := 1#32
  ⟨c0_i32_38, v156, c1_i32_40⟩
def k0_mult7 (i : grid0.Coords) (k0_t3 : Fin (k0_t3_loop i).trips) : BitVec 32 :=
  let c0_i32_38 : BitVec 32 := 0#32
  let c1_i32_40 : BitVec 32 := 1#32
  let arg13 : BitVec 32 := Scf.iv c0_i32_38 c1_i32_40 k0_t3
  let c256_i32_72 : BitVec 32 := 256#32
  let v259 : BitVec 32 := Scalar.muli arg13 c256_i32_72
  v259
def k0_off16 (i : grid0.Coords) (k0_t3 : Fin (k0_t3_loop i).trips) : Fin 4 → Nat :=
  let c0_i32_38 : BitVec 32 := 0#32
  let c1_i32_40 : BitVec 32 := 1#32
  let arg13 : BitVec 32 := Scf.iv c0_i32_38 c1_i32_40 k0_t3
  let v261 : Index := Scalar.indexCast arg13
  let c0_73 : Index := 0#32
  let c0_74 : Index := 0#32
  let c0_75 : Index := 0#32
  ![v261.toNat, 0, 0, 0]
def k0_off17 (i : grid0.Coords) (k0_t3 : Fin (k0_t3_loop i).trips) : Fin 2 → Nat :=
  let c0_i32_38 : BitVec 32 := 0#32
  let c1_i32_40 : BitVec 32 := 1#32
  let arg13 : BitVec 32 := Scf.iv c0_i32_38 c1_i32_40 k0_t3
  let c256_i32_72 : BitVec 32 := 256#32
  let v259 : BitVec 32 := Scalar.muli arg13 c256_i32_72
  let v260 : BitVec 32 := v259
  let v291 : Index := Scalar.indexCast v260
  let c0_82 : Index := 0#32
  ![v291.toNat, 0]
def k0_off18 (i : grid0.Coords) (k0_t3 : Fin (k0_t3_loop i).trips) : Fin 2 → Nat :=
  let c0_i32_38 : BitVec 32 := 0#32
  let c1_i32_40 : BitVec 32 := 1#32
  let arg13 : BitVec 32 := Scf.iv c0_i32_38 c1_i32_40 k0_t3
  let c256_i32_72 : BitVec 32 := 256#32
  let v259 : BitVec 32 := Scalar.muli arg13 c256_i32_72
  let v260 : BitVec 32 := v259
  let v302 : Index := Scalar.indexCast v260
  let c0_84 : Index := 0#32
  ![v302.toNat, 0]
def k0_off19 (i : grid0.Coords) (k0_t3 : Fin (k0_t3_loop i).trips) : Fin 2 → Nat :=
  let c0_i32_38 : BitVec 32 := 0#32
  let c1_i32_40 : BitVec 32 := 1#32
  let arg13 : BitVec 32 := Scf.iv c0_i32_38 c1_i32_40 k0_t3
  let c256_i32_72 : BitVec 32 := 256#32
  let v259 : BitVec 32 := Scalar.muli arg13 c256_i32_72
  let v260 : BitVec 32 := v259
  let v311 : Index := Scalar.indexCast v260
  let c128_86 : Index := 128#32
  ![v311.toNat, 128]
def k0_off20 (i : grid0.Coords) (k0_t3 : Fin (k0_t3_loop i).trips) : Fin 2 → Nat :=
  let c0_i32_38 : BitVec 32 := 0#32
  let c1_i32_40 : BitVec 32 := 1#32
  let arg13 : BitVec 32 := Scf.iv c0_i32_38 c1_i32_40 k0_t3
  let c256_i32_72 : BitVec 32 := 256#32
  let v259 : BitVec 32 := Scalar.muli arg13 c256_i32_72
  let v260 : BitVec 32 := v259
  let v320 : Index := Scalar.indexCast v260
  let c256_88 : Index := 256#32
  ![v320.toNat, 256]
@[reducible] def k0_t4_loop (i : grid0.Coords) : Scf.Loop 32 :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let v153 : BitVec 32 := Scalar.addi c0_i32_38 v152
  let c1_i32_41 : BitVec 32 := 1#32
  ⟨v156, v153, c1_i32_41⟩
def k0_mult8 (i : grid0.Coords) (k0_t4 : Fin (k0_t4_loop i).trips) : BitVec 32 :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let c256_i32_72 : BitVec 32 := 256#32
  let v259 : BitVec 32 := Scalar.muli arg13 c256_i32_72
  v259
def k0_off21 (i : grid0.Coords) (k0_t4 : Fin (k0_t4_loop i).trips) : Fin 4 → Nat :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let v261 : Index := Scalar.indexCast arg13
  let c0_73 : Index := 0#32
  let c0_74 : Index := 0#32
  let c0_75 : Index := 0#32
  ![v261.toNat, 0, 0, 0]
def k0_off22 (i : grid0.Coords) (k0_t4 : Fin (k0_t4_loop i).trips) : Fin 2 → Nat :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let c256_i32_72 : BitVec 32 := 256#32
  let v259 : BitVec 32 := Scalar.muli arg13 c256_i32_72
  let v260 : BitVec 32 := v259
  let v291 : Index := Scalar.indexCast v260
  let c0_82 : Index := 0#32
  ![v291.toNat, 0]
def k0_off23 (i : grid0.Coords) (k0_t4 : Fin (k0_t4_loop i).trips) : Fin 2 → Nat :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let c256_i32_72 : BitVec 32 := 256#32
  let v259 : BitVec 32 := Scalar.muli arg13 c256_i32_72
  let v260 : BitVec 32 := v259
  let v302 : Index := Scalar.indexCast v260
  let c0_84 : Index := 0#32
  ![v302.toNat, 0]
def k0_off24 (i : grid0.Coords) (k0_t4 : Fin (k0_t4_loop i).trips) : Fin 2 → Nat :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let c256_i32_72 : BitVec 32 := 256#32
  let v259 : BitVec 32 := Scalar.muli arg13 c256_i32_72
  let v260 : BitVec 32 := v259
  let v311 : Index := Scalar.indexCast v260
  let c128_86 : Index := 128#32
  ![v311.toNat, 128]
def k0_off25 (i : grid0.Coords) (k0_t4 : Fin (k0_t4_loop i).trips) : Fin 2 → Nat :=
  let c0_i32_38 : BitVec 32 := 0#32
  let arg1 : BitVec 32 := BitVec.ofNat 32 (i 1).val
  let v152 : BitVec 32 := Scalar.subi arg1 c0_i32_38
  let c1_i32_39 : BitVec 32 := 1#32
  let v154 : BitVec 32 := Scalar.divsi v152 c1_i32_39
  let v155 : BitVec 32 := Scalar.muli v154 c1_i32_39
  let v156 : BitVec 32 := Scalar.addi c0_i32_38 v155
  let c1_i32_41 : BitVec 32 := 1#32
  let arg13 : BitVec 32 := Scf.iv v156 c1_i32_41 k0_t4
  let c256_i32_72 : BitVec 32 := 256#32
  let v259 : BitVec 32 := Scalar.muli arg13 c256_i32_72
  let v260 : BitVec 32 := v259
  let v320 : Index := Scalar.indexCast v260
  let c256_88 : Index := 256#32
  ![v320.toNat, 256]
def k0_mult9 (i : grid0.Coords) : BitVec 32 :=
  let arg1 : BitVec 32 := BitVec.ofNat 32 (i 1).val
  let c256_i32_42 : BitVec 32 := 256#32
  let v159 : BitVec 32 := Scalar.muli arg1 c256_i32_42
  v159
def k0_off26 (i : grid0.Coords) : Fin 4 → Nat :=
  let arg1 : BitVec 32 := BitVec.ofNat 32 (i 1).val
  let v161 : Index := Scalar.indexCast arg1
  let c0_43 : Index := 0#32
  let c0_44 : Index := 0#32
  let c0_45 : Index := 0#32
  ![v161.toNat, 0, 0, 0]
def k0_off27 (i : grid0.Coords) : Fin 2 → Nat :=
  let arg1 : BitVec 32 := BitVec.ofNat 32 (i 1).val
  let c256_i32_42 : BitVec 32 := 256#32
  let v159 : BitVec 32 := Scalar.muli arg1 c256_i32_42
  let v160 : BitVec 32 := v159
  let v198 : Index := Scalar.indexCast v160
  let c0_53 : Index := 0#32
  ![v198.toNat, 0]
def k0_off28 (i : grid0.Coords) : Fin 2 → Nat :=
  let arg1 : BitVec 32 := BitVec.ofNat 32 (i 1).val
  let c256_i32_42 : BitVec 32 := 256#32
  let v159 : BitVec 32 := Scalar.muli arg1 c256_i32_42
  let v160 : BitVec 32 := v159
  let v209 : Index := Scalar.indexCast v160
  let c0_55 : Index := 0#32
  ![v209.toNat, 0]
def k0_off29 (i : grid0.Coords) : Fin 2 → Nat :=
  let arg1 : BitVec 32 := BitVec.ofNat 32 (i 1).val
  let c256_i32_42 : BitVec 32 := 256#32
  let v159 : BitVec 32 := Scalar.muli arg1 c256_i32_42
  let v160 : BitVec 32 := v159
  let v218 : Index := Scalar.indexCast v160
  let c128_57 : Index := 128#32
  ![v218.toNat, 128]
def k0_off30 (i : grid0.Coords) : Fin 2 → Nat :=
  let arg1 : BitVec 32 := BitVec.ofNat 32 (i 1).val
  let c256_i32_42 : BitVec 32 := 256#32
  let v159 : BitVec 32 := Scalar.muli arg1 c256_i32_42
  let v160 : BitVec 32 := v159
  let v227 : Index := Scalar.indexCast v160
  let c256_59 : Index := 256#32
  ![v227.toNat, 256]
def k0_cond2 (i : grid0.Coords) : BitVec 1 :=
  let arg1 : BitVec 32 := BitVec.ofNat 32 (i 1).val
  let c7_i32 : BitVec 32 := 7#32
  let v256 : BitVec 1 := Scalar.cmpi .eq arg1 c7_i32
  let v257 : BitVec 32 := Scalar.extui v256
  let c0_i32_71 : BitVec 32 := 0#32
  let v258 : BitVec 1 := Scalar.cmpi .ne v257 c0_i32_71
  v258

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SbRefIdeal.lean ====
abbrev S2048x6144 : Shape := ⟨2, ![2048, 6144]⟩
abbrev S2048x768 : Shape := ⟨2, ![2048, 768]⟩
abbrev S1x2048x6x128 : Shape := ⟨4, ![1, 2048, 6, 128]⟩
abbrev S_ : Shape := ⟨0, ![]⟩
abbrev S1x6x2048x2048 : Shape := ⟨4, ![1, 6, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x6x128x2048 : Shape := ⟨4, ![1, 6, 128, 2048]⟩
abbrev S1x6x2048x128 : Shape := ⟨4, ![1, 6, 2048, 128]⟩

abbrev nBuf : Space → Nat
  | .hbm => 178
  | .vmem => 0
  | .smem => 0
  | _ => 0

abbrev hbmTy0_0 (i : Nat) : BufTy := match i % 128 with
  | 0 => ⟨S2048x6144, .f32⟩
  | 1 => ⟨S2048x768, .bf16⟩
  | 2 => ⟨S2048x768, .f32⟩
  | 3 => ⟨S2048x768, .f32⟩
  | 4 => ⟨S2048x768, .f32⟩
  | 5 => ⟨S1x2048x6x128, .f32⟩
  | 6 => ⟨S1x2048x6x128, .f32⟩
  | 7 => ⟨S1x2048x6x128, .f32⟩
  | 8 => ⟨S_, .f32⟩
  | 9 => ⟨S1x2048x6x128, .f32⟩
  | 10 => ⟨S1x2048x6x128, .f32⟩
  | 11 => ⟨S1x6x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S1x6x2048x2048, .f32⟩
  | 20 => ⟨S1x6x2048x2048, .f32⟩
  | 21 => ⟨S_, .f32⟩
  | 22 => ⟨S1x6x2048x2048, .f32⟩
  | 23 => ⟨S1x6x2048x2048, .f32⟩
  | 24 => ⟨S1x6x2048x2048, .f32⟩
  | 25 => ⟨S1x6x2048x2048, .f32⟩
  | 26 => ⟨S1x6x2048x2048, .i1⟩
  | 27 => ⟨S1x6x2048x2048, .f32⟩
  | 28 => ⟨S1x6x2048x2048, .f32⟩
  | 29 => ⟨S1x6x2048x2048, .f32⟩
  | 30 => ⟨S1x6x2048x2048, .f32⟩
  | 31 => ⟨S1x6x2048x2048, .f32⟩
  | 32 => ⟨S1x6x2048x2048, .f32⟩
  | 33 => ⟨S1x6x2048x2048, .f32⟩
  | 34 => ⟨S1x6x2048x2048, .f32⟩
  | 35 => ⟨S_, .f32⟩
  | 36 => ⟨S1x6x2048x2048, .f32⟩
  | 37 => ⟨S1x6x2048x2048, .i1⟩
  | 38 => ⟨S_, .f32⟩
  | 39 => ⟨S1x6x2048x2048, .f32⟩
  | 40 => ⟨S1x6x2048x2048, .f32⟩
  | 41 => ⟨S_, .f32⟩
  | 42 => ⟨S1x6x2048x2048, .f32⟩
  | 43 => ⟨S1x6x2048x2048, .i1⟩
  | 44 => ⟨S_, .f32⟩
  | 45 => ⟨S1x6x2048x2048, .f32⟩
  | 46 => ⟨S1x6x2048x2048, .f32⟩
  | 47 => ⟨S1x6x2048x2048, .f32⟩
  | 48 => ⟨S1x6x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S1x6x2048x2048, .f32⟩
  | 57 => ⟨S1x6x2048x2048, .i1⟩
  | 58 => ⟨S_, .f32⟩
  | 59 => ⟨S1x6x2048x2048, .f32⟩
  | 60 => ⟨S1x6x2048x2048, .f32⟩
  | 61 => ⟨S1x6x2048x2048, .f32⟩
  | 62 => ⟨S1x6x2048x2048, .f32⟩
  | 63 => ⟨S1x6x2048x2048, .f32⟩
  | 64 => ⟨S_, .f32⟩
  | 65 => ⟨S1x6x2048x2048, .f32⟩
  | 66 => ⟨S1x6x2048x2048, .f32⟩
  | 67 => ⟨S1x6x2048x2048, .f32⟩
  | 68 => ⟨S_, .f32⟩
  | 69 => ⟨S_, .f32⟩
  | 70 => ⟨S1x6x2048x2048, .i1⟩
  | 71 => ⟨S1x6x2048x2048, .f32⟩
  | 72 => ⟨S1x6x2048x2048, .f32⟩
  | 73 => ⟨S_, .f32⟩
  | 74 => ⟨S1x6x2048x2048, .f32⟩
  | 75 => ⟨S_, .f32⟩
  | 76 => ⟨S_, .f32⟩
  | 77 => ⟨S1x6x2048x2048, .f32⟩
  | 78 => ⟨S1x6x2048x2048, .f32⟩
  | 79 => ⟨S1x6x2048x2048, .f32⟩
  | 80 => ⟨S_, .f32⟩
  | 81 => ⟨S1x6x2048x2048, .f32⟩
  | 82 => ⟨S1x6x2048x2048, .f32⟩
  | 83 => ⟨S1x6x2048x2048, .f32⟩
  | 84 => ⟨S1x6x2048x2048, .f32⟩
  | 85 => ⟨S1x6x2048x2048, .i1⟩
  | 86 => ⟨S1x6x2048x2048, .f32⟩
  | 87 => ⟨S1x6x2048x2048, .f32⟩
  | 88 => ⟨S1x6x2048x2048, .f32⟩
  | 89 => ⟨S1x6x2048x2048, .f32⟩
  | 90 => ⟨S1x6x2048x2048, .f32⟩
  | 91 => ⟨S1x6x2048x2048, .f32⟩
  | 92 => ⟨S1x6x2048x2048, .f32⟩
  | 93 => ⟨S1x6x2048x2048, .f32⟩
  | 94 => ⟨S_, .f32⟩
  | 95 => ⟨S1x6x2048x2048, .f32⟩
  | 96 => ⟨S1x6x2048x2048, .i1⟩
  | 97 => ⟨S_, .f32⟩
  | 98 => ⟨S1x6x2048x2048, .f32⟩
  | 99 => ⟨S1x6x2048x2048, .f32⟩
  | 100 => ⟨S_, .f32⟩
  | 101 => ⟨S1x6x2048x2048, .f32⟩
  | 102 => ⟨S1x6x2048x2048, .i1⟩
  | 103 => ⟨S_, .f32⟩
  | 104 => ⟨S1x6x2048x2048, .f32⟩
  | 105 => ⟨S1x6x2048x2048, .f32⟩
  | 106 => ⟨S1x6x2048x2048, .f32⟩
  | 107 => ⟨S1x6x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S1x6x2048x2048, .f32⟩
  | 116 => ⟨S1x6x2048x2048, .i1⟩
  | 117 => ⟨S_, .f32⟩
  | 118 => ⟨S1x6x2048x2048, .f32⟩
  | 119 => ⟨S1x6x2048x2048, .f32⟩
  | 120 => ⟨S1x6x2048x2048, .f32⟩
  | 121 => ⟨S1x6x2048x2048, .f32⟩
  | 122 => ⟨S1x6x2048x2048, .f32⟩
  | 123 => ⟨S_, .f32⟩
  | 124 => ⟨S1x6x2048x2048, .f32⟩
  | 125 => ⟨S1x6x2048x2048, .f32⟩
  | 126 => ⟨S1x6x2048x2048, .f32⟩
  | 127 => ⟨S1x6x2048x2048, .f32⟩
  | _ => ⟨S2048x6144, .f32⟩

abbrev hbmTy0_1 (i : Nat) : BufTy := match i % 128 with
  | 0 => ⟨S1x6x2048x2048, .f32⟩
  | 1 => ⟨S_, .f32⟩
  | 2 => ⟨S_, .f32⟩
  | 3 => ⟨S1x6x2048x2048, .i1⟩
  | 4 => ⟨S1x6x2048x2048, .f32⟩
  | 5 => ⟨S1x6x2048x2048, .f32⟩
  | 6 => ⟨S_, .f32⟩
  | 7 => ⟨S1x6x2048x2048, .f32⟩
  | 8 => ⟨S1x6x128x2048, .f32⟩
  | 9 => ⟨S1x2048x6x128, .f32⟩
  | 10 => ⟨S2048x768, .f32⟩
  | 11 => ⟨S2048x768, .f32⟩
  | 12 => ⟨S1x2048x6x128, .f32⟩
  | 13 => ⟨S1x6x128x2048, .f32⟩
  | 14 => ⟨S1x6x2048x2048, .f32⟩
  | 15 => ⟨S1x6x128x2048, .f32⟩
  | 16 => ⟨S1x2048x6x128, .f32⟩
  | 17 => ⟨S_, .f32⟩
  | 18 => ⟨S1x6x2048x2048, .f32⟩
  | 19 => ⟨S1x6x2048x2048, .f32⟩
  | 20 => ⟨S1x6x2048x2048, .f32⟩
  | 21 => ⟨S1x6x2048x2048, .f32⟩
  | 22 => ⟨S1x6x2048x2048, .f32⟩
  | 23 => ⟨S1x6x2048x2048, .f32⟩
  | 24 => ⟨S1x6x2048x2048, .f32⟩
  | 25 => ⟨S_, .f32⟩
  | 26 => ⟨S_, .f32⟩
  | 27 => ⟨S1x6x2048x2048, .f32⟩
  | 28 => ⟨S1x6x2048x2048, .f32⟩
  | 29 => ⟨S_, .f32⟩
  | 30 => ⟨S1x6x2048x2048, .f32⟩
  | 31 => ⟨S1x6x2048x2048, .f32⟩
  | 32 => ⟨S1x6x2048x2048, .f32⟩
  | 33 => ⟨S1x6x2048x2048, .f32⟩
  | 34 => ⟨S1x6x2048x2048, .f32⟩
  | 35 => ⟨S1x6x2048x2048, .f32⟩
  | 36 => ⟨S1x6x2048x2048, .f32⟩
  | 37 => ⟨S1x6x2048x128, .f32⟩
  | 38 => ⟨S1x2048x6x128, .f32⟩
  | 39 => ⟨S1x6x2048x128, .f32⟩
  | 40 => ⟨S1x2048x6x128, .f32⟩
  | 41 => ⟨S_, .f32⟩
  | 42 => ⟨S1x2048x6x128, .f32⟩
  | 43 => ⟨S1x2048x6x128, .f32⟩
  | 44 => ⟨S2048x768, .f32⟩
  | 45 => ⟨S2048x768, .f32⟩
  | 46 => ⟨S2048x768, .f32⟩
  | 47 => ⟨S2048x768, .bf16⟩
  | 48 => ⟨S2048x768, .bf16⟩
  | 49 => ⟨S2048x768, .bf16⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== FfTwoW.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfTwoWRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfOneW.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneWRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpW.lean ====
abbrev S2048x768 : Shape := ⟨2, ![2048, 768]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S2048x2048, .bf16⟩
  | .hbm, ⟨2, _⟩ => ⟨S768x2048, .bf16⟩
  | .local _ .vmem, ⟨0, _⟩ => ⟨S2048x768, .bf16⟩
  | .local _ .vmem, ⟨1, _⟩ => ⟨S2048x1024, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S2048x768 : Shape := ⟨2, ![2048, 768]⟩
abbrev S2048x2048 : Shape := ⟨2, ![2048, 2048]⟩
abbrev S_ : Shape := ⟨0, ![]⟩
abbrev S768x2048 : Shape := ⟨2, ![768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x2048, .bf16⟩
  | .hbm, ⟨2, _⟩ => ⟨S_, .f32⟩
  | .hbm, ⟨3, _⟩ => ⟨S768x2048, .f32⟩
  | .hbm, ⟨4, _⟩ => ⟨S2048x768, .f32⟩
  | .hbm, ⟨5, _⟩ => ⟨S2048x2048, .f32⟩
  | .hbm, ⟨6, _⟩ => ⟨S2048x2048, .f32⟩
  | .hbm, ⟨7, _⟩ => ⟨S2048x768, .f32⟩
  | .hbm, ⟨8, _⟩ => ⟨S768x2048, .f32⟩
  | .hbm, ⟨9, _⟩ => ⟨S768x2048, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpPoolW.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpPoolWRefIdeal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .f32⟩
  | .hbm, ⟨3, _⟩ => ⟨S512x2048, .f32⟩
  | .hbm, ⟨4, _⟩ => ⟨S2048x512, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S2048x6144 : Shape := ⟨2, ![2048, 6144]⟩
abbrev S2048x2048 : Shape := ⟨2, ![2048, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S_, .f32⟩
  | .hbm, ⟨3, _⟩ => ⟨S6144x2048, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpX.lean ====
abbrev S2048x2048 : Shape := ⟨2, ![2048, 2048]⟩
abbrev S768x2048 : Shape := ⟨2, ![768, 2048]⟩
abbrev S2048x768 : Shape := ⟨2, ![2048, 768]⟩
abbrev S1024x2048 : Shape := ⟨2, ![1024, 2048]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S768x2048, .bf16⟩
  | .hbm, ⟨2, _⟩ => ⟨S2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .bf16⟩
  | .local _ .vmem, ⟨4, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S2048x2048 : Shape := ⟨2, ![2048, 2048]⟩
abbrev S768x2048 : Shape := ⟨2, ![768, 2048]⟩
abbrev S_ : Shape := ⟨0, ![]⟩
abbrev S2048x768 : Shape := ⟨2, ![2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S768x2048, .bf16⟩
  | .hbm, ⟨2, _⟩ => ⟨S_, .f32⟩
  | .hbm, ⟨3, _⟩ => ⟨S2048x768, .f32⟩
  | .hbm, ⟨4, _⟩ => ⟨S768x2048, .f32⟩
  | .hbm, ⟨5, _⟩ => ⟨S2048x2048, .f32⟩
  | .hbm, ⟨6, _⟩ => ⟨S2048x2048, .f32⟩
  | .hbm, ⟨7, _⟩ => ⟨S2048x768, .f32⟩
  | .hbm, ⟨8, _⟩ => ⟨S2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpPoolX.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpPoolXRefIdeal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfTwoX.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfTwoXRefIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S8192x2048, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== FfOneX.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneXRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InX.lean ====
abbrev S2048x6144 : Shape := ⟨2, ![2048, 6144]⟩
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXRefIdeal.lean ====
abbrev S2048x6144 : Shape := ⟨2, ![2048, 6144]⟩
abbrev S6144x2048 : Shape := ⟨2, ![6144, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S6144x2048, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x2048, .f32⟩
  | .hbm, ⟨10, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InF.lean ====
abbrev S2048x2048 : Shape := ⟨2, ![2048, 2048]⟩
abbrev S6144x2048 : Shape := ⟨2, ![6144, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFRefIdeal.lean ====
abbrev S2048x2048 : Shape := ⟨2, ![2048, 2048]⟩
abbrev S6144x2048 : Shape := ⟨2, ![6144, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x2048, .f32⟩
  | .hbm, ⟨3, _⟩ => ⟨S6144x2048, .f32⟩
  | .hbm, ⟨4, _⟩ => ⟨S2048x6144, .f32⟩
  | .hbm, ⟨5, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GatesF.lean ====
abbrev S2048x2048 : Shape := ⟨2, ![2048, 2048]⟩
abbrev S6144x2048 : Shape := ⟨2, ![6144, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesFRefIdeal.lean ====
abbrev S2048x2048 : Shape := ⟨2, ![2048, 2048]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x2048, .f32⟩
  | .hbm, ⟨3, _⟩ => ⟨S6144x2048, .f32⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpF.lean ====
abbrev S2048x768 : Shape := ⟨2, ![2048, 768]⟩
abbrev S768x2048 : Shape := ⟨2, ![768, 2048]⟩
abbrev S2048x2048 : Shape := ⟨2, ![2048, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S768x2048, .bf16⟩
  | .hbm, ⟨2, _⟩ => ⟨S2048x2048, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S2048x768 : Shape := ⟨2, ![2048, 768]⟩
abbrev S768x2048 : Shape := ⟨2, ![768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x2048, .bf16⟩
  | .hbm, ⟨2, _⟩ => ⟨S2048x768, .f32⟩
  | .hbm, ⟨3, _⟩ => ⟨S768x2048, .f32⟩
  | .hbm, ⟨4, _⟩ => ⟨S2048x2048, .f32⟩
  | .hbm, ⟨5, _⟩ => ⟨S2048x2048, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpPoolF.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpPoolFRefIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | .hbm, ⟨5, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutF.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfOneF.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneFRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfTwoF.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfTwoFRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsB.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== GdnOutB.lean ====
abbrev S2048x768 : Shape := ⟨2, ![2048, 768]⟩
abbrev S2048x6144 : Shape := ⟨2, ![2048, 6144]⟩
abbrev S1x128 : Shape := ⟨2, ![1, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S256x640 : Shape := ⟨2, ![256, 640]⟩
abbrev S128 : Shape := ⟨1, ![128]⟩
abbrev S256x512 : Shape := ⟨2, ![256, 512]⟩
abbrev S256x384 : Shape := ⟨2, ![256, 384]⟩
abbrev S256x256 : Shape := ⟨2, ![256, 256]⟩

abbrev nBuf : Space → Nat
  | .hbm => 7
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S1x128, .f32⟩
  | .hbm, ⟨3, _⟩ => ⟨S2048x768, .bf16⟩
  | .hbm, ⟨4, _⟩ => ⟨S2048x768, .f32⟩
  | .hbm, ⟨5, _⟩ => ⟨S2048x768, .bf16⟩
  | .hbm, ⟨6, _⟩ => ⟨S1x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .bf16⟩
  | .local _ .vmem, ⟨5, _⟩ => ⟨S256x768, .bf16⟩
  | .local _ .vmem, ⟨6, _⟩ => ⟨S1x128, .f32⟩
  | .local _ .vmem, ⟨7, _⟩ => ⟨S256x768, .f32⟩
  | .local _ .vmem, ⟨8, _⟩ => ⟨S256x768, .f32⟩
  | .local _ .vmem, ⟨9, _⟩ => ⟨S256x768, .bf16⟩
  | .local _ .vmem, ⟨10, _⟩ => ⟨S256x768, .bf16⟩
  | .local _ .vmem, ⟨11, _⟩ => ⟨S1x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v357 : BitVec 1 := Scalar.cmpi .eq arg0 c0_i32
  let v358 : BitVec 32 := Scalar.extui v357
  let c0_i32_76 : BitVec 32 := 0#32
  let v359 : BitVec 1 := Scalar.cmpi .ne v358 c0_i32_76
  v359

def k0_cond2 (i : grid0.Coords) : BitVec 1 :=
  let arg0 : BitVec 32 := BitVec.ofNat 32 (i 0).val
  let c0_i32_77 : BitVec 32 := 0#32
  let v360 : BitVec 1 := Scalar.cmpi .sgt arg0 c0_i32_77
  let v361 : BitVec 32 := Scalar.extui v360
  let c0_i32_78 : BitVec 32 := 0#32
  let v362 : BitVec 1 := Scalar.cmpi .ne v361 c0_i32_78
  v362

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GdnOutBRefIdeal.lean ====
abbrev S2048x768 : Shape := ⟨2, ![2048, 768]⟩
abbrev S2048x6144 : Shape := ⟨2, ![2048, 6144]⟩
abbrev S1x128 : Shape := ⟨2, ![1, 128]⟩
abbrev S128 : Shape := ⟨1, ![128]⟩
abbrev S2048x6x128 : Shape := ⟨3, ![2048, 6, 128]⟩
abbrev S_ : Shape := ⟨0, ![]⟩
abbrev S2048x6 : Shape := ⟨2, ![2048, 6]⟩
abbrev S2048x6x1 : Shape := ⟨3, ![2048, 6, 1]⟩
abbrev S1x1x128 : Shape := ⟨3, ![1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S1x128, .f32⟩
  | .hbm, ⟨3, _⟩ => ⟨S2048x768, .bf16⟩
  | .hbm, ⟨4, _⟩ => ⟨S2048x768, .f32⟩
  | .hbm, ⟨5, _⟩ => ⟨S128, .f32⟩
  | .hbm, ⟨6, _⟩ => ⟨S2048x6x128, .f32⟩
  | .hbm, ⟨7, _⟩ => ⟨S2048x6x128, .f32⟩
  | .hbm, ⟨8, _⟩ => ⟨S_, .f32⟩
  | .hbm, ⟨9, _⟩ => ⟨S2048x6, .f32⟩
  | .hbm, ⟨10, _⟩ => ⟨S2048x6x1, .f32⟩
  | .hbm, ⟨11, _⟩ => ⟨S_, .f32⟩
  | .hbm, ⟨12, _⟩ => ⟨S2048x6x1, .f32⟩
  | .hbm, ⟨13, _⟩ => ⟨S2048x6x1, .f32⟩
  | .hbm, ⟨14, _⟩ => ⟨S_, .f32⟩
  | .hbm, ⟨15, _⟩ => ⟨S2048x6x1, .f32⟩
  | .hbm, ⟨16, _⟩ => ⟨S2048x6x1, .f32⟩
  | .hbm, ⟨17, _⟩ => ⟨S2048x6x1, .f32⟩
  | .hbm, ⟨18, _⟩ => ⟨S2048x6x1, .f32⟩
  | .hbm, ⟨19, _⟩ => ⟨S_, .f32⟩
  | .hbm, ⟨20, _⟩ => ⟨S2048x6x1, .f32⟩
  | .hbm, ⟨21, _⟩ => ⟨S2048x6x1, .f32⟩
  | .hbm, ⟨22, _⟩ => ⟨S2048x6x128, .f32⟩
  | .hbm, ⟨23, _⟩ => ⟨S2048x6x128, .f32⟩
  | .hbm, ⟨24, _⟩ => ⟨S1x1x128, .f32⟩
  | .hbm, ⟨25, _⟩ => ⟨S2048x6x128, .f32⟩
  | .hbm, ⟨26, _⟩ => ⟨S2048x6x128, .f32⟩
  | .hbm, ⟨27, _⟩ => ⟨S2048x6x128, .f32⟩
  | .hbm, ⟨28, _⟩ => ⟨S2048x6x128, .f32⟩
  | .hbm, ⟨29, _⟩ => ⟨S2048x6x128, .f32⟩
  | .hbm, ⟨30, _⟩ => ⟨S_, .f32⟩
  | .hbm, ⟨31, _⟩ => ⟨S2048x6x128, .f32⟩
  | .hbm, ⟨32, _⟩ => ⟨S2048x6x128, .f32⟩
  | .hbm, ⟨33, _⟩ => ⟨S_, .f32⟩
  | .hbm, ⟨34, _⟩ => ⟨S2048x6x128, .f32⟩
  | .hbm, ⟨35, _⟩ => ⟨S2048x6x128, .f32⟩
  | .hbm, ⟨36, _⟩ => ⟨S_, .f32⟩
  | .hbm, ⟨37, _⟩ => ⟨S2048x6x128, .f32⟩
  | .hbm, ⟨38, _⟩ => ⟨S2048x6x128, .f32⟩
  | .hbm, ⟨39, _⟩ => ⟨S2048x6x128, .f32⟩
  | .hbm, ⟨40, _⟩ => ⟨S2048x6x128, .f32⟩
  | .hbm, ⟨41, _⟩ => ⟨S2048x6x128, .f32⟩
  | .hbm, ⟨42, _⟩ => ⟨S2048x768, .f32⟩
  | .hbm, ⟨43, _⟩ => ⟨S2048x768, .f32⟩
  | .hbm, ⟨44, _⟩ => ⟨S2048x6x128, .f32⟩
  | .hbm, ⟨45, _⟩ => ⟨S2048x6x128, .f32⟩
  | .hbm, ⟨46, _⟩ => ⟨S2048x6x128, .f32⟩
  | .hbm, ⟨47, _⟩ => ⟨S2048x6x128, .f32⟩
  | .hbm, ⟨48, _⟩ => ⟨S2048x6x128, .f32⟩
  | .hbm, ⟨49, _⟩ => ⟨S2048x6x128, .f32⟩
  | .hbm, ⟨50, _⟩ => ⟨S2048x6x128, .f32⟩
  | .hbm, ⟨51, _⟩ => ⟨S2048x768, .f32⟩
  | .hbm, ⟨52, _⟩ => ⟨S2048x6x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S2048x6x128, .f32⟩
  | .hbm, ⟨57, _⟩ => ⟨S2048x6x128, .f32⟩
  | .hbm, ⟨58, _⟩ => ⟨S_, .f32⟩
  | .hbm, ⟨59, _⟩ => ⟨S128, .f32⟩
  | .hbm, ⟨60, _⟩ => ⟨S2048x6x128, .f32⟩
  | .hbm, ⟨61, _⟩ => ⟨S_, .f32⟩
  | .hbm, ⟨62, _⟩ => ⟨S2048x6, .f32⟩
  | .hbm, ⟨63, _⟩ => ⟨S2048x6x1, .f32⟩
  | .hbm, ⟨64, _⟩ => ⟨S2048x6x128, .f32⟩
  | .hbm, ⟨65, _⟩ => ⟨S2048x6x128, .f32⟩
  | .hbm, ⟨66, _⟩ => ⟨S2048x6x1, .f32⟩
  | .hbm, ⟨67, _⟩ => ⟨S_, .f32⟩
  | .hbm, ⟨68, _⟩ => ⟨S2048x6x1, .f32⟩
  | .hbm, ⟨69, _⟩ => ⟨S2048x6x1, .f32⟩
  | .hbm, ⟨70, _⟩ => ⟨S_, .f32⟩
  | .hbm, ⟨71, _⟩ => ⟨S2048x6, .f32⟩
  | .hbm, ⟨72, _⟩ => ⟨S2048x6x128, .f32⟩
  | .hbm, ⟨73, _⟩ => ⟨S2048x6x128, .f32⟩
  | .hbm, ⟨74, _⟩ => ⟨S2048x6x128, .f32⟩
  | .hbm, ⟨75, _⟩ => ⟨S2048x6x128, .f32⟩
  | .hbm, ⟨76, _⟩ => ⟨S2048x6x128, .f32⟩
  | .hbm, ⟨77, _⟩ => ⟨S2048x768, .f32⟩
  | .hbm, ⟨78, _⟩ => ⟨S2048x768, .bf16⟩
  | .hbm, ⟨79, _⟩ => ⟨S1x128, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== MergeF.lean ====
abbrev S2048x6144 : Shape := ⟨2, ![2048, 6144]⟩
abbrev S2048x2048 : Shape := ⟨2, ![2048, 2048]⟩
abbrev S128x6144 : Shape := ⟨2, ![128, 6144]⟩
abbrev S128x2048 : Shape := ⟨2, ![128, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S128x6144, .bf16⟩
  | .local _ .vmem, ⟨1, _⟩ => ⟨S128x6144, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFRefIdeal.lean ====
abbrev S2048x6144 : Shape := ⟨2, ![2048, 6144]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x6144, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x6144, .f32⟩
  | .hbm, ⟨9, _⟩ => ⟨S2048x6144, .f32⟩
  | .hbm, ⟨10, _⟩ => ⟨S_, .f32⟩
  | .hbm, ⟨11, _⟩ => ⟨S2048x6144, .f32⟩
  | .hbm, ⟨12, _⟩ => ⟨S2048x6144, .f32⟩
  | .hbm, ⟨13, _⟩ => ⟨S_, .f32⟩
  | .hbm, ⟨14, _⟩ => ⟨S2048x6144, .f32⟩
  | .hbm, ⟨15, _⟩ => ⟨S2048x6144, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== RmsF.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GdnOutF.lean ====
abbrev S2048x768 : Shape := ⟨2, ![2048, 768]⟩
abbrev S2048x6144 : Shape := ⟨2, ![2048, 6144]⟩
abbrev S1x128 : Shape := ⟨2, ![1, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S1x128, .f32⟩
  | .hbm, ⟨3, _⟩ => ⟨S2048x768, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x128, .f32⟩
  | .local _ .vmem, ⟨5, _⟩ => ⟨S256x768, .bf16⟩
  | .local _ .vmem, ⟨6, _⟩ => ⟨S256x768, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnOutFRefIdeal.lean ====
abbrev S2048x768 : Shape := ⟨2, ![2048, 768]⟩
abbrev S2048x6144 : Shape := ⟨2, ![2048, 6144]⟩
abbrev S1x128 : Shape := ⟨2, ![1, 128]⟩
abbrev S128 : Shape := ⟨1, ![128]⟩
abbrev S2048x6x128 : Shape := ⟨3, ![2048, 6, 128]⟩
abbrev S_ : Shape := ⟨0, ![]⟩
abbrev S2048x6 : Shape := ⟨2, ![2048, 6]⟩
abbrev S2048x6x1 : Shape := ⟨3, ![2048, 6, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x6144, .f32⟩
  | .hbm, ⟨2, _⟩ => ⟨S1x128, .f32⟩
  | .hbm, ⟨3, _⟩ => ⟨S2048x768, .f32⟩
  | .hbm, ⟨4, _⟩ => ⟨S128, .f32⟩
  | .hbm, ⟨5, _⟩ => ⟨S2048x6x128, .f32⟩
  | .hbm, ⟨6, _⟩ => ⟨S2048x6x128, .f32⟩
  | .hbm, ⟨7, _⟩ => ⟨S_, .f32⟩
  | .hbm, ⟨8, _⟩ => ⟨S2048x6, .f32⟩
  | .hbm, ⟨9, _⟩ => ⟨S2048x6x1, .f32⟩
  | .hbm, ⟨10, _⟩ => ⟨S_, .f32⟩
  | .hbm, ⟨11, _⟩ => ⟨S2048x6x1, .f32⟩
  | .hbm, ⟨12, _⟩ => ⟨S2048x6x1, .f32⟩
  | .hbm, ⟨13, _⟩ => ⟨S_, .f32⟩
  | .hbm, ⟨14, _⟩ => ⟨S2048x6x1, .f32⟩
  | .hbm, ⟨15, _⟩ => ⟨S2048x6x1, .f32⟩
  | .hbm, ⟨16, _⟩ => ⟨S2048x6x1, .f32⟩
  | .hbm, ⟨17, _⟩ => ⟨S2048x6x128, .f32⟩
  | .hbm, ⟨18, _⟩ => ⟨S2048x6x128, .f32⟩
  | .hbm, ⟨19, _⟩ => ⟨S1x1x128, .f32⟩
  | .hbm, ⟨20, _⟩ => ⟨S2048x6x128, .f32⟩
  | .hbm, ⟨21, _⟩ => ⟨S2048x6x128, .f32⟩
  | .hbm, ⟨22, _⟩ => ⟨S2048x6x128, .f32⟩
  | .hbm, ⟨23, _⟩ => ⟨S2048x6x128, .f32⟩
  | .hbm, ⟨24, _⟩ => ⟨S2048x6x128, .f32⟩
  | .hbm, ⟨25, _⟩ => ⟨S_, .f32⟩
  | .hbm, ⟨26, _⟩ => ⟨S2048x6x128, .f32⟩
  | .hbm, ⟨27, _⟩ => ⟨S2048x6x128, .f32⟩
  | .hbm, ⟨28, _⟩ => ⟨S_, .f32⟩
  | .hbm, ⟨29, _⟩ => ⟨S2048x6x128, .f32⟩
  | .hbm, ⟨30, _⟩ => ⟨S2048x6x128, .f32⟩
  | .hbm, ⟨31, _⟩ => ⟨S2048x6x128, .f32⟩
  | .hbm, ⟨32, _⟩ => ⟨S2048x6x128, .f32⟩
  | .hbm, ⟨33, _⟩ => ⟨S2048x768, .f32⟩
  | .hbm, ⟨34, _⟩ => ⟨S2048x768, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== ConvF.lean ====
abbrev S2048x6144 : Shape := ⟨2, ![2048, 6144]⟩
abbrev S4x2304 : Shape := ⟨2, ![4, 2304]⟩
abbrev S2048x2304 : Shape := ⟨2, ![2048, 2304]⟩
abbrev S2048x256 : Shape := ⟨2, ![2048, 256]⟩
abbrev S4x256 : Shape := ⟨2, ![4, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S4x2304, .f32⟩
  | .hbm, ⟨2, _⟩ => ⟨S2048x2304, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFRefIdeal.lean ====
abbrev S2048x6144 : Shape := ⟨2, ![2048, 6144]⟩
abbrev S4x2304 : Shape := ⟨2, ![4, 2304]⟩
abbrev S2048x2304 : Shape := ⟨2, ![2048, 2304]⟩
abbrev S_ : Shape := ⟨0, ![]⟩
abbrev S3x2304 : Shape := ⟨2, ![3, 2304]⟩
abbrev S2051x2304 : Shape := ⟨2, ![2051, 2304]⟩
abbrev S1x2304 : Shape := ⟨2, ![1, 2304]⟩
abbrev S2304 : Shape := ⟨1, ![2304]⟩

abbrev nBuf : Space → Nat
  | .hbm => 45
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x2304, .f32⟩
  | .hbm, ⟨2, _⟩ => ⟨S2048x2304, .f32⟩
  | .hbm, ⟨3, _⟩ => ⟨S_, .f32⟩
  | .hbm, ⟨4, _⟩ => ⟨S3x2304, .f32⟩
  | .hbm, ⟨5, _⟩ => ⟨S2051x2304, .f32⟩
  | .hbm, ⟨6, _⟩ => ⟨S1x2304, .f32⟩
  | .hbm, ⟨7, _⟩ => ⟨S2304, .f32⟩
  | .hbm, ⟨8, _⟩ => ⟨S2048x2304, .f32⟩
  | .hbm, ⟨9, _⟩ => ⟨S1x2304, .f32⟩
  | .hbm, ⟨10, _⟩ => ⟨S2048x2304, .f32⟩
  | .hbm, ⟨11, _⟩ => ⟨S2048x2304, .f32⟩
  | .hbm, ⟨12, _⟩ => ⟨S_, .f32⟩
  | .hbm, ⟨13, _⟩ => ⟨S2048x2304, .f32⟩
  | .hbm, ⟨14, _⟩ => ⟨S2048x2304, .f32⟩
  | .hbm, ⟨15, _⟩ => ⟨S1x2304, .f32⟩
  | .hbm, ⟨16, _⟩ => ⟨S2304, .f32⟩
  | .hbm, ⟨17, _⟩ => ⟨S2048x2304, .f32⟩
  | .hbm, ⟨18, _⟩ => ⟨S1x2304, .f32⟩
  | .hbm, ⟨19, _⟩ => ⟨S2048x2304, .f32⟩
  | .hbm, ⟨20, _⟩ => ⟨S2048x2304, .f32⟩
  | .hbm, ⟨21, _⟩ => ⟨S2048x2304, .f32⟩
  | .hbm, ⟨22, _⟩ => ⟨S1x2304, .f32⟩
  | .hbm, ⟨23, _⟩ => ⟨S2304, .f32⟩
  | .hbm, ⟨24, _⟩ => ⟨S2048x2304, .f32⟩
  | .hbm, ⟨25, _⟩ => ⟨S1x2304, .f32⟩
  | .hbm, ⟨26, _⟩ => ⟨S2048x2304, .f32⟩
  | .hbm, ⟨27, _⟩ => ⟨S2048x2304, .f32⟩
  | .hbm, ⟨28, _⟩ => ⟨S2048x2304, .f32⟩
  | .hbm, ⟨29, _⟩ => ⟨S1x2304, .f32⟩
  | .hbm, ⟨30, _⟩ => ⟨S2304, .f32⟩
  | .hbm, ⟨31, _⟩ => ⟨S2048x2304, .f32⟩
  | .hbm, ⟨32, _⟩ => ⟨S1x2304, .f32⟩
  | .hbm, ⟨33, _⟩ => ⟨S2048x2304, .f32⟩
  | .hbm, ⟨34, _⟩ => ⟨S2048x2304, .f32⟩
  | .hbm, ⟨35, _⟩ => ⟨S2048x2304, .f32⟩
  | .hbm, ⟨36, _⟩ => ⟨S2048x2304, .f32⟩
  | .hbm, ⟨37, _⟩ => ⟨S2048x2304, .f32⟩
  | .hbm, ⟨38, _⟩ => ⟨S_, .f32⟩
  | .hbm, ⟨39, _⟩ => ⟨S2048x2304, .f32⟩
  | .hbm, ⟨40, _⟩ => ⟨S2048x2304, .f32⟩
  | .hbm, ⟨41, _⟩ => ⟨S_, .f32⟩
  | .hbm, ⟨42, _⟩ => ⟨S2048x2304, .f32⟩
  | .hbm, ⟨43, _⟩ => ⟨S2048x2304, .f32⟩
  | .hbm, ⟨44, _⟩ => ⟨S2048x2304, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== ConvB.lean ====
abbrev S2048x6144 : Shape := ⟨2, ![2048, 6144]⟩
abbrev S4x2304 : Shape := ⟨2, ![4, 2304]⟩
abbrev S2048x2304 : Shape := ⟨2, ![2048, 2304]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S2048x6144, .f32⟩
  | .hbm, ⟨1, _⟩ => ⟨S4x2304, .f32⟩
  | .hbm, ⟨2, _⟩ => ⟨S2048x2304, .f32⟩
  | .hbm, ⟨3, _⟩ => ⟨S2048x2304, .bf16⟩
  | .hbm, ⟨4, _⟩ => ⟨S4x2304, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S4x256, .f32⟩
  | .local _ .vmem, ⟨9, _⟩ => ⟨S4x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvBRefIdeal.lean ====
abbrev S2048x6144 : Shape := ⟨2, ![2048, 6144]⟩
abbrev S4x2304 : Shape := ⟨2, ![4, 2304]⟩
abbrev S2048x2304 : Shape := ⟨2, ![2048, 2304]⟩
abbrev S_ : Shape := ⟨0, ![]⟩
abbrev S3x2304 : Shape := ⟨2, ![3, 2304]⟩
abbrev S2051x2304 : Shape := ⟨2, ![2051, 2304]⟩
abbrev S1x2304 : Shape := ⟨2, ![1, 2304]⟩
abbrev S2304 : Shape := ⟨1, ![2304]⟩

abbrev nBuf : Space → Nat
  | .hbm => 117
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S3x2304, .f32⟩
  | .hbm, ⟨6, _⟩ => ⟨S2051x2304, .f32⟩
  | .hbm, ⟨7, _⟩ => ⟨S_, .f32⟩
  | .hbm, ⟨8, _⟩ => ⟨S3x2304, .f32⟩
  | .hbm, ⟨9, _⟩ => ⟨S1x2304, .f32⟩
  | .hbm, ⟨10, _⟩ => ⟨S2304, .f32⟩
  | .hbm, ⟨11, _⟩ => ⟨S2048x2304, .f32⟩
  | .hbm, ⟨12, _⟩ => ⟨S1x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S1x2304, .f32⟩
  | .hbm, ⟨19, _⟩ => ⟨S2304, .f32⟩
  | .hbm, ⟨20, _⟩ => ⟨S2048x2304, .f32⟩
  | .hbm, ⟨21, _⟩ => ⟨S1x2304, .f32⟩
  | .hbm, ⟨22, _⟩ => ⟨S2048x2304, .f32⟩
  | .hbm, ⟨23, _⟩ => ⟨S2048x2304, .f32⟩
  | .hbm, ⟨24, _⟩ => ⟨S2048x2304, .f32⟩
  | .hbm, ⟨25, _⟩ => ⟨S1x2304, .f32⟩
  | .hbm, ⟨26, _⟩ => ⟨S2304, .f32⟩
  | .hbm, ⟨27, _⟩ => ⟨S2048x2304, .f32⟩
  | .hbm, ⟨28, _⟩ => ⟨S1x2304, .f32⟩
  | .hbm, ⟨29, _⟩ => ⟨S2048x2304, .f32⟩
  | .hbm, ⟨30, _⟩ => ⟨S2048x2304, .f32⟩
  | .hbm, ⟨31, _⟩ => ⟨S2048x2304, .f32⟩
  | .hbm, ⟨32, _⟩ => ⟨S1x2304, .f32⟩
  | .hbm, ⟨33, _⟩ => ⟨S2304, .f32⟩
  | .hbm, ⟨34, _⟩ => ⟨S2048x2304, .f32⟩
  | .hbm, ⟨35, _⟩ => ⟨S1x2304, .f32⟩
  | .hbm, ⟨36, _⟩ => ⟨S2048x2304, .f32⟩
  | .hbm, ⟨37, _⟩ => ⟨S2048x2304, .f32⟩
  | .hbm, ⟨38, _⟩ => ⟨S2048x2304, .f32⟩
  | .hbm, ⟨39, _⟩ => ⟨S2048x2304, .f32⟩
  | .hbm, ⟨40, _⟩ => ⟨S2048x2304, .f32⟩
  | .hbm, ⟨41, _⟩ => ⟨S_, .f32⟩
  | .hbm, ⟨42, _⟩ => ⟨S2048x2304, .f32⟩
  | .hbm, ⟨43, _⟩ => ⟨S2048x2304, .f32⟩
  | .hbm, ⟨44, _⟩ => ⟨S_, .f32⟩
  | .hbm, ⟨45, _⟩ => ⟨S2048x2304, .f32⟩
  | .hbm, ⟨46, _⟩ => ⟨S2048x2304, .f32⟩
  | .hbm, ⟨47, _⟩ => ⟨S_, .f32⟩
  | .hbm, ⟨48, _⟩ => ⟨S2048x2304, .f32⟩
  | .hbm, ⟨49, _⟩ => ⟨S2048x2304, .f32⟩
  | .hbm, ⟨50, _⟩ => ⟨S2048x2304, .f32⟩
  | .hbm, ⟨51, _⟩ => ⟨S2048x2304, .f32⟩
  | .hbm, ⟨52, _⟩ => ⟨S2048x2304, .f32⟩
  | .hbm, ⟨53, _⟩ => ⟨S2048x2304, .f32⟩
  | .hbm, ⟨54, _⟩ => ⟨S2048x2304, .f32⟩
  | .hbm, ⟨55, _⟩ => ⟨S2048x2304, .f32⟩
  | .hbm, ⟨56, _⟩ => ⟨S2048x2304, .f32⟩
  | .hbm, ⟨57, _⟩ => ⟨S2048x2304, .f32⟩
  | .hbm, ⟨58, _⟩ => ⟨S2048x2304, .f32⟩
  | .hbm, ⟨59, _⟩ => ⟨S_, .f32⟩
  | .hbm, ⟨60, _⟩ => ⟨S2304, .f32⟩
  | .hbm, ⟨61, _⟩ => ⟨S1x2304, .f32⟩
  | .hbm, ⟨62, _⟩ => ⟨S_, .f32⟩
  | .hbm, ⟨63, _⟩ => ⟨S2304, .f32⟩
  | .hbm, ⟨64, _⟩ => ⟨S_, .f32⟩
  | .hbm, ⟨65, _⟩ => ⟨S2051x2304, .f32⟩
  | .hbm, ⟨66, _⟩ => ⟨S1x2304, .f32⟩
  | .hbm, ⟨67, _⟩ => ⟨S_, .f32⟩
  | .hbm, ⟨68, _⟩ => ⟨S4x2304, .f32⟩
  | .hbm, ⟨69, _⟩ => ⟨S2048x2304, .f32⟩
  | .hbm, ⟨70, _⟩ => ⟨S2048x2304, .f32⟩
  | .hbm, ⟨71, _⟩ => ⟨S2048x2304, .f32⟩
  | .hbm, ⟨72, _⟩ => ⟨S_, .f32⟩
  | .hbm, ⟨73, _⟩ => ⟨S2304, .f32⟩
  | .hbm, ⟨74, _⟩ => ⟨S1x2304, .f32⟩
  | .hbm, ⟨75, _⟩ => ⟨S_, .f32⟩
  | .hbm, ⟨76, _⟩ => ⟨S2304, .f32⟩
  | .hbm, ⟨77, _⟩ => ⟨S_, .f32⟩
  | .hbm, ⟨78, _⟩ => ⟨S2051x2304, .f32⟩
  | .hbm, ⟨79, _⟩ => ⟨S2051x2304, .f32⟩
  | .hbm, ⟨80, _⟩ => ⟨S1x2304, .f32⟩
  | .hbm, ⟨81, _⟩ => ⟨S_, .f32⟩
  | .hbm, ⟨82, _⟩ => ⟨S4x2304, .f32⟩
  | .hbm, ⟨83, _⟩ => ⟨S4x2304, .f32⟩
  | .hbm, ⟨84, _⟩ => ⟨S2048x2304, .f32⟩
  | .hbm, ⟨85, _⟩ => ⟨S2048x2304, .f32⟩
  | .hbm, ⟨86, _⟩ => ⟨S2048x2304, .f32⟩
  | .hbm, ⟨87, _⟩ => ⟨S_, .f32⟩
  | .hbm, ⟨88, _⟩ => ⟨S2304, .f32⟩
  | .hbm, ⟨89, _⟩ => ⟨S1x2304, .f32⟩
  | .hbm, ⟨90, _⟩ => ⟨S_, .f32⟩
  | .hbm, ⟨91, _⟩ => ⟨S2304, .f32⟩
  | .hbm, ⟨92, _⟩ => ⟨S_, .f32⟩
  | .hbm, ⟨93, _⟩ => ⟨S2051x2304, .f32⟩
  | .hbm, ⟨94, _⟩ => ⟨S2051x2304, .f32⟩
  | .hbm, ⟨95, _⟩ => ⟨S1x2304, .f32⟩
  | .hbm, ⟨96, _⟩ => ⟨S_, .f32⟩
  | .hbm, ⟨97, _⟩ => ⟨S4x2304, .f32⟩
  | .hbm, ⟨98, _⟩ => ⟨S4x2304, .f32⟩
  | .hbm, ⟨99, _⟩ => ⟨S2048x2304, .f32⟩
  | .hbm, ⟨100, _⟩ => ⟨S2048x2304, .f32⟩
  | .hbm, ⟨101, _⟩ => ⟨S2048x2304, .f32⟩
  | .hbm, ⟨102, _⟩ => ⟨S_, .f32⟩
  | .hbm, ⟨103, _⟩ => ⟨S2304, .f32⟩
  | .hbm, ⟨104, _⟩ => ⟨S1x2304, .f32⟩
  | .hbm, ⟨105, _⟩ => ⟨S_, .f32⟩
  | .hbm, ⟨106, _⟩ => ⟨S2304, .f32⟩
  | .hbm, ⟨107, _⟩ => ⟨S_, .f32⟩
  | .hbm, ⟨108, _⟩ => ⟨S2051x2304, .f32⟩
  | .hbm, ⟨109, _⟩ => ⟨S2051x2304, .f32⟩
  | .hbm, ⟨110, _⟩ => ⟨S1x2304, .f32⟩
  | .hbm, ⟨111, _⟩ => ⟨S_, .f32⟩
  | .hbm, ⟨112, _⟩ => ⟨S4x2304, .f32⟩
  | .hbm, ⟨113, _⟩ => ⟨S4x2304, .f32⟩
  | .hbm, ⟨114, _⟩ => ⟨S3x2304, .f32⟩
  | .hbm, ⟨115, _⟩ => ⟨S2048x2304, .f32⟩
  | .hbm, ⟨116, _⟩ => ⟨S2048x2304, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== Proof.MergeVal.lean ====
/-
  The gate-mix backward call: its four result arrays as functions of the arguments, and the reference's, equal at the
  ideal instance.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit.Point
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.MergeIdeal.Val

open Cert.MergeIdeal Cert.MergeIdeal.Gen Cert.MergeRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)
theorem idx8 : ∀ t : Fin cfg0.N, win0_8.index t = ![(grid0.coords t 0).val, 0] := (by decide +kernel : ∀ t : Fin grid0.N, _)

set_option maxHeartbeats 1000000 in
theorem final6 (c : Dev nD) : (dats m 0 c).arrAt 6 cfg0.N
    = val_main_v31 (F := Ideal) (m ((c : Thread nD τ).loc main_arg0)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  simp only [Ideal.logistic]
  blk_point [iblk, V, idx0 t, idx4 t, idx6 t]

set_option maxHeartbeats 1000000 in
theorem final7 (c : Dev nD) : (dats m 0 c).arrAt 7 cfg0.N
    = val_main_v32 (F := Ideal) (m ((c : Thread nD τ).loc main_arg0)) (m ((c : Thread nD τ).loc main_arg4)) := by
  refine (dats m 0 c).arrAt_eq_of_covers 7 _ (by decide +kernel) fun t hf y => ?_
  blk_simp
  rw [after0_7]
  frame_out
  unfold_payloads
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  simp only [Ideal.logistic]
  blk_point [iblk, V, idx0 t, idx4 t, idx7 t]

set_option maxHeartbeats 1000000 in
theorem final8 (c : Dev nD) : (dats m 0 c).arrAt 8 cfg0.N
    = val_main_v33 (F := Ideal) (m ((c : Thread nD τ).loc main_arg0)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  simp only [Ideal.logistic]
  blk_point [iblk, V, idx0 t, idx4 t, idx8 t]

set_option maxHeartbeats 1000000 in
theorem final5 (c : Dev nD) : (dats m 0 c).arrAt 5 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  unfold_payloads
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33]
  blk_simp [idx5 t]
  simp only [Ideal.logistic]
  by_cases h1 : ((y 1 : Fin _) : ℕ) < 2048
  · have h2 : ((y 1 : Fin _) : ℕ) < 4096 := by omega
    simp only [h1, h2, ↓reduceDIte, zero_add]
    blk_point [iblk, V, idx0 t, idx1 t, idx2 t, idx3 t, idx4 t, idx5 t]
  · by_cases h2 : ((y 1 : Fin _) : ℕ) < 4096
    · have h3 : ((y 1 : Fin _) : ℕ) - 2048 < 2048 := by omega
      simp only [h1, h2, h3, ↓reduceDIte, zero_add, add_zero]
      blk_point [iblk, V, idx0 t, idx1 t, idx2 t, idx3 t, idx4 t, idx5 t]
    · have h3 : ¬ ((y 1 : Fin _) : ℕ) - 2048 < 2048 := by omega
      simp only [h1, h2, h3, ↓reduceDIte, add_zero]
      blk_point [iblk, V, idx0 t, idx1 t, idx2 t, idx3 t, idx4 t, idx5 t]

end Cert.MergeIdeal.Val

namespace Cert.Proof.MergeClaims

theorem frame_k : Cert.quiescent_Merge := fun m ρ _ => Cert.Merge.Gen.frame m ρ
theorem frame_i : Cert.quiescent_MergeIdeal := fun m ρ _ => Cert.MergeIdeal.Gen.frame m ρ
theorem frame_r : Cert.quiescent_MergeRefIdeal := fun m ρ _ =>
  (θ_run Cert.MergeRefIdeal.defs _ _).mono (fun r h => ⟨fun c => (h c).2.2.2.2,
      Idealize.ShloMosaic.sem_eq_zero_of_no_sems (by decide) r.2⟩)
    (Cert.MergeRefIdeal.Value.run (F := Ideal) m ρ)

open Cert.MergeIdeal.Val in
/-- The kernel's four result arrays are the reference's, as functions of the arguments. -/
theorem algebraic : Cert.algebraic_MergeIdeal_MergeRefIdeal := by
  intro m ρ m' ρ' _ hag
  refine ⟨fun c => _, fun c => _, fun c => _, fun c => _, (θ_run Cert.MergeIdeal.defs _ _).mono (fun _ h c => ⟨(h c).1.trans (final5 m c), (h c).2.1.trans (final6 m c), (h c).2.2.1.trans (final7 m c), (h c).2.2.2.1.trans (final8 m c), (h c).2.2.2.2⟩) (Cert.MergeIdeal.Value.run_blocks (F := Ideal) m ρ), (θ_run Cert.MergeRefIdeal.defs _ _).mono (fun _ h c => ?_) (Cert.MergeRefIdeal.Value.run (F := Ideal) m' ρ')⟩
  obtain ⟨h0, h1, h2, h3, hk⟩ := h c
  obtain ⟨a0, a1, a2, a3, a4⟩ := hag c
  rw [a0, a1, a2, a3, a4] at h0
  rw [a0, a4] at h1 h2 h3
  exact ⟨h0, h1, h2, h3, hk⟩

end Cert.Proof.MergeClaims

end
-- ==== Proof.SbLoops.lean ====
/- The loops of the stick-breaking backward body: the sweep over the earlier key blocks, last first (`k0_t1`), stores the
   products and the scores of each block and adds to the gradient of the values; its remainder loop (`k0_t2`) makes no trip. -/
module

public import proofs.«01_k».proof.Proof.Gen.SbIdeal.Frame
public import proofs.«01_k».proof.Proof.Gen.SbIdeal.Loops

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄G" => MT nD τ sig Unit (Elt F) ℕ (UR sig nD τ) ℕ

/-! ## Where the stores of a trip lie -/

theorem trips_t1 : ∀ i : grid0.Coords, (k0_t1_loop i).trips = (i 1).val := by decide +kernel
theorem trips_t2 : ∀ i : grid0.Coords, (k0_t2_loop i).trips = 0 := by decide +kernel
theorem trips_t3 : ∀ i : grid0.Coords, (k0_t3_loop i).trips = (i 1).val := by decide +kernel
theorem trips_t4 : ∀ i : grid0.Coords, (k0_t4_loop i).trips = 0 := by decide +kernel

theorem off6_eq : ∀ (i : grid0.Coords) (k : Fin (k0_t1_loop i).trips), k0_off6 i k = ![256 * ((i 1).val - 1 - k.val), 0] := by decide +kernel
theorem off7_eq : ∀ (i : grid0.Coords) (k : Fin (k0_t1_loop i).trips), k0_off7 i k = ![(i 1).val - 1 - k.val, 0, 0, 0] := by decide +kernel
theorem off8_eq : ∀ (i : grid0.Coords) (k : Fin (k0_t1_loop i).trips), k0_off8 i k = ![256 * ((i 1).val - 1 - k.val), 0] := by decide +kernel
theorem off9_eq : ∀ (i : grid0.Coords) (k : Fin (k0_t1_loop i).trips), k0_off9 i k = ![256 * ((i 1).val - 1 - k.val), 128] := by decide +kernel
theorem off10_eq : ∀ (i : grid0.Coords) (k : Fin (k0_t1_loop i).trips), k0_off10 i k = ![256 * ((i 1).val - 1 - k.val), 256] := by decide +kernel

instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩

/-! ## The sweep over the earlier blocks -/

/-- What one trip of `k0_t1` reads (arg3, arg4) and writes (arg9, arg10, arg12). -/
abbrev Trip1 (c : Dev nD) (arg3 : Memref sig .tc .vmem S2048x384 .f32) (arg4 : Memref sig .tc .vmem S2048x384 .f32) (arg9 : Memref sig .tc .vmem S8x3x256x256 .f32) (arg10 : Memref sig .tc .vmem S8x3x256x256 .f32) (arg12 : Memref sig .tc .vmem S2048x384 .f32) (X3 : BufTy.Contents (Elt F) arg3.view.ty) (X4 : BufTy.Contents (Elt F) arg4.view.ty) (f9 : BufTy.Contents (Elt F) arg9.view.ty) (f10 : BufTy.Contents (Elt F) arg10.view.ty) (f12 : BufTy.Contents (Elt F) arg12.view.ty) : sProp 𝕄G :=
  iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12))

/-- One trip of `k0_t1`: what it yields and what it stores, from the carried value and what the trip finds in arg12. -/
@[irreducible] def trip1 (𝒱 : Variants) (c : Dev nD) (bd : Option 𝒱.V) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (k : Fin (k0_t1_loop i).trips) :
    Σ' (R : (FVec F S3x256x1 .f32) → FVec F S3x256x1 .f32) (L9 : (FVec F S3x256x1 .f32) → List (View.Piece (Elt F) S8x3x256x256 .f32)) (L10 : (FVec F S3x256x1 .f32) → List (View.Piece (Elt F) S8x3x256x256 .f32)), { L12 : (FVec F S3x256x1 .f32) → BufTy.Contents (Elt F) arg12.view.ty → List (View.Piece (Elt F) S2048x384 .f32) // ∀ (E : Set ℕ) (acc : FVec F S3x256x1 .f32) (f9 : BufTy.Contents (Elt F) arg9.view.ty) (f10 : BufTy.Contents (Elt F) arg10.view.ty) (f12 : BufTy.Contents (Elt F) arg12.view.ty),
      Trip1 (F := F) c arg3 arg4 arg9 arg10 arg12 X3 X4 f9 f10 f12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v10 v18 v22 v23 v26 v66 v135 k acc)
          (fun yld => iprop(⌜yld = R acc⌝ ∗ Trip1 (F := F) c arg3 arg4 arg9 arg10 arg12 X3 X4 (arg9.view.writes (Elt F) f9 (L9 acc)) (arg10.view.writes (Elt F) f10 (L10 acc)) (arg12.view.writes (Elt F) f12 (L12 acc f12)))) } := by
  refine ⟨?_, ?_, ?_, ?_, fun E acc f9 f10 f12 => ?run⟩
  case run =>
    unfold k0_t1_body
    iintro ⟨HR3, HR4, HW9, HW10, HW12⟩
    sl_exec
    sl_step
    sl_close

/-- What trip `k` makes of what the loop carries (`prev`: the carried value, and the pieces stored into arg9, arg10, arg12). -/
@[irreducible] def st1Step (𝒱 : Variants) (c : Dev nD) (bd : Option 𝒱.V) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (G12 : BufTy.Contents (Elt F) arg12.view.ty) (k : ℕ) (prev : (FVec F S3x256x1 .f32) × List (View.Piece (Elt F) S8x3x256x256 .f32) × List (View.Piece (Elt F) S8x3x256x256 .f32) × List (View.Piece (Elt F) S2048x384 .f32)) : (FVec F S3x256x1 .f32) × List (View.Piece (Elt F) S8x3x256x256 .f32) × List (View.Piece (Elt F) S8x3x256x256 .f32) × List (View.Piece (Elt F) S2048x384 .f32) :=
  if h : k < (k0_t1_loop i).trips then
    ((trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 ⟨k, h⟩).1 prev.1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 ⟨k, h⟩).2.1 prev.1 ++ prev.2.1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 ⟨k, h⟩).2.2.1 prev.1 ++ prev.2.2.1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 ⟨k, h⟩).2.2.2.1 prev.1 (arg12.view.writes (Elt F) G12 prev.2.2.2) ++ prev.2.2.2)
  else prev

/-- What the loop carries before trip `k`. -/
def st1 (𝒱 : Variants) (c : Dev nD) (bd : Option 𝒱.V) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (G12 : BufTy.Contents (Elt F) arg12.view.ty) (init : FVec F S3x256x1 .f32) : ℕ → (FVec F S3x256x1 .f32) × List (View.Piece (Elt F) S8x3x256x256 .f32) × List (View.Piece (Elt F) S8x3x256x256 .f32) × List (View.Piece (Elt F) S2048x384 .f32)
  | 0 => (init, [], [], [])
  | k + 1 => st1Step 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 k (st1 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k)

theorem st1_succ (𝒱 : Variants) (c : Dev nD) (bd : Option 𝒱.V) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (G12 : BufTy.Contents (Elt F) arg12.view.ty) (init : FVec F S3x256x1 .f32) (k : Fin (k0_t1_loop i).trips) :
    st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init (k.val + 1)
      = ((trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 k).1 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 k).2.1 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).1 ++ (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).2.1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 k).2.2.1 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).1 ++ (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).2.2.1,
      (trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 k).2.2.2.1 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).1 (arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).2.2.2) ++ (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k.val).2.2.2) := by
  rw [st1.eq_2]; unfold st1Step; exact dif_pos k.isLt

set_option warn.classDefReducibility false in
/-- The loop `k0_t1` by its invariant: arg3 and arg4 as they were, arg9, arg10 and arg12 with the pieces of the trips before. -/
@[sl_loop] def loopInv1 (𝒱 : Variants) (c : Dev nD) (bd : Option 𝒱.V) (E : Set ℕ) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (G9 : BufTy.Contents (Elt F) arg9.view.ty) (G10 : BufTy.Contents (Elt F) arg10.view.ty) (G12 : BufTy.Contents (Elt F) arg12.view.ty) (init : FVec F S3x256x1 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v10 v18 v22 v23 v26 v66 v135 init where
  inv k acc := iprop((arg3.view.loc (c : Thread nD τ) ↦[arg3.view.set]{fullShare} X3) ∗ (arg4.view.loc (c : Thread nD τ) ↦[arg4.view.set]{fullShare} X4)
    ∗ (∃ f, (arg9.view.loc (c : Thread nD τ) ↦[arg9.view.set]{fullShare} f) ∗ ⌜f = arg9.view.writes (Elt F) G9 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.1⌝)
    ∗ (∃ f, (arg10.view.loc (c : Thread nD τ) ↦[arg10.view.set]{fullShare} f) ∗ ⌜f = arg10.view.writes (Elt F) G10 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.2.1⌝)
    ∗ (∃ f, (arg12.view.loc (c : Thread nD τ) ↦[arg12.view.set]{fullShare} f) ∗ ⌜f = arg12.view.writes (Elt F) G12 (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.2.2⌝)
    ∗ ⌜acc = (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).1⌝)
  step k acc := by
    iintro ⟨HR3, HR4, ⟨%f9, HW9, %h9⟩, ⟨%f10, HW10, %h10⟩, ⟨%f12, HW12, %h12⟩, %h_acc⟩
    subst h_acc
    iapply (wp_wand_r Idealize.ShloMosaic.frame (wpE (defs₀ (F := F)) 𝒱 (c : Thread nD τ) bd) E)
    isplitl [HR3 HR4 HW9 HW10 HW12]
    · iapply ((trip1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 k).2.2.2.2 E (st1 (F := F) 𝒱 c bd i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).1 f9 f10 f12)
      isplitl [HR3]; · iexact HR3
      isplitl [HR4]; · iexact HR4
      isplitl [HW9]; · iexact HW9
      isplitl [HW10]; · iexact HW10
      iexact HW12
    · iintro %yld ⟨%h_res, HR3, HR4, HW9, HW10, HW12⟩
      isplitl [HR3]; · iexact HR3
      isplitl [HR4]; · iexact HR4
      simp only [st1_succ]
      isplitl [HW9]
      · iexists _; isplitl [HW9]; · iexact HW9
        ipureintro; rw [h9, ← View.writes_append]
      isplitl [HW10]
      · iexists _; isplitl [HW10]; · iexact HW10
        ipureintro; rw [h10, ← View.writes_append]
      isplitl [HW12]
      · iexists _; isplitl [HW12]; · iexact HW12
        ipureintro; rw [h12, ← View.writes_append]
      ipureintro; rw [h_res]

set_option warn.classDefReducibility false in
/-- The remainder loop `k0_t2` makes no trip. -/
@[sl_loop] def loopInv2 (𝒱 : Variants) (c : Dev nD) (bd : Option 𝒱.V) (E : Set ℕ) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (v147 : BitVec 32) (init : FVec F S3x256x1 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v10 v18 v22 v23 v26 v66 v135 v147 init where
  inv k acc := iprop(⌜acc = init⌝)
  step k acc := absurd (lt_of_lt_of_eq k.isLt (trips_t2 i)) (Nat.not_lt_zero _)

end Cert.SbIdeal.Hand

end
-- ==== Proof.SbRunB.lean ====
/- The body of the stick-breaking backward call, run in its three cases: the first query block of a group of heads, a middle
   one, and the last one. -/
module

public import proofs.«01_k».proof.Proof.SbLoops

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The query block is the first. -/
abbrev cond0 (i : grid0.Coords) : Prop := (Scalar.cmpi .ne (Scalar.extui (Scalar.cmpi .eq (BitVec.ofNat 32 (i 1).val) 0#32)) 0#32) = 1#1

set_option maxHeartbeats 4000000 in
/-- The body in case B: what it stores into its results and leaves in the two gradients' accumulators. -/
noncomputable def runB (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : ¬k0_cond2 i = 1#1)
    (x0 : Vec F S256x384 .f32) (x1 : Vec F S2048x384 .f32) (x2 : Vec F S2048x384 .f32) (x3 : Vec F S256x384 .bf16) (d11 : Vec F S2048x384 .f32) (d12 : Vec F S2048x384 .f32) :
    Σ' (L4 : (BufTy.Contents (Elt F) arg9.view.ty) → (BufTy.Contents (Elt F) arg10.view.ty) → List (View.Piece (Elt F) S256x384 .bf16)) (S11 : (BufTy.Contents (Elt F) arg9.view.ty) → (BufTy.Contents (Elt F) arg10.view.ty) → (BufTy.Contents (Elt F) arg11.view.ty)), { S12 : (BufTy.Contents (Elt F) arg12.view.ty) // ∀ (x5 x6 : Vec F S2048x384 .bf16) (f9 : BufTy.Contents (Elt F) arg9.view.ty) (f10 : BufTy.Contents (Elt F) arg10.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (arg9.view.loc (c : Thread nD τ) ↦[arg9.view.set]{fullShare} f9) ∗ (arg10.view.loc (c : Thread nD τ) ↦[arg10.view.set]{fullShare} f10) ∗ owns (c : Thread nD τ) arg11 fullShare d11 ∗ owns (c : Thread nD τ) arg12 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f (L4 f9 f10))) ∗ owns (c : Thread nD τ) arg7 fullShare x5 ∗ owns (c : Thread nD τ) arg8 fullShare x6 ∗ (∃ f, (arg9.view.loc (c : Thread nD τ) ↦[arg9.view.set]{fullShare} f)) ∗ (∃ f, (arg10.view.loc (c : Thread nD τ) ↦[arg10.view.set]{fullShare} f)) ∗ (arg11.view.loc (c : Thread nD τ) ↦[arg11.view.set]{fullShare} S11 f9 f10) ∗ (arg12.view.loc (c : Thread nD τ) ↦[arg12.view.set]{fullShare} S12)) -∗ K ⟨⟩))
          ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K } := by
  refine ⟨?_, ?_, ?_, fun x5 x6 f9 f10 E K => ?run⟩
  case run =>
    simp only [cc0_sb_eq_skeleton]; unfold cc0_sb_skel
    unfold owns
    iintro ⟨⟨%g0, %hg0, H0⟩, ⟨%g1, %hg1, H1⟩, ⟨%g2, %hg2, H2⟩, ⟨%g3, %hg3, H3⟩, ⟨%d4, %g4, %hg4, H4⟩, ⟨%g5, %hg5, H5⟩, ⟨%g6, %hg6, H6⟩, H9, H10, ⟨%g11, %hg11, H11⟩, ⟨%g12, %hg12, H12⟩, Hk⟩
    obtain rfl := harg2.eq_unread hg0; obtain rfl := harg3.eq_unread hg1; obtain rfl := harg4.eq_unread hg2; obtain rfl := harg5.eq_unread hg3; obtain rfl := harg7.eq_unread hg5; obtain rfl := harg8.eq_unread hg6; obtain rfl := harg11.eq_unread hg11; obtain rfl := harg12.eq_unread hg12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    isplitl [H11]; · iexact H11
    iexact H12

end Cert.SbIdeal.Hand

end
-- ==== Proof.SbRunA.lean ====
/- The body of the stick-breaking backward call, run in its three cases: the first query block of a group of heads, a middle
   one, and the last one. -/
module

public import proofs.«01_k».proof.Proof.SbRunB

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body in case A: what it stores into its results and leaves in the two gradients' accumulators. -/
noncomputable def runA (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : cond0 i) (hc1 : ¬k0_cond2 i = 1#1)
    (x0 : Vec F S256x384 .f32) (x1 : Vec F S2048x384 .f32) (x2 : Vec F S2048x384 .f32) (x3 : Vec F S256x384 .bf16) :
    Σ' (L4 : (BufTy.Contents (Elt F) arg9.view.ty) → (BufTy.Contents (Elt F) arg10.view.ty) → (BufTy.Contents (Elt F) arg11.view.ty) → (BufTy.Contents (Elt F) arg12.view.ty) → List (View.Piece (Elt F) S256x384 .bf16)) (S11 : (BufTy.Contents (Elt F) arg9.view.ty) → (BufTy.Contents (Elt F) arg10.view.ty) → (BufTy.Contents (Elt F) arg11.view.ty) → (BufTy.Contents (Elt F) arg12.view.ty) → (BufTy.Contents (Elt F) arg11.view.ty)), { S12 : (BufTy.Contents (Elt F) arg11.view.ty) → (BufTy.Contents (Elt F) arg12.view.ty) → (BufTy.Contents (Elt F) arg12.view.ty) // ∀ (x5 x6 : Vec F S2048x384 .bf16) (f9 : BufTy.Contents (Elt F) arg9.view.ty) (f10 : BufTy.Contents (Elt F) arg10.view.ty) (f11 : BufTy.Contents (Elt F) arg11.view.ty) (f12 : BufTy.Contents (Elt F) arg12.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f (L4 f9 f10 f11 f12))) ∗ owns (c : Thread nD τ) arg7 fullShare x5 ∗ owns (c : Thread nD τ) arg8 fullShare x6 ∗ (∃ f, (arg9.view.loc (c : Thread nD τ) ↦[arg9.view.set]{fullShare} f)) ∗ (∃ f, (arg10.view.loc (c : Thread nD τ) ↦[arg10.view.set]{fullShare} f)) ∗ (arg11.view.loc (c : Thread nD τ) ↦[arg11.view.set]{fullShare} S11 f9 f10 f11 f12) ∗ (arg12.view.loc (c : Thread nD τ) ↦[arg12.view.set]{fullShare} S12 f11 f12)) -∗ K ⟨⟩))
          ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K } := by
  refine ⟨?_, ?_, ?_, fun x5 x6 f9 f10 f11 f12 E K => ?run⟩
  case run =>
    simp only [cc0_sb_eq_skeleton]; unfold cc0_sb_skel
    unfold owns
    iintro ⟨⟨%g0, %hg0, H0⟩, ⟨%g1, %hg1, H1⟩, ⟨%g2, %hg2, H2⟩, ⟨%g3, %hg3, H3⟩, ⟨%d4, %g4, %hg4, H4⟩, ⟨%g5, %hg5, H5⟩, ⟨%g6, %hg6, H6⟩, H9, H10, H11, H12, Hk⟩
    obtain rfl := harg2.eq_unread hg0; obtain rfl := harg3.eq_unread hg1; obtain rfl := harg4.eq_unread hg2; obtain rfl := harg5.eq_unread hg3; obtain rfl := harg7.eq_unread hg5; obtain rfl := harg8.eq_unread hg6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    isplitl [H11]; · iexact H11
    iexact H12

end Cert.SbIdeal.Hand

end
-- ==== Proof.SbRunC.lean ====
/- The body of the stick-breaking backward call, run in its three cases: the first query block of a group of heads, a middle
   one, and the last one. -/
module

public import proofs.«01_k».proof.Proof.SbRunA

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body in case C: what it stores into its results and leaves in the two gradients' accumulators. -/
noncomputable def runC (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1)
    (x0 : Vec F S256x384 .f32) (x1 : Vec F S2048x384 .f32) (x2 : Vec F S2048x384 .f32) (x3 : Vec F S256x384 .bf16) (d11 : Vec F S2048x384 .f32) (d12 : Vec F S2048x384 .f32) :
    Σ' (L4 : (BufTy.Contents (Elt F) arg9.view.ty) → (BufTy.Contents (Elt F) arg10.view.ty) → List (View.Piece (Elt F) S256x384 .bf16)) (L5 : (BufTy.Contents (Elt F) arg9.view.ty) → (BufTy.Contents (Elt F) arg10.view.ty) → List (View.Piece (Elt F) S2048x384 .bf16)) (L6 : List (View.Piece (Elt F) S2048x384 .bf16)) (S11 : (BufTy.Contents (Elt F) arg9.view.ty) → (BufTy.Contents (Elt F) arg10.view.ty) → (BufTy.Contents (Elt F) arg11.view.ty)), { S12 : (BufTy.Contents (Elt F) arg12.view.ty) // ∀ (f9 : BufTy.Contents (Elt F) arg9.view.ty) (f10 : BufTy.Contents (Elt F) arg10.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ owns (c : Thread nD τ) arg11 fullShare d11 ∗ owns (c : Thread nD τ) arg12 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f (L4 f9 f10))) ∗ (∃ f, (arg7.view.loc (c : Thread nD τ) ↦[arg7.view.set]{fullShare} arg7.view.writes (Elt F) f (L5 f9 f10))) ∗ (∃ f, (arg8.view.loc (c : Thread nD τ) ↦[arg8.view.set]{fullShare} arg8.view.writes (Elt F) f L6)) ∗ (∃ f, (arg9.view.loc (c : Thread nD τ) ↦[arg9.view.set]{fullShare} f)) ∗ (∃ f, (arg10.view.loc (c : Thread nD τ) ↦[arg10.view.set]{fullShare} f)) ∗ (arg11.view.loc (c : Thread nD τ) ↦[arg11.view.set]{fullShare} S11 f9 f10) ∗ (arg12.view.loc (c : Thread nD τ) ↦[arg12.view.set]{fullShare} S12)) -∗ K ⟨⟩))
          ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K } := by
  refine ⟨?_, ?_, ?_, ?_, ?_, fun f9 f10 E K => ?run⟩
  case run =>
    simp only [cc0_sb_eq_skeleton]; unfold cc0_sb_skel
    unfold owns
    iintro ⟨⟨%g0, %hg0, H0⟩, ⟨%g1, %hg1, H1⟩, ⟨%g2, %hg2, H2⟩, ⟨%g3, %hg3, H3⟩, ⟨%d4, %g4, %hg4, H4⟩, ⟨%d5, %g5, %hg5, H5⟩, ⟨%d6, %g6, %hg6, H6⟩, H9, H10, ⟨%g11, %hg11, H11⟩, ⟨%g12, %hg12, H12⟩, Hk⟩
    obtain rfl := harg2.eq_unread hg0; obtain rfl := harg3.eq_unread hg1; obtain rfl := harg4.eq_unread hg2; obtain rfl := harg5.eq_unread hg3; obtain rfl := harg11.eq_unread hg11; obtain rfl := harg12.eq_unread hg12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    isplitl [H9]; · iexists _; iexact H9
    isplitl [H10]; · iexists _; iexact H10
    isplitl [H11]; · iexact H11
    iexact H12

end Cert.SbIdeal.Hand

end
-- ==== Proof.SbModel.lean ====
/- The stick-breaking backward body as a function of the vectors it reads, without the memory: what one block of queries makes of
   the two running sums, and the equality of the symbolic run's loops with it. -/
module

public import proofs.«01_k».proof.Proof.SbRunC
public import Idealize.ShloMosaic.Lib.VecWindow

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem inb_r : ∀ kb : Fin 8, ∀ a, (![256 * kb.val, 0] : Fin 2 → ℕ) a + S256x384.size a ≤ S2048x384.size a := by decide +kernel
theorem inb_0 : ∀ kb : Fin 8, ∀ a, (![256 * kb.val, 0] : Fin 2 → ℕ) a + S256x128.size a ≤ S2048x384.size a := by decide +kernel
theorem inb_1 : ∀ kb : Fin 8, ∀ a, (![256 * kb.val, 128] : Fin 2 → ℕ) a + S256x128.size a ≤ S2048x384.size a := by decide +kernel
theorem inb_2 : ∀ kb : Fin 8, ∀ a, (![256 * kb.val, 256] : Fin 2 → ℕ) a + S256x128.size a ≤ S2048x384.size a := by decide +kernel
theorem inb_s : ∀ kb : Fin 8, ∀ a, (![kb.val, 0, 0, 0] : Fin 4 → ℕ) a + S1x3x256x256.size a ≤ S8x3x256x256.size a := by decide +kernel

/-- The rows of key block `kb`. -/
def rows (x : Vec F S2048x384 .f32) (kb : Fin 8) : Vec F S256x384 .f32 := VecWindow.window x ![256 * kb.val, 0] S256x384.size (inb_r kb)
/-- The rows of key block `kb`, first head. -/
def hd0 (x : Vec F S2048x384 .f32) (kb : Fin 8) : Vec F S256x128 .f32 := VecWindow.window x ![256 * kb.val, 0] S256x128.size (inb_0 kb)
/-- The rows of key block `kb`, second head. -/
def hd1 (x : Vec F S2048x384 .f32) (kb : Fin 8) : Vec F S256x128 .f32 := VecWindow.window x ![256 * kb.val, 128] S256x128.size (inb_1 kb)
/-- The rows of key block `kb`, third head. -/
def hd2 (x : Vec F S2048x384 .f32) (kb : Fin 8) : Vec F S256x128 .f32 := VecWindow.window x ![256 * kb.val, 256] S256x128.size (inb_2 kb)
/-- `x` with the rows of key block `kb` replaced, head by head. -/
def upd (x : Vec F S2048x384 .f32) (kb : Fin 8) (p0 p1 p2 : Vec F S256x128 .f32) : Vec F S2048x384 .f32 :=
  VecWindow.put (VecWindow.put (VecWindow.put x ![256 * kb.val, 0] S256x128.size p0) ![256 * kb.val, 128] S256x128.size p1) ![256 * kb.val, 256] S256x128.size p2
/-- The tile kept for key block `kb`. -/
def slot (e : Vec F S8x3x256x256 .f32) (kb : Fin 8) : Vec F S1x3x256x256 .f32 := VecWindow.window e ![kb.val, 0, 0, 0] S1x3x256x256.size (inb_s kb)
/-- `e` with the tile of key block `kb` replaced. -/
def setSlot (e : Vec F S8x3x256x256 .f32) (kb : Fin 8) (w : Vec F S1x3x256x256 .f32) : Vec F S8x3x256x256 .f32 := VecWindow.put e ![kb.val, 0, 0, 0] S1x3x256x256.size w

theorem slot_set (e : Vec F S8x3x256x256 .f32) (kb : Fin 8) (w : Vec F S1x3x256x256 .f32) : slot (setSlot e kb w) kb = w := VecWindow.window_put_same _ _ _ _ _

theorem slot_set_ne (e : Vec F S8x3x256x256 .f32) (kb kb' : Fin 8) (w : Vec F S1x3x256x256 .f32) (h : kb' ≠ kb) : slot (setSlot e kb w) kb' = slot e kb' :=
  VecWindow.window_put_of_disjoint _ _ _ _ _ _ _ (0 : Fin 4) (by
    have h' : kb'.val ≠ kb.val := fun e => h (Fin.ext e)
    show kb'.val + 1 ≤ kb.val ∨ kb.val + 1 ≤ kb'.val
    omega)

/-- What the sweep carries: minus the sum of the soft-plus scores to the right, the tiles of `e` and of the scores, the gradient of the values. -/
abbrev Sw (F : FTy → Type) := FVec F S3x256x1 .f32 × Vec F S8x3x256x256 .f32 × Vec F S8x3x256x256 .f32 × Vec F S2048x384 .f32

/-- One earlier key block of the sweep. -/
def step1 (q dO : FVec F S3x256x128 .bf16) (x1 x2 : Vec F S2048x384 .f32) (kb : Fin 8) (s : Sw F) : Sw F :=
  (k0_pay67 s.1 (k0_pay10 q (rows x1 kb)),
   setSlot s.2.1 kb (k0_pay18 dO s.1 (k0_pay11 q (rows x1 kb)) k0_pay12 (k0_pay15 q (rows x1 kb)) (k0_pay16 q (rows x1 kb)) (rows x2 kb)),
   setSlot s.2.2.1 kb (k0_pay19 (k0_pay9 q (rows x1 kb))),
   upd s.2.2.2 kb (k0_pay21 dO s.1 (k0_pay11 q (rows x1 kb)) k0_pay12 (k0_pay15 q (rows x1 kb)) (k0_pay16 q (rows x1 kb)) (hd0 s.2.2.2 kb))
     (k0_pay65 (k0_pay22 dO s.1 (k0_pay11 q (rows x1 kb)) k0_pay12 (k0_pay15 q (rows x1 kb)) (k0_pay16 q (rows x1 kb)) (hd1 s.2.2.2 kb)))
     (k0_pay66 (k0_pay20 dO s.1 (k0_pay11 q (rows x1 kb)) k0_pay12 (k0_pay15 q (rows x1 kb)) (k0_pay16 q (rows x1 kb))) (hd2 s.2.2.2 kb)))

/-- The key block trip `k` of the sweep of query block `qi` takes. -/
def kbOf (qi : Fin 8) (k : ℕ) : Fin 8 := ⟨qi.val - 1 - k, by omega⟩

/-- The sweep's state before trip `k`. -/
def m1 (q dO : FVec F S3x256x128 .bf16) (x1 x2 : Vec F S2048x384 .f32) (qi : Fin 8) (s0 : Sw F) : ℕ → Sw F
  | 0 => s0
  | k + 1 => step1 q dO x1 x2 (kbOf qi k) (m1 q dO x1 x2 qi s0 k)

/-- What the forward pass over the earlier key blocks carries: the gradient of the queries, the sum of `e` to the left, the gradient of the keys. -/
abbrev Fw (F : FTy → Type) := (FVec F S3x256x128 .f32 × FVec F S3x256x1 .f32) × Vec F S2048x384 .f32

/-- One earlier key block of the forward pass. -/
def step3 (q : FVec F S3x256x128 .bf16) (x1 : Vec F S2048x384 .f32) (e z : Vec F S8x3x256x256 .f32) (kb : Fin 8) (s : Fw F) : Fw F :=
  ((k0_pay76 s.1.1 (k0_pay38 s.1.2 (slot e kb) (slot z kb)) (k0_pay39 (rows x1 kb)), k0_pay77 s.1.2 (k0_pay37 (slot e kb))),
   upd s.2 kb (k0_pay73 (hd0 s.2 kb) (k0_pay41 q s.1.2 (slot e kb) (slot z kb)))
     (k0_pay74 (k0_pay40 q s.1.2 (slot e kb) (slot z kb)) (hd1 s.2 kb))
     (k0_pay75 (k0_pay40 q s.1.2 (slot e kb) (slot z kb)) (hd2 s.2 kb)))

/-- The forward pass's state before trip `k`. -/
def m3 (q : FVec F S3x256x128 .bf16) (x1 : Vec F S2048x384 .f32) (e z : Vec F S8x3x256x256 .f32) (s0 : Fw F) : ℕ → Fw F
  | 0 => s0
  | k + 1 => step3 q x1 e z (Fin.ofNat 8 k) (m3 q x1 e z s0 k)

theorem rd_rows {κ : Kind} {sp : Space} (v : View sig κ sp S2048x384 .f32) (f : v.ty.Contents (Elt F)) (kb : Fin 8) (off : Fin 2 → ℕ) (h : off = ![256 * kb.val, 0]) (inb) :
    v.readAt (Elt F) (Rect.unit (s := S2048x384) off S256x384.size inb).toLoadRect f = rows (v.read (Elt F) f) kb := View.readAt_unit v f inb h (inb_r kb)
theorem rd_hd0 {κ : Kind} {sp : Space} (v : View sig κ sp S2048x384 .f32) (f : v.ty.Contents (Elt F)) (kb : Fin 8) (off : Fin 2 → ℕ) (h : off = ![256 * kb.val, 0]) (inb) :
    v.readAt (Elt F) (Rect.unit (s := S2048x384) off S256x128.size inb).toLoadRect f = hd0 (v.read (Elt F) f) kb := View.readAt_unit v f inb h (inb_0 kb)
theorem rd_hd1 {κ : Kind} {sp : Space} (v : View sig κ sp S2048x384 .f32) (f : v.ty.Contents (Elt F)) (kb : Fin 8) (off : Fin 2 → ℕ) (h : off = ![256 * kb.val, 128]) (inb) :
    v.readAt (Elt F) (Rect.unit (s := S2048x384) off S256x128.size inb).toLoadRect f = hd1 (v.read (Elt F) f) kb := View.readAt_unit v f inb h (inb_1 kb)
theorem rd_hd2 {κ : Kind} {sp : Space} (v : View sig κ sp S2048x384 .f32) (f : v.ty.Contents (Elt F)) (kb : Fin 8) (off : Fin 2 → ℕ) (h : off = ![256 * kb.val, 256]) (inb) :
    v.readAt (Elt F) (Rect.unit (s := S2048x384) off S256x128.size inb).toLoadRect f = hd2 (v.read (Elt F) f) kb := View.readAt_unit v f inb h (inb_2 kb)
theorem rd_slot {κ : Kind} {sp : Space} (v : View sig κ sp S8x3x256x256 .f32) (f : v.ty.Contents (Elt F)) (kb : Fin 8) (off : Fin 4 → ℕ) (h : off = ![kb.val, 0, 0, 0]) (inb) :
    v.readAt (Elt F) (Rect.unit (s := S8x3x256x256) off S1x3x256x256.size inb).toLoadRect f = slot (v.read (Elt F) f) kb := View.readAt_unit v f inb h (inb_s kb)
theorem rd_set {κ : Kind} {sp : Space} (v : View sig κ sp S8x3x256x256 .f32) (f : v.ty.Contents (Elt F)) (kb : Fin 8) (off : Fin 4 → ℕ) (h : off = ![kb.val, 0, 0, 0]) (inb) (w : Vec F S1x3x256x256 .f32) (L : List (View.Piece (Elt F) S8x3x256x256 .f32)) :
    v.read (Elt F) (v.writes (Elt F) f (⟨Rect.unit (s := S8x3x256x256) off S1x3x256x256.size inb, w⟩ :: L)) = setSlot (v.read (Elt F) (v.writes (Elt F) f L)) kb w := View.read_writes_cons_put v f inb w L h
theorem rd_upd {κ : Kind} {sp : Space} (v : View sig κ sp S2048x384 .f32) (f : v.ty.Contents (Elt F)) (kb : Fin 8) (o0 o1 o2 : Fin 2 → ℕ) (h0 : o0 = ![256 * kb.val, 0]) (h1 : o1 = ![256 * kb.val, 128]) (h2 : o2 = ![256 * kb.val, 256]) (i0 i1 i2) (p0 p1 p2 : Vec F S256x128 .f32) (L : List (View.Piece (Elt F) S2048x384 .f32)) :
    v.read (Elt F) (v.writes (Elt F) f (⟨Rect.unit (s := S2048x384) o2 S256x128.size i2, p2⟩ :: ⟨Rect.unit (s := S2048x384) o1 S256x128.size i1, p1⟩ :: ⟨Rect.unit (s := S2048x384) o0 S256x128.size i0, p0⟩ :: L))
      = upd (v.read (Elt F) (v.writes (Elt F) f L)) kb p0 p1 p2 := by
  rw [View.read_writes_cons_put v f i2 p2 _ h2, View.read_writes_cons_put v f i1 p1 _ h1, View.read_writes_cons_put v f i0 p0 _ h0]; rfl

/-- The query block as a number below 8. -/
abbrev qOf (i : grid0.Coords) : Fin 8 := ⟨(i 1).val, (i 1).isLt⟩

theorem trip1_eq (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (k : Fin (k0_t1_loop i).trips)
    (acc : FVec F S3x256x1 .f32) (f9 : BufTy.Contents (Elt F) arg9.view.ty) (f10 : BufTy.Contents (Elt F) arg10.view.ty) (f12 : BufTy.Contents (Elt F) arg12.view.ty) (L9 L10 : List (View.Piece (Elt F) S8x3x256x256 .f32)) (L12 : List (View.Piece (Elt F) S2048x384 .f32)) :
    ((trip1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 k).1 acc, arg9.view.read (Elt F) (arg9.view.writes (Elt F) f9 ((trip1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 k).2.1 acc ++ L9)), arg10.view.read (Elt F) (arg10.view.writes (Elt F) f10 ((trip1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 k).2.2.1 acc ++ L10)),
      arg12.view.read (Elt F) (arg12.view.writes (Elt F) f12 ((trip1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 k).2.2.2.1 acc (arg12.view.writes (Elt F) f12 L12) ++ L12)))
      = step1 v10 v18 (arg3.view.read (Elt F) X3) (arg4.view.read (Elt F) X4) (kbOf (qOf i) k.val) (acc, arg9.view.read (Elt F) (arg9.view.writes (Elt F) f9 L9), arg10.view.read (Elt F) (arg10.view.writes (Elt F) f10 L10), arg12.view.read (Elt F) (arg12.view.writes (Elt F) f12 L12)) := by
  have e6 := rd_rows (F := F) arg3.view X3 (kbOf (qOf i) k.val) _ (off6_eq i k) (k0_off6_inb i k)
  have e6' := rd_rows (F := F) arg4.view X4 (kbOf (qOf i) k.val) _ (off6_eq i k) (k0_off6_inb i k)
  have e8 := rd_hd0 (F := F) arg12.view (arg12.view.writes (Elt F) f12 L12) (kbOf (qOf i) k.val) _ (off8_eq i k) (k0_off8_inb i k)
  have e9 := rd_hd1 (F := F) arg12.view (arg12.view.writes (Elt F) f12 L12) (kbOf (qOf i) k.val) _ (off9_eq i k) (k0_off9_inb i k)
  have e10 := rd_hd2 (F := F) arg12.view (arg12.view.writes (Elt F) f12 L12) (kbOf (qOf i) k.val) _ (off10_eq i k) (k0_off10_inb i k)
  unfold trip1 step1
  refine congrArg₂ Prod.mk ?_ (congrArg₂ Prod.mk ?_ (congrArg₂ Prod.mk ?_ ?_))
  · rw [← e6]; rfl
  · rw [← e6, ← e6']; exact rd_set _ _ _ _ (off7_eq i k) _ _ _
  · rw [← e6]; exact rd_set _ _ _ _ (off7_eq i k) _ _ _
  · dsimp only; rw [← e6, ← e8, ← e9, ← e10]; exact rd_upd _ _ _ _ _ _ (off8_eq i k) (off9_eq i k) (off10_eq i k) _ _ _ _ _ _ _

theorem st1_model (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (G9 : BufTy.Contents (Elt F) arg9.view.ty) (G10 : BufTy.Contents (Elt F) arg10.view.ty) (G12 : BufTy.Contents (Elt F) arg12.view.ty) (init : FVec F S3x256x1 .f32) :
    ∀ k : ℕ, k ≤ (k0_t1_loop i).trips → ((st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).1, arg9.view.read (Elt F) (arg9.view.writes (Elt F) G9 (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.1), arg10.view.read (Elt F) (arg10.view.writes (Elt F) G10 (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.2.1), arg12.view.read (Elt F) (arg12.view.writes (Elt F) G12 (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init k).2.2.2))
      = m1 v10 v18 (arg3.view.read (Elt F) X3) (arg4.view.read (Elt F) X4) (qOf i) (init, arg9.view.read (Elt F) G9, arg10.view.read (Elt F) G10, arg12.view.read (Elt F) G12) k
  | 0, _ => rfl
  | k + 1, h => by
    have ih := st1_model c i arg2 harg2 arg3 harg3 arg4 harg4 arg5 harg5 arg6 harg6 arg7 harg7 arg8 harg8 arg9 harg9 arg10 harg10 arg11 harg11 arg12 harg12 arg1 v10 v18 v22 v23 v26 v66 v135 X3 X4 G9 G10 G12 init k (Nat.le_of_succ_le h)
    rw [m1, ← ih]
    have hs := st1_succ (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init ⟨k, h⟩
    simp only at hs
    rw [hs]
    exact trip1_eq c i arg2 harg2 arg3 harg3 arg4 harg4 arg5 harg5 arg6 harg6 arg7 harg7 arg8 harg8 arg9 harg9 arg10 harg10 arg11 harg11 arg12 harg12 arg1 v10 v18 v22 v23 v26 v66 v135 X3 X4 ⟨k, h⟩ _ G9 G10 G12 _ _ _

theorem trip3_eq (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X9 : BufTy.Contents (Elt F) arg9.view.ty) (X10 : BufTy.Contents (Elt F) arg10.view.ty) (k : Fin (k0_t3_loop i).trips)
    (acc : FVec F S3x256x128 .f32 × FVec F S3x256x1 .f32) (f11 : BufTy.Contents (Elt F) arg11.view.ty) (L11 : List (View.Piece (Elt F) S2048x384 .f32)) :
    ((trip_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 k).1 acc (arg11.view.writes (Elt F) f11 L11), arg11.view.read (Elt F) (arg11.view.writes (Elt F) f11 ((trip_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 k).2.1 acc (arg11.view.writes (Elt F) f11 L11) ++ L11)))
      = step3 v10 (arg3.view.read (Elt F) X3) (arg9.view.read (Elt F) X9) (arg10.view.read (Elt F) X10) (Fin.ofNat 8 k.val) (acc, arg11.view.read (Elt F) (arg11.view.writes (Elt F) f11 L11)) := by
  have hk : (Fin.ofNat 8 k.val : Fin 8).val = k.val := by
    have := k.isLt; have := trips_t3 i; have := (i 1).isLt; change (i 1).val < 8 at this
    show k.val % 8 = k.val; omega
  have e16 := rd_slot (F := F) arg9.view X9 (Fin.ofNat 8 k.val) _ (by rw [hk]; exact k0_off16_eq i k) (k0_off16_inb i k)
  have e16' := rd_slot (F := F) arg10.view X10 (Fin.ofNat 8 k.val) _ (by rw [hk]; exact k0_off16_eq i k) (k0_off16_inb i k)
  have e17 := rd_rows (F := F) arg3.view X3 (Fin.ofNat 8 k.val) _ (by rw [hk]; exact k0_off17_eq i k) (k0_off17_inb i k)
  have e18 := rd_hd0 (F := F) arg11.view (arg11.view.writes (Elt F) f11 L11) (Fin.ofNat 8 k.val) _ (by rw [hk]; exact k0_off18_eq i k) (k0_off18_inb i k)
  have e19 := rd_hd1 (F := F) arg11.view (arg11.view.writes (Elt F) f11 L11) (Fin.ofNat 8 k.val) _ (by rw [hk]; exact k0_off19_eq i k) (k0_off19_inb i k)
  have e20 := rd_hd2 (F := F) arg11.view (arg11.view.writes (Elt F) f11 L11) (Fin.ofNat 8 k.val) _ (by rw [hk]; exact k0_off20_eq i k) (k0_off20_inb i k)
  unfold trip_k0_t3 step3
  refine congrArg₂ Prod.mk (congrArg₂ Prod.mk ?_ ?_) ?_
  · rw [← e16, ← e16', ← e17]; rfl
  · rw [← e16]; rfl
  · dsimp only; rw [← e16, ← e16', ← e18, ← e19, ← e20]; exact rd_upd _ _ _ _ _ _ (by rw [hk]; exact k0_off18_eq i k) (by rw [hk]; exact k0_off19_eq i k) (by rw [hk]; exact k0_off20_eq i k) _ _ _ _ _ _ _

theorem st3_model (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X9 : BufTy.Contents (Elt F) arg9.view.ty) (X10 : BufTy.Contents (Elt F) arg10.view.ty) (G11 : BufTy.Contents (Elt F) arg11.view.ty) (init : FVec F S3x256x128 .f32 × FVec F S3x256x1 .f32) :
    ∀ k : ℕ, k ≤ (k0_t3_loop i).trips → ((st_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 init k).1, arg11.view.read (Elt F) (arg11.view.writes (Elt F) G11 (st_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 init k).2))
      = m3 v10 (arg3.view.read (Elt F) X3) (arg9.view.read (Elt F) X9) (arg10.view.read (Elt F) X10) (init, arg11.view.read (Elt F) G11) k
  | 0, _ => rfl
  | k + 1, h => by
    have ih := st3_model c i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 init k (Nat.le_of_succ_le h)
    rw [m3, ← ih]
    have hs := st_k0_t3_succ (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 init ⟨k, h⟩
    simp only at hs
    rw [hs]
    exact trip3_eq c i arg2 harg2 arg3 harg3 arg4 harg4 arg5 harg5 arg6 harg6 arg7 harg7 arg8 harg8 arg9 harg9 arg10 harg10 arg11 harg11 arg12 harg12 arg1 v10 v18 v22 v23 v26 v66 v135 X3 X9 X10 ⟨k, h⟩ _ G11 _

end Cert.SbIdeal.Hand

end
-- ==== Proof.SbPoint.lean ====
/- One query block of the stick-breaking backward body as a function of the vectors it reads: the memory's earlier contents of
   the two tile scratches do not matter, and each of the three symbolic runs leaves what the function says. -/
module

public import proofs.«01_k».proof.Proof.SbModel
public import Idealize.ShloMosaic.Lib.VecWindow

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The attention weights of the diagonal block. -/
def av (qi : Fin 8) (x0 : Vec F S256x384 .f32) (x1 : Vec F S2048x384 .f32) : FVec F S3x256x256 .f32 :=
  k0_pay56 k0_pay51 (k0_pay52 x0 (rows x1 qi)) (k0_pay53 x0 (rows x1 qi))

/-- The sweep's state after the diagonal block. -/
def sw0 (qi : Fin 8) (x0 : Vec F S256x384 .f32) (x1 x2 : Vec F S2048x384 .f32) (dO : FVec F S3x256x128 .bf16) (d12 : Vec F S2048x384 .f32) (e z : Vec F S8x3x256x256 .f32) : Sw F :=
  (k0_pay64 k0_pay51 (k0_pay55 (k0_pay53 x0 (rows x1 qi))), setSlot e qi (k0_pay57 dO (av qi x0 x1) (rows x2 qi)), setSlot z qi (k0_pay58 (k0_pay52 x0 (rows x1 qi))),
   upd d12 qi (k0_pay60 dO (av qi x0 x1) (hd0 d12 qi)) (k0_pay61 dO (av qi x0 x1) (hd1 d12 qi)) (k0_pay63 (k0_pay62 dO (av qi x0 x1) (hd2 d12 qi))))

/-- The last store into the gradient of the keys: the diagonal block's part. -/
def fin11 (qi : Fin 8) (q : FVec F S3x256x128 .bf16) (e z : Vec F S1x3x256x256 .f32) (t : Fw F) : Vec F S2048x384 .f32 :=
  upd t.2 qi (k0_pay90 q t.1.2 (k0_pay83 e) (k0_pay84 z) (k0_pay85 e z) k0_pay86 (hd0 t.2 qi))
    (k0_pay1 (k0_pay91 q t.1.2 (k0_pay83 e) (k0_pay84 z) (k0_pay85 e z) k0_pay86 (hd1 t.2 qi)))
    (k0_pay2 (k0_pay89 q t.1.2 (k0_pay83 e) (k0_pay84 z) (k0_pay85 e z) k0_pay86) (hd2 t.2 qi))

/-- The three heads' gradient of the queries, put side by side. -/
def out4 (b : Vec F S256x384 .bf16) (p0 p1 p2 : Vec F S256x128 .bf16) : Vec F S256x384 .bf16 :=
  VecWindow.put (VecWindow.put (VecWindow.put b ![0, 0] S256x128.size p0) ![0, 128] S256x128.size p1) ![0, 256] S256x128.size p2

/-- The store of the gradient of the queries. -/
def fin4 (qi : Fin 8) (x1 : Vec F S2048x384 .f32) (e z : Vec F S1x3x256x256 .f32) (t : Fw F) : Vec F S256x384 .bf16 :=
  out4 (fun _ => Scalar.ofBits .bf16 0#16) (k0_pay4 t.1.1 (k0_pay87 t.1.2 (k0_pay83 e) (k0_pay84 z) (k0_pay85 e z) k0_pay86) (k0_pay88 (rows x1 qi)))
    (k0_pay5 t.1.1 (k0_pay87 t.1.2 (k0_pay83 e) (k0_pay84 z) (k0_pay85 e z) k0_pay86) (k0_pay88 (rows x1 qi)))
    (k0_pay6 t.1.1 (k0_pay87 t.1.2 (k0_pay83 e) (k0_pay84 z) (k0_pay85 e z) k0_pay86) (k0_pay88 (rows x1 qi)))

theorem out4_base (b b' : Vec F S256x384 .bf16) (p0 p1 p2 : Vec F S256x128 .bf16) : out4 b p0 p1 p2 = out4 b' p0 p1 p2 := by
  funext y
  unfold out4 VecWindow.put
  by_cases h2 : ∀ a : Fin 2, (![0, 256] : Fin 2 → ℕ) a ≤ (y a).val ∧ (y a).val < (![0, 256] : Fin 2 → ℕ) a + S256x128.size a
  · rw [dif_pos h2, dif_pos h2]
  rw [dif_neg h2, dif_neg h2]
  by_cases h1 : ∀ a : Fin 2, (![0, 128] : Fin 2 → ℕ) a ≤ (y a).val ∧ (y a).val < (![0, 128] : Fin 2 → ℕ) a + S256x128.size a
  · rw [dif_pos h1, dif_pos h1]
  rw [dif_neg h1, dif_neg h1]
  have y0 : (y (0 : Fin 2)).val < 256 := (y (0 : Fin 2)).isLt
  have y1 : (y (1 : Fin 2)).val < 384 := (y (1 : Fin 2)).isLt
  have h0 : ∀ a : Fin 2, (![0, 0] : Fin 2 → ℕ) a ≤ (y a).val ∧ (y a).val < (![0, 0] : Fin 2 → ℕ) a + S256x128.size a := by
    simp only [Fin.forall_fin_two] at h1 h2 ⊢
    change ¬((0 ≤ (y (0 : Fin 2)).val ∧ (y (0 : Fin 2)).val < 0 + 256) ∧ (128 ≤ (y (1 : Fin 2)).val ∧ (y (1 : Fin 2)).val < 128 + 128)) at h1
    change ¬((0 ≤ (y (0 : Fin 2)).val ∧ (y (0 : Fin 2)).val < 0 + 256) ∧ (256 ≤ (y (1 : Fin 2)).val ∧ (y (1 : Fin 2)).val < 256 + 128)) at h2
    change (0 ≤ (y (0 : Fin 2)).val ∧ (y (0 : Fin 2)).val < 0 + 256) ∧ (0 ≤ (y (1 : Fin 2)).val ∧ (y (1 : Fin 2)).val < 0 + 128)
    omega
  rw [dif_pos h0, dif_pos h0]

/-- What one query block makes of the running sums: the gradient of its queries, and the gradients of the keys and of the values. -/
def pt (qi : Fin 8) (x0 : Vec F S256x384 .f32) (x1 x2 : Vec F S2048x384 .f32) (x3 : Vec F S256x384 .bf16) (d11 d12 : Vec F S2048x384 .f32) (e z : Vec F S8x3x256x256 .f32) : Vec F S256x384 .bf16 × Vec F S2048x384 .f32 × Vec F S2048x384 .f32 :=
  let s := m1 (k0_pay47 x0) (k0_pay48 x3) x1 x2 qi (sw0 qi x0 x1 x2 (k0_pay48 x3) d12 e z) qi.val
  let t := m3 (k0_pay47 x0) x1 s.2.1 s.2.2.1 ((k0_pay71, k0_pay72), d11) qi.val
  (fin4 qi x1 (slot s.2.1 qi) (slot s.2.2.1 qi) t, fin11 qi (k0_pay47 x0) (slot s.2.1 qi) (slot s.2.2.1 qi) t, s.2.2.2)

theorem m1_agree (q dO : FVec F S3x256x128 .bf16) (x1 x2 : Vec F S2048x384 .f32) (qi : Fin 8) (s s' : Sw F) (h0 : s.1 = s'.1) (h3 : s.2.2.2 = s'.2.2.2)
    (h1 : slot s.2.1 qi = slot s'.2.1 qi) (h2 : slot s.2.2.1 qi = slot s'.2.2.1 qi) : ∀ k : ℕ, k ≤ qi.val →
    (m1 q dO x1 x2 qi s k).1 = (m1 q dO x1 x2 qi s' k).1 ∧ (m1 q dO x1 x2 qi s k).2.2.2 = (m1 q dO x1 x2 qi s' k).2.2.2
      ∧ (∀ kb : Fin 8, qi.val - k ≤ kb.val → kb.val ≤ qi.val → slot (m1 q dO x1 x2 qi s k).2.1 kb = slot (m1 q dO x1 x2 qi s' k).2.1 kb)
      ∧ (∀ kb : Fin 8, qi.val - k ≤ kb.val → kb.val ≤ qi.val → slot (m1 q dO x1 x2 qi s k).2.2.1 kb = slot (m1 q dO x1 x2 qi s' k).2.2.1 kb)
  | 0, _ => by
    refine ⟨h0, h3, fun kb a b => ?_, fun kb a b => ?_⟩
    · obtain rfl : kb = qi := Fin.ext (by omega)
      exact h1
    · obtain rfl : kb = qi := Fin.ext (by omega)
      exact h2
  | k + 1, h => by
    obtain ⟨i0, i3, i1, i2⟩ := m1_agree q dO x1 x2 qi s s' h0 h3 h1 h2 k (Nat.le_of_succ_le h)
    simp only [m1, step1]
    rw [i0, i3]
    refine ⟨rfl, rfl, fun kb a b => ?_, fun kb a b => ?_⟩
    · by_cases e : kb = kbOf qi k
      · subst e; rw [slot_set, slot_set]
      · rw [slot_set_ne _ _ _ _ e, slot_set_ne _ _ _ _ e]
        refine i1 kb ?_ b
        have : kb.val ≠ qi.val - 1 - k := fun e' => e (Fin.ext e')
        omega
    · by_cases e : kb = kbOf qi k
      · subst e; rw [slot_set, slot_set]
      · rw [slot_set_ne _ _ _ _ e, slot_set_ne _ _ _ _ e]
        refine i2 kb ?_ b
        have : kb.val ≠ qi.val - 1 - k := fun e' => e (Fin.ext e')
        omega

theorem m3_agree (q : FVec F S3x256x128 .bf16) (x1 : Vec F S2048x384 .f32) (e z e' z' : Vec F S8x3x256x256 .f32) (s0 : Fw F) (n : ℕ) (hn : n ≤ 8)
    (he : ∀ kb : Fin 8, kb.val < n → slot e kb = slot e' kb) (hz : ∀ kb : Fin 8, kb.val < n → slot z kb = slot z' kb) : ∀ k : ℕ, k ≤ n → m3 q x1 e z s0 k = m3 q x1 e' z' s0 k
  | 0, _ => rfl
  | k + 1, h => by
    have hk : (Fin.ofNat 8 k).val < n := by show k % 8 < n; omega
    simp only [m3, step3]
    rw [m3_agree q x1 e z e' z' s0 n hn he hz k (Nat.le_of_succ_le h), he _ hk, hz _ hk]

/-- What the tile scratches held before is never read. -/
theorem pt_indep (qi : Fin 8) (x0 : Vec F S256x384 .f32) (x1 x2 : Vec F S2048x384 .f32) (x3 : Vec F S256x384 .bf16) (d11 d12 : Vec F S2048x384 .f32) (e z e' z' : Vec F S8x3x256x256 .f32) :
    pt qi x0 x1 x2 x3 d11 d12 e z = pt qi x0 x1 x2 x3 d11 d12 e' z' := by
  obtain ⟨i0, i3, i1, i2⟩ := m1_agree (k0_pay47 x0) (k0_pay48 x3) x1 x2 qi (sw0 qi x0 x1 x2 (k0_pay48 x3) d12 e z) (sw0 qi x0 x1 x2 (k0_pay48 x3) d12 e' z') rfl rfl
    (by unfold sw0; rw [slot_set, slot_set]) (by unfold sw0; rw [slot_set, slot_set]) qi.val le_rfl
  unfold pt
  simp only
  rw [i3, i1 qi (by omega) le_rfl, i2 qi (by omega) le_rfl,
    m3_agree _ x1 _ _ _ _ ((k0_pay71, k0_pay72), d11) qi.val (by omega) (fun kb h => i1 kb (by omega) (by omega)) (fun kb h => i2 kb (by omega) (by omega)) qi.val le_rfl]

theorem hd1_put0 (x : Vec F S2048x384 .f32) (kb : Fin 8) (w : Vec F S256x128 .f32) : hd1 (VecWindow.put x ![256 * kb.val, 0] S256x128.size w) kb = hd1 x kb :=
  VecWindow.window_put_of_disjoint _ _ _ _ _ _ _ (1 : Fin 2) (Or.inr (Nat.le_refl 128))
theorem hd2_put0 (x : Vec F S2048x384 .f32) (kb : Fin 8) (w : Vec F S256x128 .f32) : hd2 (VecWindow.put x ![256 * kb.val, 0] S256x128.size w) kb = hd2 x kb :=
  VecWindow.window_put_of_disjoint _ _ _ _ _ _ _ (1 : Fin 2) (Or.inr (by show 0 + 128 ≤ 256; omega))
theorem hd2_put1 (x : Vec F S2048x384 .f32) (kb : Fin 8) (w : Vec F S256x128 .f32) : hd2 (VecWindow.put x ![256 * kb.val, 128] S256x128.size w) kb = hd2 x kb :=
  VecWindow.window_put_of_disjoint _ _ _ _ _ _ _ (1 : Fin 2) (Or.inr (Nat.le_refl 256))

theorem st4_zero (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (v156 : BitVec 32) (X3 : BufTy.Contents (Elt F) arg3.view.ty) (X9 : BufTy.Contents (Elt F) arg9.view.ty) (X10 : BufTy.Contents (Elt F) arg10.view.ty) (G11 : BufTy.Contents (Elt F) arg11.view.ty) (init : FVec F S3x256x128 .f32 × FVec F S3x256x1 .f32) :
    st_k0_t4 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 v156 X3 X9 X10 G11 init (k0_t4_loop i).trips = (init, []) := by
  rw [trips_t4 i]; rfl

/-- What the sweep leaves, and what the forward pass makes of it. -/
theorem body_eq (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (v156 : BitVec 32) (X3 : BufTy.Contents (Elt F) arg3.view.ty) (X4 : BufTy.Contents (Elt F) arg4.view.ty) (f9 : BufTy.Contents (Elt F) arg9.view.ty) (f10 : BufTy.Contents (Elt F) arg10.view.ty) (G11 : BufTy.Contents (Elt F) arg11.view.ty) (G12 : BufTy.Contents (Elt F) arg12.view.ty) (init : FVec F S3x256x1 .f32) (w9 w10 : Vec F S1x3x256x256 .f32) (s1 : FVec F S3x256x1 .f32 × List (View.Piece (Elt F) S8x3x256x256 .f32) × List (View.Piece (Elt F) S8x3x256x256 .f32) × List (View.Piece (Elt F) S2048x384 .f32))
    (X9 : BufTy.Contents (Elt F) arg9.view.ty) (X10 : BufTy.Contents (Elt F) arg10.view.ty) (s3 s4 : (FVec F S3x256x128 .f32 × FVec F S3x256x1 .f32) × List (View.Piece (Elt F) S2048x384 .f32))
    (hs1 : (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init (k0_t1_loop i).trips) = s1) (hX9 : (arg9.view.writes (Elt F) f9 (s1.2.1 ++ [⟨Rect.unit (s := S8x3x256x256) (k0_off2 i) S1x3x256x256.size (k0_off2_inb i), w9⟩])) = X9) (hX10 : (arg10.view.writes (Elt F) f10 (s1.2.2.1 ++ [⟨Rect.unit (s := S8x3x256x256) (k0_off2 i) S1x3x256x256.size (k0_off2_inb i), w10⟩])) = X10) (hs3 : (st_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 (k0_pay71, k0_pay72) (k0_t3_loop i).trips) = s3) (hs4 : (st_k0_t4 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 v156 X3 X9 X10 (arg11.view.writes (Elt F) G11 s3.2) (s3.1.1, s3.1.2) (k0_t4_loop i).trips) = s4) :
    arg12.view.read (Elt F) (arg12.view.writes (Elt F) G12 s1.2.2.2) = (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.2
    ∧ arg9.view.read (Elt F) X9 = (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 ∧ arg10.view.read (Elt F) X10 = (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1
    ∧ (s4.1, arg11.view.read (Elt F) (arg11.view.writes (Elt F) G11 (s4.2 ++ s3.2))) = (m3 v10 (arg3.view.read (Elt F) X3) (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 ((k0_pay71, k0_pay72), arg11.view.read (Elt F) G11) (i 1).val) := by
  have h1 := st1_model c i arg2 harg2 arg3 harg3 arg4 harg4 arg5 harg5 arg6 harg6 arg7 harg7 arg8 harg8 arg9 harg9 arg10 harg10 arg11 harg11 arg12 harg12 arg1 v10 v18 v22 v23 v26 v66 v135 X3 X4 (arg9.view.writes (Elt F) f9 [⟨Rect.unit (s := S8x3x256x256) (k0_off2 i) S1x3x256x256.size (k0_off2_inb i), w9⟩])
    (arg10.view.writes (Elt F) f10 [⟨Rect.unit (s := S8x3x256x256) (k0_off2 i) S1x3x256x256.size (k0_off2_inb i), w10⟩]) G12 init (k0_t1_loop i).trips le_rfl
  rw [hs1] at h1
  rw [← View.writes_append, ← View.writes_append, rd_set arg9.view f9 (qOf i) _ (k0_off2_eq i), rd_set arg10.view f10 (qOf i) _ (k0_off2_eq i)] at h1
  simp only [View.writes_nil] at h1
  rw [hX9, hX10] at h1
  have hm : (k0_t1_loop i).trips = (i 1).val := trips_t1 i
  have h3 := st3_model c i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 (k0_pay71, k0_pay72) (k0_t3_loop i).trips le_rfl
  rw [hs3] at h3
  have hm3 : (k0_t3_loop i).trips = (i 1).val := trips_t3 i
  have e12 := congrArg (fun s : Sw F => s.2.2.2) h1
  have e9 := congrArg (fun s : Sw F => s.2.1) h1
  have e10 := congrArg (fun s : Sw F => s.2.2.1) h1
  simp only at e12 e9 e10
  rw [e9, e10] at h3
  have k1 : ∀ n, n = (i 1).val → m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) n = (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val) := fun n h => by rw [h]
  rw [k1 _ hm] at e12 e9 e10 h3
  refine ⟨e12, e9, e10, ?_⟩
  rw [st4_zero] at hs4
  subst hs4
  refine Eq.trans h3 ?_
  have k3 : ∀ n, n = (i 1).val → m3 v10 (arg3.view.read (Elt F) X3) (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 ((k0_pay71, k0_pay72), arg11.view.read (Elt F) G11) n = (m3 v10 (arg3.view.read (Elt F) X3) (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 ((k0_pay71, k0_pay72), arg11.view.read (Elt F) G11) (i 1).val) := fun n h => by rw [h]
  exact k3 _ hm3

/-- The three stores after the loops, into the gradient of the keys. -/
theorem tail11 (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (q : FVec F S3x256x128 .bf16) (X9 : BufTy.Contents (Elt F) arg9.view.ty) (X10 : BufTy.Contents (Elt F) arg10.view.ty) (t : FVec F S3x256x128 .f32 × FVec F S3x256x1 .f32) (G11 : BufTy.Contents (Elt F) arg11.view.ty) (L : List (View.Piece (Elt F) S2048x384 .f32)) :
    arg11.view.read (Elt F) (arg11.view.writes (Elt F) G11 (⟨Rect.unit (s := S2048x384) (k0_off30 i) S256x128.size (k0_off30_inb i), k0_pay2 (k0_pay89 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86) (arg11.view.readAt (Elt F) (Rect.unit (s := S2048x384) (k0_off30 i) S256x128.size (k0_off30_inb i)).toLoadRect (arg11.view.writes (Elt F) G11 (⟨Rect.unit (s := S2048x384) (k0_off29 i) S256x128.size (k0_off29_inb i), k0_pay1 (k0_pay91 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off29 i) S256x128.size (k0_off29_inb i)).toLoadRect (arg11.view.writes (Elt F) G11 (⟨Rect.unit (s := S2048x384) (k0_off28 i) S256x128.size (k0_off28_inb i), k0_pay90 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 L))⟩ :: L))))⟩ :: ⟨Rect.unit (s := S2048x384) (k0_off28 i) S256x128.size (k0_off28_inb i), k0_pay90 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 L))⟩ :: L)))⟩ :: ⟨Rect.unit (s := S2048x384) (k0_off29 i) S256x128.size (k0_off29_inb i), k0_pay1 (k0_pay91 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off29 i) S256x128.size (k0_off29_inb i)).toLoadRect (arg11.view.writes (Elt F) G11 (⟨Rect.unit (s := S2048x384) (k0_off28 i) S256x128.size (k0_off28_inb i), k0_pay90 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 L))⟩ :: L))))⟩ :: ⟨Rect.unit (s := S2048x384) (k0_off28 i) S256x128.size (k0_off28_inb i), k0_pay90 q t.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 L))⟩ :: L))
      = fin11 (qOf i) q (slot (arg9.view.read (Elt F) X9) (qOf i)) (slot (arg10.view.read (Elt F) X10) (qOf i)) (t, arg11.view.read (Elt F) (arg11.view.writes (Elt F) G11 L)) := by
  rw [rd_upd arg11.view G11 (qOf i) _ _ _ (k0_off28_eq i) (k0_off29_eq i) (k0_off30_eq i)]
  rw [rd_hd2 arg11.view _ (qOf i) _ (k0_off30_eq i), View.read_writes_cons_put arg11.view G11 _ _ _ (k0_off29_eq i), View.read_writes_cons_put arg11.view G11 _ _ _ (k0_off28_eq i)]
  rw [rd_hd1 arg11.view _ (qOf i) _ (k0_off29_eq i), View.read_writes_cons_put arg11.view G11 _ _ _ (k0_off28_eq i)]
  rw [rd_hd0 arg11.view _ (qOf i) _ (k0_off28_eq i)]
  rw [rd_slot arg9.view _ (qOf i) _ (k0_off26_eq i), rd_slot arg10.view _ (qOf i) _ (k0_off26_eq i)]
  erw [hd2_put1 _ (qOf i), hd2_put0 _ (qOf i), hd1_put0 _ (qOf i)]
  rfl

theorem fin_11 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (v156 : BitVec 32) (X3 : BufTy.Contents (Elt F) arg3.view.ty) (X4 : BufTy.Contents (Elt F) arg4.view.ty) (f9 : BufTy.Contents (Elt F) arg9.view.ty) (f10 : BufTy.Contents (Elt F) arg10.view.ty) (G11 : BufTy.Contents (Elt F) arg11.view.ty) (G12 : BufTy.Contents (Elt F) arg12.view.ty) (init : FVec F S3x256x1 .f32) (w9 w10 : Vec F S1x3x256x256 .f32) (s1 : FVec F S3x256x1 .f32 × List (View.Piece (Elt F) S8x3x256x256 .f32) × List (View.Piece (Elt F) S8x3x256x256 .f32) × List (View.Piece (Elt F) S2048x384 .f32))
    (X9 : BufTy.Contents (Elt F) arg9.view.ty) (X10 : BufTy.Contents (Elt F) arg10.view.ty) (s3 s4 : (FVec F S3x256x128 .f32 × FVec F S3x256x1 .f32) × List (View.Piece (Elt F) S2048x384 .f32))
    (hs1 : (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init (k0_t1_loop i).trips) = s1) (hX9 : (arg9.view.writes (Elt F) f9 (s1.2.1 ++ [⟨Rect.unit (s := S8x3x256x256) (k0_off2 i) S1x3x256x256.size (k0_off2_inb i), w9⟩])) = X9) (hX10 : (arg10.view.writes (Elt F) f10 (s1.2.2.1 ++ [⟨Rect.unit (s := S8x3x256x256) (k0_off2 i) S1x3x256x256.size (k0_off2_inb i), w10⟩])) = X10) (hs3 : (st_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 (k0_pay71, k0_pay72) (k0_t3_loop i).trips) = s3) (hs4 : (st_k0_t4 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 v156 X3 X9 X10 (arg11.view.writes (Elt F) G11 s3.2) (s3.1.1, s3.1.2) (k0_t4_loop i).trips) = s4) :
    arg11.view.read (Elt F) (arg11.view.writes (Elt F) G11 (⟨Rect.unit (s := S2048x384) (k0_off30 i) S256x128.size (k0_off30_inb i), k0_pay2 (k0_pay89 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86) (arg11.view.readAt (Elt F) (Rect.unit (s := S2048x384) (k0_off30 i) S256x128.size (k0_off30_inb i)).toLoadRect (arg11.view.writes (Elt F) G11 (⟨Rect.unit (s := S2048x384) (k0_off29 i) S256x128.size (k0_off29_inb i), k0_pay1 (k0_pay91 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off29 i) S256x128.size (k0_off29_inb i)).toLoadRect (arg11.view.writes (Elt F) G11 (⟨Rect.unit (s := S2048x384) (k0_off28 i) S256x128.size (k0_off28_inb i), k0_pay90 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 (s4.2 ++ s3.2)))⟩ :: (s4.2 ++ s3.2)))))⟩ :: ⟨Rect.unit (s := S2048x384) (k0_off28 i) S256x128.size (k0_off28_inb i), k0_pay90 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 (s4.2 ++ s3.2)))⟩ :: (s4.2 ++ s3.2))))⟩ :: ⟨Rect.unit (s := S2048x384) (k0_off29 i) S256x128.size (k0_off29_inb i), k0_pay1 (k0_pay91 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off29 i) S256x128.size (k0_off29_inb i)).toLoadRect (arg11.view.writes (Elt F) G11 (⟨Rect.unit (s := S2048x384) (k0_off28 i) S256x128.size (k0_off28_inb i), k0_pay90 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 (s4.2 ++ s3.2)))⟩ :: (s4.2 ++ s3.2)))))⟩ :: ⟨Rect.unit (s := S2048x384) (k0_off28 i) S256x128.size (k0_off28_inb i), k0_pay90 v10 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86 (arg11.view.readAt (Elt F) (Rect.unit (s := S2048x384) (k0_off28 i) S256x128.size (k0_off28_inb i)).toLoadRect (arg11.view.writes (Elt F) G11 (s4.2 ++ s3.2)))⟩ :: (s4.2 ++ s3.2)))
      = fin11 (qOf i) v10 (slot (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (qOf i)) (slot (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 (qOf i)) (m3 v10 (arg3.view.read (Elt F) X3) (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 ((k0_pay71, k0_pay72), arg11.view.read (Elt F) G11) (i 1).val) := by
  obtain ⟨-, h9, h10, h⟩ := body_eq c i arg2 harg2 arg3 harg3 arg4 harg4 arg5 harg5 arg6 harg6 arg7 harg7 arg8 harg8 arg9 harg9 arg10 harg10 arg11 harg11 arg12 harg12 arg1 v10 v18 v22 v23 v26 v66 v135 v156 X3 X4 f9 f10 G11 G12 init w9 w10 s1 X9 X10 s3 s4 hs1 hX9 hX10 hs3 hs4
  rw [tail11 i arg2 harg2 arg3 harg3 arg4 harg4 arg5 harg5 arg6 harg6 arg7 harg7 arg8 harg8 arg9 harg9 arg10 harg10 arg11 harg11 arg12 harg12, h9, h10, h]

theorem fin_4 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (v156 : BitVec 32) (X3 : BufTy.Contents (Elt F) arg3.view.ty) (X4 : BufTy.Contents (Elt F) arg4.view.ty) (f9 : BufTy.Contents (Elt F) arg9.view.ty) (f10 : BufTy.Contents (Elt F) arg10.view.ty) (G11 : BufTy.Contents (Elt F) arg11.view.ty) (G12 : BufTy.Contents (Elt F) arg12.view.ty) (init : FVec F S3x256x1 .f32) (w9 w10 : Vec F S1x3x256x256 .f32) (s1 : FVec F S3x256x1 .f32 × List (View.Piece (Elt F) S8x3x256x256 .f32) × List (View.Piece (Elt F) S8x3x256x256 .f32) × List (View.Piece (Elt F) S2048x384 .f32))
    (X9 : BufTy.Contents (Elt F) arg9.view.ty) (X10 : BufTy.Contents (Elt F) arg10.view.ty) (s3 s4 : (FVec F S3x256x128 .f32 × FVec F S3x256x1 .f32) × List (View.Piece (Elt F) S2048x384 .f32))
    (hs1 : (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 G12 init (k0_t1_loop i).trips) = s1) (hX9 : (arg9.view.writes (Elt F) f9 (s1.2.1 ++ [⟨Rect.unit (s := S8x3x256x256) (k0_off2 i) S1x3x256x256.size (k0_off2_inb i), w9⟩])) = X9) (hX10 : (arg10.view.writes (Elt F) f10 (s1.2.2.1 ++ [⟨Rect.unit (s := S8x3x256x256) (k0_off2 i) S1x3x256x256.size (k0_off2_inb i), w10⟩])) = X10) (hs3 : (st_k0_t3 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X9 X10 G11 (k0_pay71, k0_pay72) (k0_t3_loop i).trips) = s3) (hs4 : (st_k0_t4 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 v156 X3 X9 X10 (arg11.view.writes (Elt F) G11 s3.2) (s3.1.1, s3.1.2) (k0_t4_loop i).trips) = s4) (f6 : BufTy.Contents (Elt F) arg6.view.ty) :
    arg6.view.read (Elt F) (arg6.view.writes (Elt F) f6 [⟨Rect.unit (s := S256x384) ![0, 256] S256x128.size inb_S256x384_S256x128_0_256, k0_pay6 s4.1.1 (k0_pay87 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86) (k0_pay88 (arg3.view.readAt (Elt F) (Rect.unit (s := S2048x384) (k0_off27 i) S256x384.size (k0_off27_inb i)).toLoadRect X3))⟩, ⟨Rect.unit (s := S256x384) ![0, 128] S256x128.size inb_S256x384_S256x128_0_128, k0_pay5 s4.1.1 (k0_pay87 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86) (k0_pay88 (arg3.view.readAt (Elt F) (Rect.unit (s := S2048x384) (k0_off27 i) S256x384.size (k0_off27_inb i)).toLoadRect X3))⟩, ⟨Rect.unit (s := S256x384) ![0, 0] S256x128.size inb_S256x384_S256x128_0_0, k0_pay4 s4.1.1 (k0_pay87 s4.1.2 (k0_pay83 (arg9.view.readAt (Elt F) (Rect.unit (s := S8x3x256x256) (k0_off26 i) S1x3x256x256.size (k0_off26_inb i)).toLoadRect X9)) (k0_pay84 (arg10.view.readAt (Elt F) (Rect.unit (s := S8x3x256x256) (k0_off26 i) S1x3x256x256.size (k0_off26_inb i)).toLoadRect X10)) (k0_pay85 (arg9.view.readAt (Elt F) (Rect.unit (s := S8x3x256x256) (k0_off26 i) S1x3x256x256.size (k0_off26_inb i)).toLoadRect X9) (arg10.view.readAt (Elt F) (Rect.unit (s := S8x3x256x256) (k0_off26 i) S1x3x256x256.size (k0_off26_inb i)).toLoadRect X10)) k0_pay86) (k0_pay88 (arg3.view.readAt (Elt F) (Rect.unit (s := S2048x384) (k0_off27 i) S256x384.size (k0_off27_inb i)).toLoadRect X3))⟩])
      = fin4 (qOf i) (arg3.view.read (Elt F) X3) (slot (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (qOf i)) (slot (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 (qOf i)) (m3 v10 (arg3.view.read (Elt F) X3) (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.1 (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) G12) (i 1).val).2.2.1 ((k0_pay71, k0_pay72), arg11.view.read (Elt F) G11) (i 1).val) := by
  obtain ⟨-, h9, h10, h⟩ := body_eq c i arg2 harg2 arg3 harg3 arg4 harg4 arg5 harg5 arg6 harg6 arg7 harg7 arg8 harg8 arg9 harg9 arg10 harg10 arg11 harg11 arg12 harg12 arg1 v10 v18 v22 v23 v26 v66 v135 v156 X3 X4 f9 f10 G11 G12 init w9 w10 s1 X9 X10 s3 s4 hs1 hX9 hX10 hs3 hs4
  have h' := congrArg Prod.fst h
  simp only at h'
  rw [View.read_writes_cons_put arg6.view f6 _ _ _ rfl, View.read_writes_cons_put arg6.view f6 _ _ _ rfl, View.read_writes_cons_put arg6.view f6 _ _ _ rfl]
  rw [rd_slot arg9.view _ (qOf i) _ (k0_off26_eq i), rd_slot arg10.view _ (qOf i) _ (k0_off26_eq i), rd_rows arg3.view _ (qOf i) _ (k0_off27_eq i), h9, h10, h']
  exact out4_base _ _ _ _ _

end Cert.SbIdeal.Hand

end
-- ==== Proof.SbFin.lean ====
/- The three symbolic runs of the stick-breaking backward body leave what the function `pt` says. -/
module

public import proofs.«01_k».proof.Proof.SbPoint
public import Idealize.ShloMosaic.Lib.VecWindow

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {κ : Kind} {sp : Space}

theorem hdp10 (i : grid0.Coords) (x : Vec F S2048x384 .f32) (w : Vec F S256x128 .f32) : hd1 (VecWindow.put x ![256 * (i 1).val, 0] ![256, 128] w) (qOf i) = hd1 x (qOf i) := hd1_put0 x (qOf i) w
theorem hdp20 (i : grid0.Coords) (x : Vec F S2048x384 .f32) (w : Vec F S256x128 .f32) : hd2 (VecWindow.put x ![256 * (i 1).val, 0] ![256, 128] w) (qOf i) = hd2 x (qOf i) := hd2_put0 x (qOf i) w
theorem hdp21 (i : grid0.Coords) (x : Vec F S2048x384 .f32) (w : Vec F S256x128 .f32) : hd2 (VecWindow.put x ![256 * (i 1).val, 128] ![256, 128] w) (qOf i) = hd2 x (qOf i) := hd2_put1 x (qOf i) w

theorem rdw2 (v : View sig κ sp S256x384 .f32) (f : v.ty.Contents (Elt F)) (inb) :
    v.readAt (Elt F) (Rect.unit (s := S256x384) ![0, 0] ![256, 384] inb).toLoadRect f = v.read (Elt F) f := View.readAt_full v f inb
theorem rdw5 (v : View sig κ sp S256x384 .bf16) (f : v.ty.Contents (Elt F)) (inb) :
    v.readAt (Elt F) (Rect.unit (s := S256x384) ![0, 0] ![256, 384] inb).toLoadRect f = v.read (Elt F) f := View.readAt_full v f inb
theorem rdw11 (v : View sig κ sp S2048x384 .f32) (f : v.ty.Contents (Elt F)) (inb) :
    v.readAt (Elt F) (Rect.unit (s := S2048x384) ![0, 0] ![2048, 384] inb).toLoadRect f = v.read (Elt F) f := View.readAt_full v f inb
theorem rdi1 (i : grid0.Coords) (v : View sig κ sp S2048x384 .f32) (f : v.ty.Contents (Elt F)) (inb) :
    v.readAt (Elt F) (Rect.unit (s := S2048x384) (k0_off1 i) ![256, 384] inb).toLoadRect f = rows (v.read (Elt F) f) (qOf i) := rd_rows v f (qOf i) _ (k0_off1_eq i) inb
theorem rdi3 (i : grid0.Coords) (v : View sig κ sp S2048x384 .f32) (f : v.ty.Contents (Elt F)) (inb) :
    v.readAt (Elt F) (Rect.unit (s := S2048x384) (k0_off3 i) ![256, 128] inb).toLoadRect f = hd0 (v.read (Elt F) f) (qOf i) := rd_hd0 v f (qOf i) _ (k0_off3_eq i) inb
theorem rdi4 (i : grid0.Coords) (v : View sig κ sp S2048x384 .f32) (f : v.ty.Contents (Elt F)) (inb) :
    v.readAt (Elt F) (Rect.unit (s := S2048x384) (k0_off4 i) ![256, 128] inb).toLoadRect f = hd1 (v.read (Elt F) f) (qOf i) := rd_hd1 v f (qOf i) _ (k0_off4_eq i) inb
theorem rdi5 (i : grid0.Coords) (v : View sig κ sp S2048x384 .f32) (f : v.ty.Contents (Elt F)) (inb) :
    v.readAt (Elt F) (Rect.unit (s := S2048x384) (k0_off5 i) ![256, 128] inb).toLoadRect f = hd2 (v.read (Elt F) f) (qOf i) := rd_hd2 v f (qOf i) _ (k0_off5_eq i) inb
theorem wr3 (i : grid0.Coords) (v : View sig κ sp S2048x384 .f32) (f : v.ty.Contents (Elt F)) (inb) (p : Vec F S256x128 .f32) (L) :
    v.read (Elt F) (v.writes (Elt F) f (⟨Rect.unit (s := S2048x384) (k0_off3 i) ![256, 128] inb, p⟩ :: L)) = VecWindow.put (v.read (Elt F) (v.writes (Elt F) f L)) ![256 * (qOf i).val, 0] S256x128.size p := View.read_writes_cons_put v f inb p L (k0_off3_eq i)
theorem wr4 (i : grid0.Coords) (v : View sig κ sp S2048x384 .f32) (f : v.ty.Contents (Elt F)) (inb) (p : Vec F S256x128 .f32) (L) :
    v.read (Elt F) (v.writes (Elt F) f (⟨Rect.unit (s := S2048x384) (k0_off4 i) ![256, 128] inb, p⟩ :: L)) = VecWindow.put (v.read (Elt F) (v.writes (Elt F) f L)) ![256 * (qOf i).val, 128] S256x128.size p := View.read_writes_cons_put v f inb p L (k0_off4_eq i)
theorem wr5 (i : grid0.Coords) (v : View sig κ sp S2048x384 .f32) (f : v.ty.Contents (Elt F)) (inb) (p : Vec F S256x128 .f32) (L) :
    v.read (Elt F) (v.writes (Elt F) f (⟨Rect.unit (s := S2048x384) (k0_off5 i) ![256, 128] inb, p⟩ :: L)) = VecWindow.put (v.read (Elt F) (v.writes (Elt F) f L)) ![256 * (qOf i).val, 256] S256x128.size p := View.read_writes_cons_put v f inb p L (k0_off5_eq i)
theorem wrw (v : View sig κ sp S2048x384 .f32) (f : v.ty.Contents (Elt F)) (inb) (p : Vec F S2048x384 .f32) (L) :
    v.read (Elt F) (v.writes (Elt F) f (⟨Rect.unit (s := S2048x384) ![0, 0] ![2048, 384] inb, p⟩ :: L)) = p := View.read_writes_full v f inb p L
theorem wrwb (v : View sig κ sp S2048x384 .bf16) (f : v.ty.Contents (Elt F)) (inb) (p : Vec F S2048x384 .bf16) (L) :
    v.read (Elt F) (v.writes (Elt F) f (⟨Rect.unit (s := S2048x384) ![0, 0] ![2048, 384] inb, p⟩ :: L)) = p := View.read_writes_full v f inb p L

theorem fin_12 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (arg1 : BitVec 32) (v10 : FVec F S3x256x128 .bf16) (v18 : FVec F S3x256x128 .bf16) (v22 : BitVec 32) (v23 : FVec F S3x256x1 .f32) (v26 : BitVec 32) (v66 : FVec F S3x256x256 .f32) (v135 : FVec F S256x128 .f32) (X3 : BufTy.Contents (Elt F) arg3.view.ty) (X4 : BufTy.Contents (Elt F) arg4.view.ty) (f9 : BufTy.Contents (Elt F) arg9.view.ty) (f10 : BufTy.Contents (Elt F) arg10.view.ty) (g12 : BufTy.Contents (Elt F) arg12.view.ty) (L : List (View.Piece (Elt F) S2048x384 .f32)) (init : FVec F S3x256x1 .f32) (w9 w10 : Vec F S1x3x256x256 .f32)
    (s1 : FVec F S3x256x1 .f32 × List (View.Piece (Elt F) S8x3x256x256 .f32) × List (View.Piece (Elt F) S8x3x256x256 .f32) × List (View.Piece (Elt F) S2048x384 .f32))
    (hs1 : (st1 (F := F) Variants.none c none i arg2 harg2 arg3 harg3 arg4 harg4 arg5 harg5 arg6 harg6 arg7 harg7 arg8 harg8 arg9 harg9 arg10 harg10 arg11 harg11 arg12 harg12 arg1 v10 v18 v22 v23 v26 v66 v135 X3 X4 (arg12.view.writes (Elt F) g12 L) init (k0_t1_loop i).trips) = s1) :
    arg12.view.read (Elt F) (arg12.view.writes (Elt F) g12 (s1.2.2.2 ++ L)) = (m1 v10 v18 (arg3.view.read (Elt F) X3) (arg4.view.read (Elt F) X4) (qOf i) (init, setSlot (arg9.view.read (Elt F) f9) (qOf i) w9, setSlot (arg10.view.read (Elt F) f10) (qOf i) w10, arg12.view.read (Elt F) (arg12.view.writes (Elt F) g12 L)) (i 1).val).2.2.2 := by
  rw [View.writes_append]
  exact (body_eq c i arg2 harg2 arg3 harg3 arg4 harg4 arg5 harg5 arg6 harg6 arg7 harg7 arg8 harg8 arg9 harg9 arg10 harg10 arg11 harg11 arg12 harg12 arg1 v10 v18 v22 v23 v26 v66 v135 0#32 X3 X4 f9 f10 (harg11.unread fun _ => Scalar.ofBits .f32 0#32) (arg12.view.writes (Elt F) g12 L) init w9 w10 s1 _ _ _ _ hs1 rfl rfl rfl rfl).1

set_option maxHeartbeats 2000000 in
theorem runB_12 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : ¬k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) : arg12.view.read (Elt F) ((runB c i arg2 harg2 arg3 harg3 arg4 harg4 arg5 harg5 arg6 harg6 arg7 harg7 arg8 harg8 arg9 harg9 arg10 harg10 arg11 harg11 arg12 harg12 hc0 hc1 x0 x1 x2 x3 d11 d12).2.2.1) = (pt (qOf i) x0 x1 x2 x3 d11 d12 e z).2.2 := by
  unfold runB
  refine (fin_12 c i arg2 harg2 arg3 harg3 arg4 harg4 arg5 harg5 arg6 harg6 arg7 harg7 arg8 harg8 arg9 harg9 arg10 harg10 arg11 harg11 arg12 harg12 _ _ _ _ _ _ _ _ _ _ f9 f10 _ _ _ (k0_pay57 (k0_pay48 x3) (av (qOf i) x0 x1) (rows x2 (qOf i))) (k0_pay58 (k0_pay52 x0 (rows x1 (qOf i)))) _ rfl).trans ?_
  rw [pt_indep (qOf i) x0 x1 x2 x3 d11 d12 e z (arg9.view.read (Elt F) f9) (arg10.view.read (Elt F) f10)]
  simp only [runB.sl.r_4, runB.sl.r_6, runB.sl.r_3, runB.sl.r_2, runB.sl.v123, runB.sl.r_5, runB.sl.r_7, runB.sl.r_1, runB.sl.r, runB.sl.v132, rdw2, rdw5, rdw11, rdi1, rdi3, rdi4, rdi5, wr3, wr4, wr5, wrw, View.writes_nil, harg2.read_unread, harg3.read_unread, harg4.read_unread, harg5.read_unread, harg11.read_unread, harg12.read_unread]
  skip
  rfl

set_option maxHeartbeats 2000000 in
theorem runB_11 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : ¬k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) : arg11.view.read (Elt F) ((runB c i arg2 harg2 arg3 harg3 arg4 harg4 arg5 harg5 arg6 harg6 arg7 harg7 arg8 harg8 arg9 harg9 arg10 harg10 arg11 harg11 arg12 harg12 hc0 hc1 x0 x1 x2 x3 d11 d12).2.1 f9 f10) = (pt (qOf i) x0 x1 x2 x3 d11 d12 e z).2.1 := by
  unfold runB
  simp only [runB.sl.v19, runB.sl.r_16, runB.sl.H11_1, runB.sl.r_12, runB.sl.v155, runB.sl.r_13, runB.sl.v24, runB.sl.r_17, runB.sl.v165, runB.sl.v20, runB.sl.v154, runB.sl.v162, runB.sl.r_11, runB.sl.v159, runB.sl.v21, runB.sl.v146, runB.sl.v147, runB.sl.v210, runB.sl.H11_2, runB.sl.v152, runB.sl.r_8, runB.sl.v145, runB.sl.r_14, runB.sl.r_10, runB.sl.r_9, runB.sl.r_15, runB.sl.v143]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  refine (fin_11 c i arg2 harg2 arg3 harg3 arg4 harg4 arg5 harg5 arg6 harg6 arg7 harg7 arg8 harg8 arg9 harg9 arg10 harg10 arg11 harg11 arg12 harg12 _ _ _ _ _ _ _ _ _ _ _ f9 f10 _ _ _ _ _ s1 X9 X10 s3 s4 hs1 hX9 hX10 hs3 hs4).trans ?_
  rw [pt_indep (qOf i) x0 x1 x2 x3 d11 d12 e z (arg9.view.read (Elt F) f9) (arg10.view.read (Elt F) f10)]
  simp only [runB.sl.r_4, runB.sl.r_6, runB.sl.r_3, runB.sl.r_2, runB.sl.v123, runB.sl.r_5, runB.sl.r_7, runB.sl.r_1, runB.sl.r, runB.sl.v132, rdw2, rdw5, rdw11, rdi1, rdi3, rdi4, rdi5, wr3, wr4, wr5, wrw, View.writes_nil, harg2.read_unread, harg3.read_unread, harg4.read_unread, harg5.read_unread, harg11.read_unread, harg12.read_unread]
  skip
  rfl

set_option maxHeartbeats 2000000 in
theorem runB_4 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : ¬k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) (f6 : BufTy.Contents (Elt F) arg6.view.ty) : arg6.view.read (Elt F) (arg6.view.writes (Elt F) f6 ((runB c i arg2 harg2 arg3 harg3 arg4 harg4 arg5 harg5 arg6 harg6 arg7 harg7 arg8 harg8 arg9 harg9 arg10 harg10 arg11 harg11 arg12 harg12 hc0 hc1 x0 x1 x2 x3 d11 d12).1 f9 f10)) = (pt (qOf i) x0 x1 x2 x3 d11 d12 e z).1 := by
  unfold runB
  simp only [runB.sl.v19, runB.sl.r_16, runB.sl.H11_1, runB.sl.r_12, runB.sl.v155, runB.sl.r_13, runB.sl.v24, runB.sl.r_17, runB.sl.v165, runB.sl.v20, runB.sl.v154, runB.sl.v162, runB.sl.r_11, runB.sl.v159, runB.sl.v21, runB.sl.v146, runB.sl.v147, runB.sl.v210, runB.sl.H11_2, runB.sl.v152, runB.sl.r_8, runB.sl.v145, runB.sl.r_14, runB.sl.r_10, runB.sl.r_9, runB.sl.r_15, runB.sl.v143]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  refine (fin_4 c i arg2 harg2 arg3 harg3 arg4 harg4 arg5 harg5 arg6 harg6 arg7 harg7 arg8 harg8 arg9 harg9 arg10 harg10 arg11 harg11 arg12 harg12 _ _ _ _ _ _ _ _ _ _ _ f9 f10 _ _ _ _ _ s1 X9 X10 s3 s4 hs1 hX9 hX10 hs3 hs4 f6).trans ?_
  rw [pt_indep (qOf i) x0 x1 x2 x3 d11 d12 e z (arg9.view.read (Elt F) f9) (arg10.view.read (Elt F) f10)]
  simp only [runB.sl.r_4, runB.sl.r_6, runB.sl.r_3, runB.sl.r_2, runB.sl.v123, runB.sl.r_5, runB.sl.r_7, runB.sl.r_1, runB.sl.r, runB.sl.v132, rdw2, rdw5, rdw11, rdi1, rdi3, rdi4, rdi5, wr3, wr4, wr5, wrw, View.writes_nil, harg2.read_unread, harg3.read_unread, harg4.read_unread, harg5.read_unread, harg11.read_unread, harg12.read_unread]
  skip
  rfl

set_option maxHeartbeats 2000000 in
theorem runA_12 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : cond0 i) (hc1 : ¬k0_cond2 i = 1#1) (x0 : Vec F S256x384 .f32) (x1 x2 : Vec F S2048x384 .f32) (x3 : Vec F S256x384 .bf16) (e z : Vec F S8x3x256x256 .f32) (f9 : BufTy.Contents (Elt F) arg9.view.ty) (f10 : BufTy.Contents (Elt F) arg10.view.ty) (f11 : BufTy.Contents (Elt F) arg11.view.ty) (f12 : BufTy.Contents (Elt F) arg12.view.ty) : arg12.view.read (Elt F) ((runA c i arg2 harg2 arg3 harg3 arg4 harg4 arg5 harg5 arg6 harg6 arg7 harg7 arg8 harg8 arg9 harg9 arg10 harg10 arg11 harg11 arg12 harg12 hc0 hc1 x0 x1 x2 x3).2.2.1 f11 f12) = (pt (qOf i) x0 x1 x2 x3 k0_pay49 k0_pay50 e z).2.2 := by
  unfold runA
  refine (fin_12 c i arg2 harg2 arg3 harg3 arg4 harg4 arg5 harg5 arg6 harg6 arg7 harg7 arg8 harg8 arg9 harg9 arg10 harg10 arg11 harg11 arg12 harg12 _ _ _ _ _ _ _ _ _ _ f9 f10 _ _ _ (k0_pay57 (k0_pay48 x3) (av (qOf i) x0 x1) (rows x2 (qOf i))) (k0_pay58 (k0_pay52 x0 (rows x1 (qOf i)))) _ rfl).trans ?_
  rw [pt_indep (qOf i) x0 x1 x2 x3 k0_pay49 k0_pay50 e z (arg9.view.read (Elt F) f9) (arg10.view.read (Elt F) f10)]
  simp only [runA.sl.r_4, runA.sl.r_2, runA.sl.r_5, runA.sl.r_6, runA.sl.r, runA.sl.r_7, runA.sl.r_3, runA.sl.r_1, runA.sl.H12_1, runA.sl.H12_2, runA.sl.H12_3, rdw2, rdw5, rdw11, rdi1, rdi3, rdi4, rdi5, wr3, wr4, wr5, wrw, View.writes_nil, harg2.read_unread, harg3.read_unread, harg4.read_unread, harg5.read_unread, harg11.read_unread, harg12.read_unread]
  rw [hdp10, hdp21, hdp20]
  rfl

set_option maxHeartbeats 2000000 in
theorem runA_11 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : cond0 i) (hc1 : ¬k0_cond2 i = 1#1) (x0 : Vec F S256x384 .f32) (x1 x2 : Vec F S2048x384 .f32) (x3 : Vec F S256x384 .bf16) (e z : Vec F S8x3x256x256 .f32) (f9 : BufTy.Contents (Elt F) arg9.view.ty) (f10 : BufTy.Contents (Elt F) arg10.view.ty) (f11 : BufTy.Contents (Elt F) arg11.view.ty) (f12 : BufTy.Contents (Elt F) arg12.view.ty) : arg11.view.read (Elt F) ((runA c i arg2 harg2 arg3 harg3 arg4 harg4 arg5 harg5 arg6 harg6 arg7 harg7 arg8 harg8 arg9 harg9 arg10 harg10 arg11 harg11 arg12 harg12 hc0 hc1 x0 x1 x2 x3).2.1 f9 f10 f11 f12) = (pt (qOf i) x0 x1 x2 x3 k0_pay49 k0_pay50 e z).2.1 := by
  unfold runA
  simp only [runA.sl.v210, runA.sl.r_10, runA.sl.H11_2, runA.sl.v19, runA.sl.v143, runA.sl.H11_1, runA.sl.H11_1_1, runA.sl.r_13, runA.sl.v152, runA.sl.r_16, runA.sl.v154, runA.sl.r_12, runA.sl.r_14, runA.sl.r_15, runA.sl.v159, runA.sl.v24, runA.sl.v155, runA.sl.v147, runA.sl.r_11, runA.sl.r_17, runA.sl.v165, runA.sl.v146, runA.sl.v21, runA.sl.v145, runA.sl.v162, runA.sl.v20, runA.sl.r_8, runA.sl.r_9]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  obtain ⟨L43, hL⟩ : ∃ L, L = s4.2 ++ s3.2 := ⟨_, rfl⟩
  simp only [← List.append_assoc, ← hL, ← List.cons_append, View.writes_append]
  simp only [View.writes_append] at hs4
  rw [hL]
  refine (fin_11 c i arg2 harg2 arg3 harg3 arg4 harg4 arg5 harg5 arg6 harg6 arg7 harg7 arg8 harg8 arg9 harg9 arg10 harg10 arg11 harg11 arg12 harg12 _ _ _ _ _ _ _ _ _ _ _ f9 f10 (arg11.view.writes (Elt F) arg11.view.junk [⟨Rect.unit (s := S2048x384) ![0, 0] ![2048, 384] inb_S2048x384_S2048x384_0_0, k0_pay49⟩]) _ _ _ _ s1 X9 X10 s3 s4 hs1 hX9 hX10 hs3 hs4).trans ?_
  rw [pt_indep (qOf i) x0 x1 x2 x3 k0_pay49 k0_pay50 e z (arg9.view.read (Elt F) f9) (arg10.view.read (Elt F) f10)]
  simp only [runA.sl.r_4, runA.sl.r_2, runA.sl.r_5, runA.sl.r_6, runA.sl.r, runA.sl.r_7, runA.sl.r_3, runA.sl.r_1, runA.sl.H12_1, runA.sl.H12_2, runA.sl.H12_3, rdw2, rdw5, rdw11, rdi1, rdi3, rdi4, rdi5, wr3, wr4, wr5, wrw, View.writes_nil, harg2.read_unread, harg3.read_unread, harg4.read_unread, harg5.read_unread, harg11.read_unread, harg12.read_unread]
  rw [hdp10, hdp21, hdp20]
  rfl

set_option maxHeartbeats 2000000 in
theorem runA_4 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : cond0 i) (hc1 : ¬k0_cond2 i = 1#1) (x0 : Vec F S256x384 .f32) (x1 x2 : Vec F S2048x384 .f32) (x3 : Vec F S256x384 .bf16) (e z : Vec F S8x3x256x256 .f32) (f9 : BufTy.Contents (Elt F) arg9.view.ty) (f10 : BufTy.Contents (Elt F) arg10.view.ty) (f11 : BufTy.Contents (Elt F) arg11.view.ty) (f12 : BufTy.Contents (Elt F) arg12.view.ty) (f6 : BufTy.Contents (Elt F) arg6.view.ty) : arg6.view.read (Elt F) (arg6.view.writes (Elt F) f6 ((runA c i arg2 harg2 arg3 harg3 arg4 harg4 arg5 harg5 arg6 harg6 arg7 harg7 arg8 harg8 arg9 harg9 arg10 harg10 arg11 harg11 arg12 harg12 hc0 hc1 x0 x1 x2 x3).1 f9 f10 f11 f12)) = (pt (qOf i) x0 x1 x2 x3 k0_pay49 k0_pay50 e z).1 := by
  unfold runA
  simp only [runA.sl.v210, runA.sl.r_10, runA.sl.H11_2, runA.sl.v19, runA.sl.v143, runA.sl.H11_1, runA.sl.H11_1_1, runA.sl.r_13, runA.sl.v152, runA.sl.r_16, runA.sl.v154, runA.sl.r_12, runA.sl.r_14, runA.sl.r_15, runA.sl.v159, runA.sl.v24, runA.sl.v155, runA.sl.v147, runA.sl.r_11, runA.sl.r_17, runA.sl.v165, runA.sl.v146, runA.sl.v21, runA.sl.v145, runA.sl.v162, runA.sl.v20, runA.sl.r_8, runA.sl.r_9]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  simp only [View.writes_append] at hs4
  refine (fin_4 c i arg2 harg2 arg3 harg3 arg4 harg4 arg5 harg5 arg6 harg6 arg7 harg7 arg8 harg8 arg9 harg9 arg10 harg10 arg11 harg11 arg12 harg12 _ _ _ _ _ _ _ _ _ _ _ f9 f10 (arg11.view.writes (Elt F) arg11.view.junk [⟨Rect.unit (s := S2048x384) ![0, 0] ![2048, 384] inb_S2048x384_S2048x384_0_0, k0_pay49⟩]) _ _ _ _ s1 X9 X10 s3 s4 hs1 hX9 hX10 hs3 hs4 f6).trans ?_
  rw [pt_indep (qOf i) x0 x1 x2 x3 k0_pay49 k0_pay50 e z (arg9.view.read (Elt F) f9) (arg10.view.read (Elt F) f10)]
  simp only [runA.sl.r_4, runA.sl.r_2, runA.sl.r_5, runA.sl.r_6, runA.sl.r, runA.sl.r_7, runA.sl.r_3, runA.sl.r_1, runA.sl.H12_1, runA.sl.H12_2, runA.sl.H12_3, rdw2, rdw5, rdw11, rdi1, rdi3, rdi4, rdi5, wr3, wr4, wr5, wrw, View.writes_nil, harg2.read_unread, harg3.read_unread, harg4.read_unread, harg5.read_unread, harg11.read_unread, harg12.read_unread]
  rw [hdp10, hdp21, hdp20]
  rfl

set_option maxHeartbeats 2000000 in
theorem runC_12 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) : arg12.view.read (Elt F) ((runC c i arg2 harg2 arg3 harg3 arg4 harg4 arg5 harg5 arg6 harg6 arg7 harg7 arg8 harg8 arg9 harg9 arg10 harg10 arg11 harg11 arg12 harg12 hc0 hc1 x0 x1 x2 x3 d11 d12).2.2.2.2.1) = (pt (qOf i) x0 x1 x2 x3 d11 d12 e z).2.2 := by
  unfold runC
  refine (fin_12 c i arg2 harg2 arg3 harg3 arg4 harg4 arg5 harg5 arg6 harg6 arg7 harg7 arg8 harg8 arg9 harg9 arg10 harg10 arg11 harg11 arg12 harg12 _ _ _ _ _ _ _ _ _ _ f9 f10 _ _ _ (k0_pay57 (k0_pay48 x3) (av (qOf i) x0 x1) (rows x2 (qOf i))) (k0_pay58 (k0_pay52 x0 (rows x1 (qOf i)))) _ rfl).trans ?_
  rw [pt_indep (qOf i) x0 x1 x2 x3 d11 d12 e z (arg9.view.read (Elt F) f9) (arg10.view.read (Elt F) f10)]
  simp only [runC.sl.r_4, runC.sl.r, runC.sl.r_7, runC.sl.v123, runC.sl.r_5, runC.sl.r_2, runC.sl.r_6, runC.sl.v132, runC.sl.r_1, runC.sl.r_3, rdw2, rdw5, rdw11, rdi1, rdi3, rdi4, rdi5, wr3, wr4, wr5, wrw, View.writes_nil, harg2.read_unread, harg3.read_unread, harg4.read_unread, harg5.read_unread, harg11.read_unread, harg12.read_unread]
  skip
  rfl

set_option maxHeartbeats 2000000 in
theorem runC_11 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) : arg11.view.read (Elt F) ((runC c i arg2 harg2 arg3 harg3 arg4 harg4 arg5 harg5 arg6 harg6 arg7 harg7 arg8 harg8 arg9 harg9 arg10 harg10 arg11 harg11 arg12 harg12 hc0 hc1 x0 x1 x2 x3 d11 d12).2.2.2.1 f9 f10) = (pt (qOf i) x0 x1 x2 x3 d11 d12 e z).2.1 := by
  unfold runC
  simp only [runC.sl.v262, runC.sl.r_17, runC.sl.v165, runC.sl.r_9, runC.sl.r_11, runC.sl.v159, runC.sl.r_10, runC.sl.r_14, runC.sl.r_16, runC.sl.v20, runC.sl.v162, runC.sl.v147, runC.sl.v154, runC.sl.v152, runC.sl.H11_2, runC.sl.v21, runC.sl.v210, runC.sl.r_15, runC.sl.v24, runC.sl.r_8, runC.sl.v155, runC.sl.H11_1, runC.sl.r_12, runC.sl.v143, runC.sl.v145, runC.sl.r_13, runC.sl.H11_3, runC.sl.v19, runC.sl.v146]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  refine (fin_11 c i arg2 harg2 arg3 harg3 arg4 harg4 arg5 harg5 arg6 harg6 arg7 harg7 arg8 harg8 arg9 harg9 arg10 harg10 arg11 harg11 arg12 harg12 _ _ _ _ _ _ _ _ _ _ _ f9 f10 _ _ _ _ _ s1 X9 X10 s3 s4 hs1 hX9 hX10 hs3 hs4).trans ?_
  rw [pt_indep (qOf i) x0 x1 x2 x3 d11 d12 e z (arg9.view.read (Elt F) f9) (arg10.view.read (Elt F) f10)]
  simp only [runC.sl.r_4, runC.sl.r, runC.sl.r_7, runC.sl.v123, runC.sl.r_5, runC.sl.r_2, runC.sl.r_6, runC.sl.v132, runC.sl.r_1, runC.sl.r_3, rdw2, rdw5, rdw11, rdi1, rdi3, rdi4, rdi5, wr3, wr4, wr5, wrw, View.writes_nil, harg2.read_unread, harg3.read_unread, harg4.read_unread, harg5.read_unread, harg11.read_unread, harg12.read_unread]
  skip
  rfl

set_option maxHeartbeats 2000000 in
theorem runC_4 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) (f6 : BufTy.Contents (Elt F) arg6.view.ty) : arg6.view.read (Elt F) (arg6.view.writes (Elt F) f6 ((runC c i arg2 harg2 arg3 harg3 arg4 harg4 arg5 harg5 arg6 harg6 arg7 harg7 arg8 harg8 arg9 harg9 arg10 harg10 arg11 harg11 arg12 harg12 hc0 hc1 x0 x1 x2 x3 d11 d12).1 f9 f10)) = (pt (qOf i) x0 x1 x2 x3 d11 d12 e z).1 := by
  unfold runC
  simp only [runC.sl.v262, runC.sl.r_17, runC.sl.v165, runC.sl.r_9, runC.sl.r_11, runC.sl.v159, runC.sl.r_10, runC.sl.r_14, runC.sl.r_16, runC.sl.v20, runC.sl.v162, runC.sl.v147, runC.sl.v154, runC.sl.v152, runC.sl.H11_2, runC.sl.v21, runC.sl.v210, runC.sl.r_15, runC.sl.v24, runC.sl.r_8, runC.sl.v155, runC.sl.H11_1, runC.sl.r_12, runC.sl.v143, runC.sl.v145, runC.sl.r_13, runC.sl.H11_3, runC.sl.v19, runC.sl.v146]
  generalize hs1 : st1 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ = s1
  generalize hX9 : arg9.view.writes (Elt F) f9 _ = X9
  generalize hX10 : arg10.view.writes (Elt F) f10 _ = X10
  generalize hs3 : st_k0_t3 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ = s3
  generalize hs4 : st_k0_t4 (F := F) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = s4
  refine (fin_4 c i arg2 harg2 arg3 harg3 arg4 harg4 arg5 harg5 arg6 harg6 arg7 harg7 arg8 harg8 arg9 harg9 arg10 harg10 arg11 harg11 arg12 harg12 _ _ _ _ _ _ _ _ _ _ _ f9 f10 _ _ _ _ _ s1 X9 X10 s3 s4 hs1 hX9 hX10 hs3 hs4 f6).trans ?_
  rw [pt_indep (qOf i) x0 x1 x2 x3 d11 d12 e z (arg9.view.read (Elt F) f9) (arg10.view.read (Elt F) f10)]
  simp only [runC.sl.r_4, runC.sl.r, runC.sl.r_7, runC.sl.v123, runC.sl.r_5, runC.sl.r_2, runC.sl.r_6, runC.sl.v132, runC.sl.r_1, runC.sl.r_3, rdw2, rdw5, rdw11, rdi1, rdi3, rdi4, rdi5, wr3, wr4, wr5, wrw, View.writes_nil, harg2.read_unread, harg3.read_unread, harg4.read_unread, harg5.read_unread, harg11.read_unread, harg12.read_unread]
  skip
  rfl

theorem runC_5 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) (f7 : BufTy.Contents (Elt F) arg7.view.ty) : arg7.view.read (Elt F) (arg7.view.writes (Elt F) f7 ((runC c i arg2 harg2 arg3 harg3 arg4 harg4 arg5 harg5 arg6 harg6 arg7 harg7 arg8 harg8 arg9 harg9 arg10 harg10 arg11 harg11 arg12 harg12 hc0 hc1 x0 x1 x2 x3 d11 d12).2.1 f9 f10)) = k0_pay7 (pt (qOf i) x0 x1 x2 x3 d11 d12 e z).2.1 := by
  rw [← runC_11 c i arg2 harg2 arg3 harg3 arg4 harg4 arg5 harg5 arg6 harg6 arg7 harg7 arg8 harg8 arg9 harg9 arg10 harg10 arg11 harg11 arg12 harg12 hc0 hc1 x0 x1 x2 x3 d11 d12 e z f9 f10]
  unfold runC
  refine (wrwb arg7.view f7 _ _ _).trans ?_
  rw [rdw11]
theorem runC_6 (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (f9 : BufTy.Contents (Elt F) arg9.view.ty) (f10 : BufTy.Contents (Elt F) arg10.view.ty) (f8 : BufTy.Contents (Elt F) arg8.view.ty) : arg8.view.read (Elt F) (arg8.view.writes (Elt F) f8 ((runC c i arg2 harg2 arg3 harg3 arg4 harg4 arg5 harg5 arg6 harg6 arg7 harg7 arg8 harg8 arg9 harg9 arg10 harg10 arg11 harg11 arg12 harg12 hc0 hc1 x0 x1 x2 x3 d11 d12).2.2.1)) = k0_pay8 (pt (qOf i) x0 x1 x2 x3 d11 d12 e z).2.2 := by
  rw [← runC_12 c i arg2 harg2 arg3 harg3 arg4 harg4 arg5 harg5 arg6 harg6 arg7 harg7 arg8 harg8 arg9 harg9 arg10 harg10 arg11 harg11 arg12 harg12 hc0 hc1 x0 x1 x2 x3 d11 d12 e z f9 f10]
  unfold runC
  refine (wrwb arg8.view f8 _ _ _).trans ?_
  simp only [runC.sl.v262]
  rw [rdw11]

end Cert.SbIdeal.Hand

end
-- ==== Proof.SbFrame.lean ====
/- The frame of the stick-breaking backward program: what every window and carried scratch holds point by point, the body obligation, and the run. -/
module

public import proofs.«01_k».proof.Proof.SbFin
public import proofs.«01_k».proof.Proof.Gen.SbIdeal.Frame
public import Idealize.ShloMosaic.Lib.Pipeline.FrameBody
public import Idealize.ShloMosaic.Lib.Quiescent
public import Idealize.ShloMosaic.Lib.Claim

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first query block of a head group. -/
theorem hcond0 : ∀ t : Fin cfg0.N, cond0 (grid0.coords t) ↔ t.val % 8 = 0 :=
  (by decide +kernel : ∀ t : Fin grid0.N, cond0 (grid0.coords t) ↔ t.val % 8 = 0)
/-- The last query block of a head group. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := by decide +kernel
theorem idle5 : ∀ t : Fin cfg0.N, ¬t.val % 8 = 7 → cfg0.idle 5 (grid0.coords t) = true := by decide +kernel
theorem idle6 : ∀ t : Fin cfg0.N, ¬t.val % 8 = 7 → cfg0.idle 6 (grid0.coords t) = true := by decide +kernel
theorem live5 : ∀ t : Fin cfg0.N, t.val % 8 = 7 → cfg0.idle 5 (grid0.coords t) = false := by decide +kernel
theorem live6 : ∀ t : Fin cfg0.N, t.val % 8 = 7 → cfg0.idle 6 (grid0.coords t) = false := by decide +kernel
theorem noFlush5 : ∀ t : Fin cfg0.N, ¬t.val % 8 = 7 → (cfg0.win 5).flush t = false := by decide +kernel
theorem noFlush6 : ∀ t : Fin cfg0.N, ¬t.val % 8 = 7 → (cfg0.win 6).flush t = false := by decide +kernel

abbrev ms0 (t : Fin cfg0.N) : Memref sig .tc .vmem S256x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x384 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x384 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x384 .bf16 := win0_6.stage (cfg0.slots t 6)
abbrev hs6 (t : Fin cfg0.N) : (ms6 t).IsWhole := hstage0_6 ((cfg0.slots t 6).cast nbuf0_6)
abbrev sM0 : Memref sig .tc .vmem S8x3x256x256 .f32 := Memref.whole cc0_scratch0
abbrev sM1 : Memref sig .tc .vmem S8x3x256x256 .f32 := Memref.whole cc0_scratch1
abbrev sM2 : Memref sig .tc .vmem S2048x384 .f32 := Memref.whole cc0_scratch2
abbrev sM3 : Memref sig .tc .vmem S2048x384 .f32 := Memref.whole cc0_scratch3

/-- The launch's invariant with the four scratch buffers as memrefs. -/
theorem PhiA_eq (c : Dev nD) :
    (Pipeline.ΦA spec0 c : sProp 𝕄)
      = iprop(iprop((∃ d, owns (c : Thread nD τ) sM0 fullShare d) ∗ (∃ d, owns (c : Thread nD τ) sM1 fullShare d) ∗ (∃ d, owns (c : Thread nD τ) sM2 fullShare d) ∗ (∃ d, owns (c : Thread nD τ) sM3 fullShare d)) ∗ (∃ r, prngReg c r)) := by
  unfold Pipeline.ΦA; rw [scopedRest0_eq]; simp only [owns_whole]; try rfl

/-- Contents for the two tile buffers, of which no result depends. -/
def e0 : Vec F S8x3x256x256 .f32 := fun _ => Scalar.ofBits .f32 0#32

/-- One grid point, on the blocks of that point and the carried accumulators. -/
def ptAt (c : Dev nD) (t : Fin cfg0.N) (d11 d12 : Vec F S2048x384 .f32) : Vec F S256x384 .bf16 × Vec F S2048x384 .f32 × Vec F S2048x384 .f32 :=
  pt (qOf (grid0.coords t)) (iblk m c 0 t) (iblk m c 1 t) (iblk m c 2 t) (iblk m c 3 t) d11 d12 e0 e0

set_option maxHeartbeats 1000000 in
/-- Case A of the body with every buffer owned at what the model says. -/
theorem specA (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : cond0 i) (hc1 : ¬k0_cond2 i = 1#1) (x0 : Vec F S256x384 .f32) (x1 x2 : Vec F S2048x384 .f32) (x3 : Vec F S256x384 .bf16) (x5 x6 : Vec F S2048x384 .bf16) (e z : Vec F S8x3x256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (pt (qOf i) x0 x1 x2 x3 k0_pay49 k0_pay50 e z).1 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare (pt (qOf i) x0 x1 x2 x3 k0_pay49 k0_pay50 e z).2.1 ∗ owns (c : Thread nD τ) arg12 fullShare (pt (qOf i) x0 x1 x2 x3 k0_pay49 k0_pay50 e z).2.2) -∗ K ⟨⟩))
      ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K := by
  have hr : ∀ {sp : Space} {sh : Shape} {e : EltTy} (a : Memref sig .tc sp sh e) (X : sh.Idx → Elt F e), (owns (c : Thread nD τ) a fullShare X : sProp 𝕄) = iprop(∃ f, ⌜a.view.read (Elt F) f = X⌝ ∗ (a.view.loc (c : Thread nD τ) ↦[a.view.set]{fullShare} f)) := fun _ _ => rfl
  simp only [hr arg9, hr arg10, hr arg11, hr arg12]
  iintro ⟨H0, H1, H2, H3, H6, H7, H8, ⟨%d9, %f9, %q9, H9⟩, ⟨%d10, %f10, %q10, H10⟩, ⟨%d11, %f11, %q11, H11⟩, ⟨%d12, %f12, %q12, H12⟩, HK⟩
  iapply ((runA c i arg2 harg2 arg3 harg3 arg4 harg4 arg5 harg5 arg6 harg6 arg7 harg7 arg8 harg8 arg9 harg9 arg10 harg10 arg11 harg11 arg12 harg12 hc0 hc1 x0 x1 x2 x3).2.2.2 x5 x6 f9 f10 f11 f12 E K)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, ⟨%e6, H6⟩, H7, H8, ⟨%e9, H9⟩, ⟨%e10, H10⟩, H11, H12⟩
  iapply HK
  isplitl [H0]; · iexact H0
  isplitl [H1]; · iexact H1
  isplitl [H2]; · iexact H2
  isplitl [H3]; · iexact H3
  isplitl [H6]
  · unfold owns; iexists _; isplitr
    swap; · iexact H6
    ipureintro; exact runA_4 c i arg2 harg2 arg3 harg3 arg4 harg4 arg5 harg5 arg6 harg6 arg7 harg7 arg8 harg8 arg9 harg9 arg10 harg10 arg11 harg11 arg12 harg12 hc0 hc1 x0 x1 x2 x3 e z f9 f10 f11 f12 e6
  isplitl [H7]; · iexact H7
  isplitl [H8]; · iexact H8
  isplitl [H9]
  · iexists _; iexists _; isplitr
    swap; · iexact H9
    ipureintro; rfl
  isplitl [H10]
  · iexists _; iexists _; isplitr
    swap; · iexact H10
    ipureintro; rfl
  isplitl [H11]
  · unfold owns; iexists _; isplitr
    swap; · iexact H11
    ipureintro; exact runA_11 c i arg2 harg2 arg3 harg3 arg4 harg4 arg5 harg5 arg6 harg6 arg7 harg7 arg8 harg8 arg9 harg9 arg10 harg10 arg11 harg11 arg12 harg12 hc0 hc1 x0 x1 x2 x3 e z f9 f10 f11 f12
  · unfold owns; iexists _; isplitr
    swap; · iexact H12
    ipureintro; exact runA_12 c i arg2 harg2 arg3 harg3 arg4 harg4 arg5 harg5 arg6 harg6 arg7 harg7 arg8 harg8 arg9 harg9 arg10 harg10 arg11 harg11 arg12 harg12 hc0 hc1 x0 x1 x2 x3 e z f9 f10 f11 f12

set_option maxHeartbeats 1000000 in
/-- Case B of the body with every buffer owned at what the model says. -/
theorem specB (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : ¬k0_cond2 i = 1#1) (x0 : Vec F S256x384 .f32) (x1 x2 : Vec F S2048x384 .f32) (x3 : Vec F S256x384 .bf16) (d11 d12 : Vec F S2048x384 .f32) (x5 x6 : Vec F S2048x384 .bf16) (e z : Vec F S8x3x256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare d11 ∗ owns (c : Thread nD τ) arg12 fullShare d12 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (pt (qOf i) x0 x1 x2 x3 d11 d12 e z).1 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare (pt (qOf i) x0 x1 x2 x3 d11 d12 e z).2.1 ∗ owns (c : Thread nD τ) arg12 fullShare (pt (qOf i) x0 x1 x2 x3 d11 d12 e z).2.2) -∗ K ⟨⟩))
      ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K := by
  have hr : ∀ {sp : Space} {sh : Shape} {e : EltTy} (a : Memref sig .tc sp sh e) (X : sh.Idx → Elt F e), (owns (c : Thread nD τ) a fullShare X : sProp 𝕄) = iprop(∃ f, ⌜a.view.read (Elt F) f = X⌝ ∗ (a.view.loc (c : Thread nD τ) ↦[a.view.set]{fullShare} f)) := fun _ _ => rfl
  simp only [hr arg9, hr arg10]
  iintro ⟨H0, H1, H2, H3, H6, H7, H8, ⟨%d9, %f9, %q9, H9⟩, ⟨%d10, %f10, %q10, H10⟩, H11, H12, HK⟩
  iapply ((runB c i arg2 harg2 arg3 harg3 arg4 harg4 arg5 harg5 arg6 harg6 arg7 harg7 arg8 harg8 arg9 harg9 arg10 harg10 arg11 harg11 arg12 harg12 hc0 hc1 x0 x1 x2 x3 d11 d12).2.2.2 x5 x6 f9 f10 E K)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, ⟨%e6, H6⟩, H7, H8, ⟨%e9, H9⟩, ⟨%e10, H10⟩, H11, H12⟩
  iapply HK
  isplitl [H0]; · iexact H0
  isplitl [H1]; · iexact H1
  isplitl [H2]; · iexact H2
  isplitl [H3]; · iexact H3
  isplitl [H6]
  · unfold owns; iexists _; isplitr
    swap; · iexact H6
    ipureintro; exact runB_4 c i arg2 harg2 arg3 harg3 arg4 harg4 arg5 harg5 arg6 harg6 arg7 harg7 arg8 harg8 arg9 harg9 arg10 harg10 arg11 harg11 arg12 harg12 hc0 hc1 x0 x1 x2 x3 d11 d12 e z f9 f10 e6
  isplitl [H7]; · iexact H7
  isplitl [H8]; · iexact H8
  isplitl [H9]
  · iexists _; iexists _; isplitr
    swap; · iexact H9
    ipureintro; rfl
  isplitl [H10]
  · iexists _; iexists _; isplitr
    swap; · iexact H10
    ipureintro; rfl
  isplitl [H11]
  · unfold owns; iexists _; isplitr
    swap; · iexact H11
    ipureintro; exact runB_11 c i arg2 harg2 arg3 harg3 arg4 harg4 arg5 harg5 arg6 harg6 arg7 harg7 arg8 harg8 arg9 harg9 arg10 harg10 arg11 harg11 arg12 harg12 hc0 hc1 x0 x1 x2 x3 d11 d12 e z f9 f10
  · unfold owns; iexists _; isplitr
    swap; · iexact H12
    ipureintro; exact runB_12 c i arg2 harg2 arg3 harg3 arg4 harg4 arg5 harg5 arg6 harg6 arg7 harg7 arg8 harg8 arg9 harg9 arg10 harg10 arg11 harg11 arg12 harg12 hc0 hc1 x0 x1 x2 x3 d11 d12 e z f9 f10

set_option maxHeartbeats 1000000 in
/-- Case C of the body with every buffer owned at what the model says. -/
theorem specC (c : Dev nD) (i : grid0.Coords) (arg2 : Memref sig .tc .vmem S256x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S256x384 .bf16) (harg5 : arg5.IsWhole) (arg6 : Memref sig .tc .vmem S256x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S8x3x256x256 .f32) (harg9 : arg9.IsWhole) (arg10 : Memref sig .tc .vmem S8x3x256x256 .f32) (harg10 : arg10.IsWhole) (arg11 : Memref sig .tc .vmem S2048x384 .f32) (harg11 : arg11.IsWhole) (arg12 : Memref sig .tc .vmem S2048x384 .f32) (harg12 : arg12.IsWhole) (hc0 : ¬cond0 i) (hc1 : k0_cond2 i = 1#1) (x0 : Vec F S256x384 .f32) (x1 x2 : Vec F S2048x384 .f32) (x3 : Vec F S256x384 .bf16) (d11 d12 : Vec F S2048x384 .f32) (e z : Vec F S8x3x256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d11 ∗ owns (c : Thread nD τ) arg12 fullShare d12 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (pt (qOf i) x0 x1 x2 x3 d11 d12 e z).1 ∗ owns (c : Thread nD τ) arg7 fullShare (k0_pay7 (pt (qOf i) x0 x1 x2 x3 d11 d12 e z).2.1) ∗ owns (c : Thread nD τ) arg8 fullShare (k0_pay8 (pt (qOf i) x0 x1 x2 x3 d11 d12 e z).2.2) ∗ (∃ d, owns (c : Thread nD τ) arg9 fullShare d) ∗ (∃ d, owns (c : Thread nD τ) arg10 fullShare d) ∗ owns (c : Thread nD τ) arg11 fullShare (pt (qOf i) x0 x1 x2 x3 d11 d12 e z).2.1 ∗ owns (c : Thread nD τ) arg12 fullShare (pt (qOf i) x0 x1 x2 x3 d11 d12 e z).2.2) -∗ K ⟨⟩))
      ⊢ wp frame (wpE (defs₀ (F := F)) Variants.none c none) E (cc0_sb i arg2 harg2 arg3 harg3 arg4 harg4 arg5 harg5 arg6 harg6 arg7 harg7 arg8 harg8 arg9 harg9 arg10 harg10 arg11 harg11 arg12 harg12) K := by
  have hr : ∀ {sp : Space} {sh : Shape} {e : EltTy} (a : Memref sig .tc sp sh e) (X : sh.Idx → Elt F e), (owns (c : Thread nD τ) a fullShare X : sProp 𝕄) = iprop(∃ f, ⌜a.view.read (Elt F) f = X⌝ ∗ (a.view.loc (c : Thread nD τ) ↦[a.view.set]{fullShare} f)) := fun _ _ => rfl
  simp only [hr arg9, hr arg10]
  iintro ⟨H0, H1, H2, H3, H6, H7, H8, ⟨%d9, %f9, %q9, H9⟩, ⟨%d10, %f10, %q10, H10⟩, H11, H12, HK⟩
  iapply ((runC c i arg2 harg2 arg3 harg3 arg4 harg4 arg5 harg5 arg6 harg6 arg7 harg7 arg8 harg8 arg9 harg9 arg10 harg10 arg11 harg11 arg12 harg12 hc0 hc1 x0 x1 x2 x3 d11 d12).2.2.2.2.2 f9 f10 E K)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, ⟨%e6, H6⟩, ⟨%e7, H7⟩, ⟨%e8, H8⟩, ⟨%e9, H9⟩, ⟨%e10, H10⟩, H11, H12⟩
  iapply HK
  isplitl [H0]; · iexact H0
  isplitl [H1]; · iexact H1
  isplitl [H2]; · iexact H2
  isplitl [H3]; · iexact H3
  isplitl [H6]
  · unfold owns; iexists _; isplitr
    swap; · iexact H6
    ipureintro; exact runC_4 c i arg2 harg2 arg3 harg3 arg4 harg4 arg5 harg5 arg6 harg6 arg7 harg7 arg8 harg8 arg9 harg9 arg10 harg10 arg11 harg11 arg12 harg12 hc0 hc1 x0 x1 x2 x3 d11 d12 e z f9 f10 e6
  isplitl [H7]
  · unfold owns; iexists _; isplitr
    swap; · iexact H7
    ipureintro; exact runC_5 c i arg2 harg2 arg3 harg3 arg4 harg4 arg5 harg5 arg6 harg6 arg7 harg7 arg8 harg8 arg9 harg9 arg10 harg10 arg11 harg11 arg12 harg12 hc0 hc1 x0 x1 x2 x3 d11 d12 e z f9 f10 e7
  isplitl [H8]
  · unfold owns; iexists _; isplitr
    swap; · iexact H8
    ipureintro; exact runC_6 c i arg2 harg2 arg3 harg3 arg4 harg4 arg5 harg5 arg6 harg6 arg7 harg7 arg8 harg8 arg9 harg9 arg10 harg10 arg11 harg11 arg12 harg12 hc0 hc1 x0 x1 x2 x3 d11 d12 e z f9 f10 e8
  isplitl [H9]
  · iexists _; iexists _; isplitr
    swap; · iexact H9
    ipureintro; rfl
  isplitl [H10]
  · iexists _; iexists _; isplitr
    swap; · iexact H10
    ipureintro; rfl
  isplitl [H11]
  · unfold owns; iexists _; isplitr
    swap; · iexact H11
    ipureintro; exact runC_11 c i arg2 harg2 arg3 harg3 arg4 harg4 arg5 harg5 arg6 harg6 arg7 harg7 arg8 harg8 arg9 harg9 arg10 harg10 arg11 harg11 arg12 harg12 hc0 hc1 x0 x1 x2 x3 d11 d12 e z f9 f10
  · unfold owns; iexists _; isplitr
    swap; · iexact H12
    ipureintro; exact runC_12 c i arg2 harg2 arg3 harg3 arg4 harg4 arg5 harg5 arg6 harg6 arg7 harg7 arg8 harg8 arg9 harg9 arg10 harg10 arg11 harg11 arg12 harg12 hc0 hc1 x0 x1 x2 x3 d11 d12 e z f9 f10

/-- What the gradient block of the queries and the two accumulators hold after each point. -/
def outsAt (c : Dev nD) : (n : ℕ) → n < cfg0.N → Vec F S256x384 .bf16 × Vec F S2048x384 .f32 × Vec F S2048x384 .f32
  | 0, hn => ptAt m c ⟨0, hn⟩ k0_pay49 k0_pay50
  | n + 1, hn => if (n + 1) % 8 = 0 then ptAt m c ⟨n + 1, hn⟩ k0_pay49 k0_pay50
      else ptAt m c ⟨n + 1, hn⟩ (outsAt c n (Nat.lt_of_succ_lt hn)).2.1 (outsAt c n (Nat.lt_of_succ_lt hn)).2.2

theorem outsAt_A (c : Dev nD) (t : Fin cfg0.N) (h : t.val % 8 = 0) : outsAt m c t.val t.isLt = ptAt m c t k0_pay49 k0_pay50 := by
  obtain ⟨n, hn⟩ := t
  cases n with
  | zero => rfl
  | succ n => exact if_pos h

theorem outsAt_B (c : Dev nD) (t : Fin cfg0.N) (h : ¬t.val % 8 = 0) :
    outsAt m c t.val t.isLt = ptAt m c t (outsAt m c (t.val - 1) (Nat.lt_of_le_of_lt (Nat.sub_le _ _) t.isLt)).2.1 (outsAt m c (t.val - 1) (Nat.lt_of_le_of_lt (Nat.sub_le _ _) t.isLt)).2.2 := by
  obtain ⟨n, hn⟩ := t
  cases n with
  | zero => exact absurd (Nat.zero_mod _) h
  | succ n => exact if_neg h

/-- The invariant: before the first point every scratch at anything, afterwards the two accumulators at what the point before left. -/
def PhiS (c : Dev nD) : (n : ℕ) → n ≤ cfg0.N → sProp 𝕄
  | 0, _ => Pipeline.ΦA spec0 c
  | n + 1, hn => iprop(iprop((∃ d, owns (c : Thread nD τ) sM0 fullShare d) ∗ (∃ d, owns (c : Thread nD τ) sM1 fullShare d) ∗ owns (c : Thread nD τ) sM2 fullShare (outsAt m c n hn).2.1 ∗ owns (c : Thread nD τ) sM3 fullShare (outsAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) sM0 fullShare d) ∗ (∃ d, owns (c : Thread nD τ) sM1 fullShare d) ∗ owns (c : Thread nD τ) sM2 fullShare (outsAt m c n hn).2.1 ∗ owns (c : Thread nD τ) sM3 fullShare (outsAt m c n hn).2.2) ∗ (∃ r, prngReg c r)) := rfl
theorem PhiS_pos (c : Dev nD) (n : ℕ) (h : n ≤ cfg0.N) (hz : n ≠ 0) :
    PhiS m c n h = iprop(iprop((∃ d, owns (c : Thread nD τ) sM0 fullShare d) ∗ (∃ d, owns (c : Thread nD τ) sM1 fullShare d) ∗ owns (c : Thread nD τ) sM2 fullShare (outsAt m c (n - 1) (by omega)).2.1 ∗ owns (c : Thread nD τ) sM3 fullShare (outsAt m c (n - 1) (by omega)).2.2) ∗ (∃ r, prngReg c r)) := by
  cases n with
  | zero => exact absurd rfl hz
  | succ n => rfl

/-- The proof data: the arrays as launched, each input's buffer at its block, the results' at what the model says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => k0_pay7 (outsAt m c t.val t.isLt).2.1
    | ⟨6, _⟩ => k0_pay8 (outsAt m c t.val t.isLt).2.2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after4 (c : Dev nD) (t : Fin cfg0.N) : (dats m 0 c).after 4 t = (outsAt m c t.val t.isLt).1 := by dsimp only [dats]
theorem after5 (c : Dev nD) (t : Fin cfg0.N) : (dats m 0 c).after 5 t = k0_pay7 (outsAt m c t.val t.isLt).2.1 := by dsimp only [dats]
theorem after6 (c : Dev nD) (t : Fin cfg0.N) : (dats m 0 c).after 6 t = k0_pay8 (outsAt m c t.val t.isLt).2.2 := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · have h2 : ¬t.val % 8 = 7 := by omega
    by_cases hz : t.val = 0
    · skip
      rw [show (dats m 0 c).leavesExact 0 t = owns (c : Thread nD τ) (ms0 t) fullShare ((dats m 0 c).after 0 t) from by
            unfold Dat.leavesExact; rw [live0 t], after0]
      rw [show (dats m 0 c).leavesExact 1 t = owns (c : Thread nD τ) (ms1 t) fullShare ((dats m 0 c).after 1 t) from by
            unfold Dat.leavesExact; rw [live1 t], after1]
      rw [show (dats m 0 c).leavesExact 2 t = owns (c : Thread nD τ) (ms2 t) fullShare ((dats m 0 c).after 2 t) from by
            unfold Dat.leavesExact; rw [live2 t], after2]
      rw [show (dats m 0 c).leavesExact 3 t = owns (c : Thread nD τ) (ms3 t) fullShare ((dats m 0 c).after 3 t) from by
            unfold Dat.leavesExact; rw [live3 t], after3]
      rw [show (dats m 0 c).leavesExact 4 t = owns (c : Thread nD τ) (ms4 t) fullShare ((dats m 0 c).after 4 t) from by
            unfold Dat.leavesExact; rw [live4 t], after4]
      rw [Dat.leavesExact_idle (dats m 0 c) 5 t (idle5 t h2) (noFlush5 t h2)]
      rw [Dat.leavesExact_idle (dats m 0 c) 6 t (idle6 t h2) (noFlush6 t h2)]
      rw [PhiS_castSucc m c t, PhiS_zero m c _ _ hz, PhiA_eq]
      rw [outsAt_A m c t h0]
      unfold ptAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (specA c (grid0.coords t) (ms0 t) (hs0 t) (ms1 t) (hs1 t) (ms2 t) (hs2 t) (ms3 t) (hs3 t) (ms4 t) (hs4 t) (ms5 t) (hs5 t) (ms6 t) (hs6 t) sM0 (Memref.isWhole_whole _) sM1 (Memref.isWhole_whole _) sM2 (Memref.isWhole_whole _) sM3 (Memref.isWhole_whole _) ((hcond0 t).mpr h0) (fun h => h2 ((hcond2 t).mp h)) (iblk m c 0 t) (iblk m c 1 t) (iblk m c 2 t) (iblk m c 3 t) _ _ e0 e0 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · skip
      rw [show (dats m 0 c).leavesExact 0 t = owns (c : Thread nD τ) (ms0 t) fullShare ((dats m 0 c).after 0 t) from by
            unfold Dat.leavesExact; rw [live0 t], after0]
      rw [show (dats m 0 c).leavesExact 1 t = owns (c : Thread nD τ) (ms1 t) fullShare ((dats m 0 c).after 1 t) from by
            unfold Dat.leavesExact; rw [live1 t], after1]
      rw [show (dats m 0 c).leavesExact 2 t = owns (c : Thread nD τ) (ms2 t) fullShare ((dats m 0 c).after 2 t) from by
            unfold Dat.leavesExact; rw [live2 t], after2]
      rw [show (dats m 0 c).leavesExact 3 t = owns (c : Thread nD τ) (ms3 t) fullShare ((dats m 0 c).after 3 t) from by
            unfold Dat.leavesExact; rw [live3 t], after3]
      rw [show (dats m 0 c).leavesExact 4 t = owns (c : Thread nD τ) (ms4 t) fullShare ((dats m 0 c).after 4 t) from by
            unfold Dat.leavesExact; rw [live4 t], after4]
      rw [Dat.leavesExact_idle (dats m 0 c) 5 t (idle5 t h2) (noFlush5 t h2)]
      rw [Dat.leavesExact_idle (dats m 0 c) 6 t (idle6 t h2) (noFlush6 t h2)]
      rw [PhiS_castSucc m c t, PhiS_pos m c _ _ hz]
      rw [outsAt_A m c t h0]
      unfold ptAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (specA c (grid0.coords t) (ms0 t) (hs0 t) (ms1 t) (hs1 t) (ms2 t) (hs2 t) (ms3 t) (hs3 t) (ms4 t) (hs4 t) (ms5 t) (hs5 t) (ms6 t) (hs6 t) sM0 (Memref.isWhole_whole _) sM1 (Memref.isWhole_whole _) sM2 (Memref.isWhole_whole _) sM3 (Memref.isWhole_whole _) ((hcond0 t).mpr h0) (fun h => h2 ((hcond2 t).mp h)) (iblk m c 0 t) (iblk m c 1 t) (iblk m c 2 t) (iblk m c 3 t) _ _ e0 e0 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexists _; iexact HS2
      isplitl [HS3]; · iexists _; iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h2 : t.val % 8 = 7
    · skip
      rw [show (dats m 0 c).leavesExact 0 t = owns (c : Thread nD τ) (ms0 t) fullShare ((dats m 0 c).after 0 t) from by
            unfold Dat.leavesExact; rw [live0 t], after0]
      rw [show (dats m 0 c).leavesExact 1 t = owns (c : Thread nD τ) (ms1 t) fullShare ((dats m 0 c).after 1 t) from by
            unfold Dat.leavesExact; rw [live1 t], after1]
      rw [show (dats m 0 c).leavesExact 2 t = owns (c : Thread nD τ) (ms2 t) fullShare ((dats m 0 c).after 2 t) from by
            unfold Dat.leavesExact; rw [live2 t], after2]
      rw [show (dats m 0 c).leavesExact 3 t = owns (c : Thread nD τ) (ms3 t) fullShare ((dats m 0 c).after 3 t) from by
            unfold Dat.leavesExact; rw [live3 t], after3]
      rw [show (dats m 0 c).leavesExact 4 t = owns (c : Thread nD τ) (ms4 t) fullShare ((dats m 0 c).after 4 t) from by
            unfold Dat.leavesExact; rw [live4 t], after4]
      rw [show (dats m 0 c).leavesExact 5 t = owns (c : Thread nD τ) (ms5 t) fullShare ((dats m 0 c).after 5 t) from by
            unfold Dat.leavesExact; rw [live5 t h2], after5]
      rw [show (dats m 0 c).leavesExact 6 t = owns (c : Thread nD τ) (ms6 t) fullShare ((dats m 0 c).after 6 t) from by
            unfold Dat.leavesExact; rw [live6 t h2], after6]
      rw [PhiS_castSucc m c t, PhiS_pos m c _ _ hz]
      rw [outsAt_B m c t h0]
      unfold ptAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (specC c (grid0.coords t) (ms0 t) (hs0 t) (ms1 t) (hs1 t) (ms2 t) (hs2 t) (ms3 t) (hs3 t) (ms4 t) (hs4 t) (ms5 t) (hs5 t) (ms6 t) (hs6 t) sM0 (Memref.isWhole_whole _) sM1 (Memref.isWhole_whole _) sM2 (Memref.isWhole_whole _) sM3 (Memref.isWhole_whole _) (fun h => h0 ((hcond0 t).mp h)) ((hcond2 t).mpr h2) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2 e0 e0 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · skip
      rw [show (dats m 0 c).leavesExact 0 t = owns (c : Thread nD τ) (ms0 t) fullShare ((dats m 0 c).after 0 t) from by
            unfold Dat.leavesExact; rw [live0 t], after0]
      rw [show (dats m 0 c).leavesExact 1 t = owns (c : Thread nD τ) (ms1 t) fullShare ((dats m 0 c).after 1 t) from by
            unfold Dat.leavesExact; rw [live1 t], after1]
      rw [show (dats m 0 c).leavesExact 2 t = owns (c : Thread nD τ) (ms2 t) fullShare ((dats m 0 c).after 2 t) from by
            unfold Dat.leavesExact; rw [live2 t], after2]
      rw [show (dats m 0 c).leavesExact 3 t = owns (c : Thread nD τ) (ms3 t) fullShare ((dats m 0 c).after 3 t) from by
            unfold Dat.leavesExact; rw [live3 t], after3]
      rw [show (dats m 0 c).leavesExact 4 t = owns (c : Thread nD τ) (ms4 t) fullShare ((dats m 0 c).after 4 t) from by
            unfold Dat.leavesExact; rw [live4 t], after4]
      rw [Dat.leavesExact_idle (dats m 0 c) 5 t (idle5 t h2) (noFlush5 t h2)]
      rw [Dat.leavesExact_idle (dats m 0 c) 6 t (idle6 t h2) (noFlush6 t h2)]
      rw [PhiS_castSucc m c t, PhiS_pos m c _ _ hz]
      rw [outsAt_B m c t h0]
      unfold ptAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (specB c (grid0.coords t) (ms0 t) (hs0 t) (ms1 t) (hs1 t) (ms2 t) (hs2 t) (ms3 t) (hs3 t) (ms4 t) (hs4 t) (ms5 t) (hs5 t) (ms6 t) (hs6 t) sM0 (Memref.isWhole_whole _) sM1 (Memref.isWhole_whole _) sM2 (Memref.isWhole_whole _) sM3 (Memref.isWhole_whole _) (fun h => h0 ((hcond0 t).mp h)) (fun h => h2 ((hcond2 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2 _ _ e0 e0 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: every execution ends, each window's array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => by dsimp only [dats])
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SbIdeal.Hand

end
-- ==== Proof.SbSame.lean ====
module
public import proofs.«01_k».proof.Defs
public import proofs.«01_k».proof.Proof.SbFrame
public import proofs.«01_k».proof.Proof.Gen.Sb
@[expose] public section
noncomputable section
namespace Cert.Proof
open Idealize.ShloMosaic Idealize.SL.Sem
/-- The two printed programs have the same body. -/
theorem sb_body : @Cert.Sb.cc0_sb Bits _ _ = @Cert.SbIdeal.cc0_sb Bits _ _ := rfl
/-- The body tables agree row by row. -/
theorem sb_rows : (Cert.Sb.defs₀ (F := Bits)) = Cert.SbIdeal.defs₀ (F := Bits) := by
  unfold Cert.Sb.defs₀ Cert.SbIdeal.defs₀
  congr 1
  funext a x
  match a, x with
  | 0, (t, s) =>
    dsimp only
    rw [sb_body]
    rfl
theorem sb_defs : (Cert.Sb.defs (F := Bits)) = Cert.SbIdeal.defs (F := Bits) := by
  unfold Cert.Sb.defs Cert.SbIdeal.defs
  rw [sb_rows]
  rfl
/-- The frame at words: the run of the ideal program's text, read at words. -/
theorem frame_sb : Cert.quiescent_Sb := fun m ρ _ => by
  have h := Cert.SbIdeal.Hand.frame (F := Bits) m ρ
  rw [← sb_defs] at h
  exact h
end Cert.Proof
-- ==== Proof.FfTwoWVal.lean ====
/-
  The gradient of the second MLP weight: the result array as a function of the arguments, and the reference's, equal at the ideal instance.
-/
module

public import proofs.«01_k».proof.Defs
public import proofs.«01_k».proof.Proof.Gen.FfTwoW.Frame
public import proofs.«01_k».proof.Proof.Gen.FfTwoWIdeal.Value
public import proofs.«01_k».proof.Proof.Gen.FfTwoWRefIdeal.Run
public import proofs.«01_k».proof.Proof.Gen.FfTwoWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfTwoWIdeal.Val

open Cert.FfTwoWIdeal Cert.FfTwoWIdeal.Gen Cert.FfTwoWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6]
  first
  | (blk_point [iblk, V, idx0 t, idx1 t, idx2 t]; done)
  | (refine (Finset.sum_congr rfl fun k _ => mul_comm (G := EReal) _ _).trans ?_
     blk_point [iblk, V, idx0 t, idx1 t, idx2 t])

end Cert.FfTwoWIdeal.Val

namespace Cert.Proof.FfTwoWClaims

theorem frame_k : Cert.quiescent_FfTwoW := fun m ρ _ => Cert.FfTwoW.Gen.frame m ρ
theorem frame_i : Cert.quiescent_FfTwoWIdeal := fun m ρ _ => Cert.FfTwoWIdeal.Gen.frame m ρ
theorem frame_r : Cert.quiescent_FfTwoWRefIdeal := fun m ρ _ =>
  (θ_run Cert.FfTwoWRefIdeal.defs _ _).mono (fun r h => ⟨fun c => (h c).2,
      Idealize.ShloMosaic.sem_eq_zero_of_no_sems (by decide) r.2⟩)
    (Cert.FfTwoWRefIdeal.Value.run (F := Ideal) m ρ)

open Cert.FfTwoWIdeal.Val in
/-- The kernel's result array is the reference's, as a function of the arguments. -/
theorem algebraic : Cert.algebraic_FfTwoWIdeal_FfTwoWRefIdeal := by
  intro m ρ m' ρ' _ hag
  refine ⟨fun c => _, (θ_run Cert.FfTwoWIdeal.defs _ _).mono (fun _ h c => ⟨(h c).1.trans (final m c), (h c).2⟩) (Cert.FfTwoWIdeal.Value.run_blocks (F := Ideal) m ρ), (θ_run Cert.FfTwoWRefIdeal.defs _ _).mono (fun _ h c => ?_) (Cert.FfTwoWRefIdeal.Value.run (F := Ideal) m' ρ')⟩
  obtain ⟨h0, hk⟩ := h c
  obtain ⟨a0, a1⟩ := hag c
  rw [a0, a1] at h0
  exact ⟨h0, hk⟩

end Cert.Proof.FfTwoWClaims

end
-- ==== Proof.FfOneWVal.lean ====
/-
  The gradient of the first MLP weight: the result array as a function of the arguments, and the reference's, equal at the ideal instance.
-/
module

public import proofs.«01_k».proof.Defs
public import proofs.«01_k».proof.Proof.Gen.FfOneW.Frame
public import proofs.«01_k».proof.Proof.Gen.FfOneWIdeal.Value
public import proofs.«01_k».proof.Proof.Gen.FfOneWRefIdeal.Run
public import proofs.«01_k».proof.Proof.Gen.FfOneWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfOneWIdeal.Val

open Cert.FfOneWIdeal Cert.FfOneWIdeal.Gen Cert.FfOneWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6]
  first
  | (blk_point [iblk, V, idx0 t, idx1 t, idx2 t]; done)
  | (refine (Finset.sum_congr rfl fun k _ => mul_comm (G := EReal) _ _).trans ?_
     blk_point [iblk, V, idx0 t, idx1 t, idx2 t])

end Cert.FfOneWIdeal.Val

namespace Cert.Proof.FfOneWClaims

theorem frame_k : Cert.quiescent_FfOneW := fun m ρ _ => Cert.FfOneW.Gen.frame m ρ
theorem frame_i : Cert.quiescent_FfOneWIdeal := fun m ρ _ => Cert.FfOneWIdeal.Gen.frame m ρ
theorem frame_r : Cert.quiescent_FfOneWRefIdeal := fun m ρ _ =>
  (θ_run Cert.FfOneWRefIdeal.defs _ _).mono (fun r h => ⟨fun c => (h c).2,
      Idealize.ShloMosaic.sem_eq_zero_of_no_sems (by decide) r.2⟩)
    (Cert.FfOneWRefIdeal.Value.run (F := Ideal) m ρ)

open Cert.FfOneWIdeal.Val in
/-- The kernel's result array is the reference's, as a function of the arguments. -/
theorem algebraic : Cert.algebraic_FfOneWIdeal_FfOneWRefIdeal := by
  intro m ρ m' ρ' _ hag
  refine ⟨fun c => _, (θ_run Cert.FfOneWIdeal.defs _ _).mono (fun _ h c => ⟨(h c).1.trans (final m c), (h c).2⟩) (Cert.FfOneWIdeal.Value.run_blocks (F := Ideal) m ρ), (θ_run Cert.FfOneWRefIdeal.defs _ _).mono (fun _ h c => ?_) (Cert.FfOneWRefIdeal.Value.run (F := Ideal) m' ρ')⟩
  obtain ⟨h0, hk⟩ := h c
  obtain ⟨a0, a1⟩ := hag c
  rw [a0, a1] at h0
  exact ⟨h0, hk⟩

end Cert.Proof.FfOneWClaims

end
-- ==== Proof.OutWVal.lean ====
/-
  The gradient of the output projection's weight: the result array as a function of the arguments, and the reference's, equal at the ideal instance.
-/
module

public import proofs.«01_k».proof.Defs
public import proofs.«01_k».proof.Proof.Gen.OutW.Frame
public import proofs.«01_k».proof.Proof.Gen.OutWIdeal.Value
public import proofs.«01_k».proof.Proof.Gen.OutWRefIdeal.Run
public import proofs.«01_k».proof.Proof.Gen.OutWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.OutWIdeal.Val

open Cert.OutWIdeal Cert.OutWIdeal.Gen Cert.OutWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6]
  first
  | (blk_point [iblk, V, idx0 t, idx1 t, idx2 t]; done)
  | (refine (Finset.sum_congr rfl fun k _ => mul_comm (G := EReal) _ _).trans ?_
     blk_point [iblk, V, idx0 t, idx1 t, idx2 t])

end Cert.OutWIdeal.Val

namespace Cert.Proof.OutWClaims

theorem frame_k : Cert.quiescent_OutW := fun m ρ _ => Cert.OutW.Gen.frame m ρ
theorem frame_i : Cert.quiescent_OutWIdeal := fun m ρ _ => Cert.OutWIdeal.Gen.frame m ρ
theorem frame_r : Cert.quiescent_OutWRefIdeal := fun m ρ _ =>
  (θ_run Cert.OutWRefIdeal.defs _ _).mono (fun r h => ⟨fun c => (h c).2,
      Idealize.ShloMosaic.sem_eq_zero_of_no_sems (by decide) r.2⟩)
    (Cert.OutWRefIdeal.Value.run (F := Ideal) m ρ)

open Cert.OutWIdeal.Val in
/-- The kernel's result array is the reference's, as a function of the arguments. -/
theorem algebraic : Cert.algebraic_OutWIdeal_OutWRefIdeal := by
  intro m ρ m' ρ' _ hag
  refine ⟨fun c => _, (θ_run Cert.OutWIdeal.defs _ _).mono (fun _ h c => ⟨(h c).1.trans (final m c), (h c).2⟩) (Cert.OutWIdeal.Value.run_blocks (F := Ideal) m ρ), (θ_run Cert.OutWRefIdeal.defs _ _).mono (fun _ h c => ?_) (Cert.OutWRefIdeal.Value.run (F := Ideal) m' ρ')⟩
  obtain ⟨h0, hk⟩ := h c
  obtain ⟨a0, a1⟩ := hag c
  rw [a0, a1] at h0
  exact ⟨h0, hk⟩

end Cert.Proof.OutWClaims

end
-- ==== Proof.UpWVal.lean ====
/-
  The gradient of an up-projection's weight (attention and recurrence paths): the result array as a function of the arguments, and the reference's, equal at the ideal instance.
-/
module

public import proofs.«01_k».proof.Defs
public import proofs.«01_k».proof.Proof.Gen.UpW.Frame
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpWIdeal.Val

open Cert.UpWIdeal Cert.UpWIdeal.Gen Cert.UpWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpWIdeal.Val

namespace Cert.Proof.UpWClaims

theorem frame_k : Cert.quiescent_UpW := fun m ρ _ => Cert.UpW.Gen.frame m ρ
theorem frame_i : Cert.quiescent_UpWIdeal := fun m ρ _ => Cert.UpWIdeal.Gen.frame m ρ
theorem frame_r : Cert.quiescent_UpWRefIdeal := fun m ρ _ =>
  (θ_run Cert.UpWRefIdeal.defs _ _).mono (fun r h => ⟨fun c => (h c).2,
      Idealize.ShloMosaic.sem_eq_zero_of_no_sems (by decide) r.2⟩)
    (Cert.UpWRefIdeal.Value.run (F := Ideal) m ρ)

open Cert.UpWIdeal.Val in
/-- The kernel's result array is the reference's, as a function of the arguments. -/
theorem algebraic : Cert.algebraic_UpWIdeal_UpWRefIdeal := by
  intro m ρ m' ρ' _ hag
  refine ⟨fun c => _, (θ_run Cert.UpWIdeal.defs _ _).mono (fun _ h c => ⟨(h c).1.trans (final m c), (h c).2⟩) (Cert.UpWIdeal.Value.run_blocks (F := Ideal) m ρ), (θ_run Cert.UpWRefIdeal.defs _ _).mono (fun _ h c => ?_) (Cert.UpWRefIdeal.Value.run (F := Ideal) m' ρ')⟩
  obtain ⟨h0, hk⟩ := h c
  obtain ⟨a0, a1⟩ := hag c
  rw [a0, a1] at h0
  exact ⟨h0, hk⟩

end Cert.Proof.UpWClaims

end
-- ==== Proof.UpPoolWVal.lean ====
/-
  The gradient of the pooling path's up-projection weight: the result array as a function of the arguments, and the reference's, equal at the ideal instance.
-/
module

public import proofs.«01_k».proof.Defs
public import proofs.«01_k».proof.Proof.Gen.UpPoolW.Frame
public import proofs.«01_k».proof.Proof.Gen.UpPoolWIdeal.Value
public import proofs.«01_k».proof.Proof.Gen.UpPoolWRefIdeal.Run
public import proofs.«01_k».proof.Proof.Gen.UpPoolWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpPoolWIdeal.Val

open Cert.UpPoolWIdeal Cert.UpPoolWIdeal.Gen Cert.UpPoolWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpPoolWIdeal.Val

namespace Cert.Proof.UpPoolWClaims

theorem frame_k : Cert.quiescent_UpPoolW := fun m ρ _ => Cert.UpPoolW.Gen.frame m ρ
theorem frame_i : Cert.quiescent_UpPoolWIdeal := fun m ρ _ => Cert.UpPoolWIdeal.Gen.frame m ρ
theorem frame_r : Cert.quiescent_UpPoolWRefIdeal := fun m ρ _ =>
  (θ_run Cert.UpPoolWRefIdeal.defs _ _).mono (fun r h => ⟨fun c => (h c).2,
      Idealize.ShloMosaic.sem_eq_zero_of_no_sems (by decide) r.2⟩)
    (Cert.UpPoolWRefIdeal.Value.run (F := Ideal) m ρ)

open Cert.UpPoolWIdeal.Val in
/-- The kernel's result array is the reference's, as a function of the arguments. -/
theorem algebraic : Cert.algebraic_UpPoolWIdeal_UpPoolWRefIdeal := by
  intro m ρ m' ρ' _ hag
  refine ⟨fun c => _, (θ_run Cert.UpPoolWIdeal.defs _ _).mono (fun _ h c => ⟨(h c).1.trans (final m c), (h c).2⟩) (Cert.UpPoolWIdeal.Value.run_blocks (F := Ideal) m ρ), (θ_run Cert.UpPoolWRefIdeal.defs _ _).mono (fun _ h c => ?_) (Cert.UpPoolWRefIdeal.Value.run (F := Ideal) m' ρ')⟩
  obtain ⟨h0, hk⟩ := h c
  obtain ⟨a0, a1⟩ := hag c
  rw [a0, a1] at h0
  exact ⟨h0, hk⟩

end Cert.Proof.UpPoolWClaims

end
-- ==== Proof.InWVal.lean ====
/-
  The gradient of the input projection's weight: the result array as a function of the arguments, and the reference's, equal at the ideal instance.
-/
module

public import proofs.«01_k».proof.Defs
public import proofs.«01_k».proof.Proof.Gen.InW.Frame
public import proofs.«01_k».proof.Proof.Gen.InWIdeal.Value
public import proofs.«01_k».proof.Proof.Gen.InWRefIdeal.Run
public import proofs.«01_k».proof.Proof.Gen.InWRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.InWIdeal.Val

open Cert.InWIdeal Cert.InWIdeal.Gen Cert.InWRefIdeal.Read

variable (m : (ℓ : Loc nD τ sig) → Buf (Elt Ideal) ℓ) (ρ : Dev nD → PrngReg)

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5, val_main_v6, val_main_v7, val_main_v8]
  first
  | (blk_point [iblk, V, idx0 t, idx1 t, idx2 t]; done)
  | (refine (Finset.sum_congr rfl fun k _ => mul_comm (G := EReal) _ _).trans ?_
     blk_point [iblk, V, idx0 t, idx1 t, idx2 t])

end Cert.InWIdeal.Val

namespace Cert.Proof.InWClaims

theorem frame_k : Cert.quiescent_InW := fun m ρ _ => Cert.InW.Gen.frame m ρ
theorem frame_i : Cert.quiescent_InWIdeal := fun m ρ _ => Cert.InWIdeal.Gen.frame m ρ
theorem frame_r : Cert.quiescent_InWRefIdeal := fun m ρ _ =>
  (θ_run Cert.InWRefIdeal.defs _ _).mono (fun r h => ⟨fun c => (h c).2,
      Idealize.ShloMosaic.sem_eq_zero_of_no_sems (by decide) r.2⟩)
    (Cert.InWRefIdeal.Value.run (F := Ideal) m ρ)

open Cert.InWIdeal.Val in
/-- The kernel's result array is the reference's, as a function of the arguments. -/
theorem algebraic : Cert.algebraic_InWIdeal_InWRefIdeal := by
  intro m ρ m' ρ' _ hag
  refine ⟨fun c => _, (θ_run Cert.InWIdeal.defs _ _).mono (fun _ h c => ⟨(h c).1.trans (final m c), (h c).2⟩) (Cert.InWIdeal.Value.run_blocks (F := Ideal) m ρ), (θ_run Cert.InWRefIdeal.defs _ _).mono (fun _ h c => ?_) (Cert.InWRefIdeal.Value.run (F := Ideal) m' ρ')⟩
  obtain ⟨h0, hk⟩ := h c
  obtain ⟨a0, a1⟩ := hag c
  rw [a0, a1] at h0
  exact ⟨h0, hk⟩

end Cert.Proof.InWClaims

end
-- ==== Proof.OutXVal.lean ====
/-
  The output projection's gradient with respect to its input: the result array as a function of the arguments, and the reference's, equal at the ideal instance.
-/
module

public import proofs.«01_k».proof.Defs
public import proofs.«01_k».proof.Proof.Gen.OutX.Frame
public import proofs.«01_k».proof.Proof.Gen.OutXIdeal.Value
public import proofs.«01_k».proof.Proof.Gen.OutXRefIdeal.Run
public import proofs.«01_k».proof.Proof.Gen.OutXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.OutXIdeal.Val

open Cert.OutXIdeal Cert.OutXIdeal.Gen Cert.OutXRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5]
  first
  | (blk_point [iblk, V, idx0 t, idx1 t, idx2 t]; done)
  | (refine (Finset.sum_congr rfl fun k _ => mul_comm (G := EReal) _ _).trans ?_
     blk_point [iblk, V, idx0 t, idx1 t, idx2 t])

end Cert.OutXIdeal.Val

namespace Cert.Proof.OutXClaims

theorem frame_k : Cert.quiescent_OutX := fun m ρ _ => Cert.OutX.Gen.frame m ρ
theorem frame_i : Cert.quiescent_OutXIdeal := fun m ρ _ => Cert.OutXIdeal.Gen.frame m ρ
theorem frame_r : Cert.quiescent_OutXRefIdeal := fun m ρ _ =>
  (θ_run Cert.OutXRefIdeal.defs _ _).mono (fun r h => ⟨fun c => (h c).2,
      Idealize.ShloMosaic.sem_eq_zero_of_no_sems (by decide) r.2⟩)
    (Cert.OutXRefIdeal.Value.run (F := Ideal) m ρ)

open Cert.OutXIdeal.Val in
/-- The kernel's result array is the reference's, as a function of the arguments. -/
theorem algebraic : Cert.algebraic_OutXIdeal_OutXRefIdeal := by
  intro m ρ m' ρ' _ hag
  refine ⟨fun c => _, (θ_run Cert.OutXIdeal.defs _ _).mono (fun _ h c => ⟨(h c).1.trans (final m c), (h c).2⟩) (Cert.OutXIdeal.Value.run_blocks (F := Ideal) m ρ), (θ_run Cert.OutXRefIdeal.defs _ _).mono (fun _ h c => ?_) (Cert.OutXRefIdeal.Value.run (F := Ideal) m' ρ')⟩
  obtain ⟨h0, hk⟩ := h c
  obtain ⟨a0, a1⟩ := hag c
  rw [a0, a1] at h0
  exact ⟨h0, hk⟩

end Cert.Proof.OutXClaims

end
-- ==== Proof.UpXVal.lean ====
/-
  An up-projection's gradient with respect to its input (attention and recurrence paths): the result array as a function of the arguments, and the reference's, equal at the ideal instance.
-/
module

public import proofs.«01_k».proof.Defs
public import proofs.«01_k».proof.Proof.Gen.UpX.Frame
public import proofs.«01_k».proof.Proof.Gen.UpXIdeal.Value
public import proofs.«01_k».proof.Proof.Gen.UpXRefIdeal.Run
public import proofs.«01_k».proof.Proof.Gen.UpXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpXIdeal.Val

open Cert.UpXIdeal Cert.UpXIdeal.Gen Cert.UpXRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpXIdeal.Val

namespace Cert.Proof.UpXClaims

theorem frame_k : Cert.quiescent_UpX := fun m ρ _ => Cert.UpX.Gen.frame m ρ
theorem frame_i : Cert.quiescent_UpXIdeal := fun m ρ _ => Cert.UpXIdeal.Gen.frame m ρ
theorem frame_r : Cert.quiescent_UpXRefIdeal := fun m ρ _ =>
  (θ_run Cert.UpXRefIdeal.defs _ _).mono (fun r h => ⟨fun c => (h c).2,
      Idealize.ShloMosaic.sem_eq_zero_of_no_sems (by decide) r.2⟩)
    (Cert.UpXRefIdeal.Value.run (F := Ideal) m ρ)

open Cert.UpXIdeal.Val in
/-- The kernel's result array is the reference's, as a function of the arguments. -/
theorem algebraic : Cert.algebraic_UpXIdeal_UpXRefIdeal := by
  intro m ρ m' ρ' _ hag
  refine ⟨fun c => _, (θ_run Cert.UpXIdeal.defs _ _).mono (fun _ h c => ⟨(h c).1.trans (final m c), (h c).2⟩) (Cert.UpXIdeal.Value.run_blocks (F := Ideal) m ρ), (θ_run Cert.UpXRefIdeal.defs _ _).mono (fun _ h c => ?_) (Cert.UpXRefIdeal.Value.run (F := Ideal) m' ρ')⟩
  obtain ⟨h0, hk⟩ := h c
  obtain ⟨a0, a1⟩ := hag c
  rw [a0, a1] at h0
  exact ⟨h0, hk⟩

end Cert.Proof.UpXClaims

end
-- ==== Proof.UpPoolXVal.lean ====
/-
  The pooling path's up-projection's gradient with respect to its input: the result array as a function of the arguments, and the reference's, equal at the ideal instance.
-/
module

public import proofs.«01_k».proof.Defs
public import proofs.«01_k».proof.Proof.Gen.UpPoolX.Frame
public import proofs.«01_k».proof.Proof.Gen.UpPoolXIdeal.Value
public import proofs.«01_k».proof.Proof.Gen.UpPoolXRefIdeal.Run
public import proofs.«01_k».proof.Proof.Gen.UpPoolXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpPoolXIdeal.Val

open Cert.UpPoolXIdeal Cert.UpPoolXIdeal.Gen Cert.UpPoolXRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_cst, val_main_v0, val_main_v1, val_main_v2, val_main_v3, val_main_v4, val_main_v5]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpPoolXIdeal.Val

namespace Cert.Proof.UpPoolXClaims

theorem frame_k : Cert.quiescent_UpPoolX := fun m ρ _ => Cert.UpPoolX.Gen.frame m ρ
theorem frame_i : Cert.quiescent_UpPoolXIdeal := fun m ρ _ => Cert.UpPoolXIdeal.Gen.frame m ρ
theorem frame_r : Cert.quiescent_UpPoolXRefIdeal := fun m ρ _ =>
  (θ_run Cert.UpPoolXRefIdeal.defs _ _).mono (fun r h => ⟨fun c => (h c).2,
      Idealize.ShloMosaic.sem_eq_zero_of_no_sems (by decide) r.2⟩)
    (Cert.UpPoolXRefIdeal.Value.run (F := Ideal) m ρ)

open Cert.UpPoolXIdeal.Val in
/-- The kernel's result array is the reference's, as a function of the arguments. -/
theorem algebraic : Cert.algebraic_UpPoolXIdeal_UpPoolXRefIdeal := by
  intro m ρ m' ρ' _ hag
  refine ⟨fun c => _, (θ_run Cert.UpPoolXIdeal.defs _ _).mono (fun _ h c => ⟨(h c).1.trans (final m c), (h c).2⟩) (Cert.UpPoolXIdeal.Value.run_blocks (F := Ideal) m ρ), (θ_run Cert.UpPoolXRefIdeal.defs _ _).mono (fun _ h c => ?_) (Cert.UpPoolXRefIdeal.Value.run (F := Ideal) m' ρ')⟩
  obtain ⟨h0, hk⟩ := h c
  obtain ⟨a0, a1⟩ := hag c
  rw [a0, a1] at h0
  exact ⟨h0, hk⟩

end Cert.Proof.UpPoolXClaims

end
-- ==== Proof.FfTwoXVal.lean ====
/-
  The gradient through the second MLP product and the squared ReLU: the result array as a function of the arguments, and the reference's, equal at the ideal instance.
-/
module

public import proofs.«01_k».proof.Defs
public import proofs.«01_k».proof.Proof.Gen.FfTwoX.Frame
public import proofs.«01_k».proof.Proof.Gen.FfTwoXIdeal.Value
public import proofs.«01_k».proof.Proof.Gen.FfTwoXRefIdeal.Run
public import proofs.«01_k».proof.Proof.Gen.FfTwoXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfTwoXIdeal.Val

open Cert.FfTwoXIdeal Cert.FfTwoXIdeal.Gen Cert.FfTwoXRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)

/-- The square root of a square of something not negative. -/
theorem sqrt_sq {x : EReal} (h : 0 ≤ x) : Idealize.ShloMosaic.Ideal.sqrt (x * x) = x := by
  induction x using EReal.rec with
  | bot => simp at h
  | top => simp [EReal.top_mul_top]
  | coe r =>
    have hr : 0 ≤ r := by exact_mod_cast h
    rw [← EReal.coe_mul, Idealize.ShloMosaic.Ideal.sqrt_coe, if_neg (not_lt.2 (mul_nonneg hr hr)), Real.sqrt_mul_self hr]

/-- The saved activation: the squared positive part of the pre-activation. -/
theorem V_h2 (c : Dev nD) (i : S2048x8192.Idx) : V m c main_v2 i
    = HMul.hMul (α := EReal) (β := EReal) (γ := EReal) (max (m ((c : Thread nD τ).loc main_arg2) i : EReal) 0) (max (m ((c : Thread nD τ).loc main_arg2) i : EReal) 0) := by
  dsimp only [V]
  simp only [hostOps0, hostOps0_1, List.flatten_cons, List.flatten_nil, List.append_nil, List.cons_append, List.nil_append]
  after_results
  show truncf (F := Ideal) .bf16 (mulf
      (maximumf (m ((c : Thread nD τ).loc main_arg2) : FVec Ideal S2048x8192 .f32) (broadcastInDim S2048x8192 ![] bcast_S_S2048x8192 (constant S_ .f32 0x00000000#32)))
      (maximumf (m ((c : Thread nD τ).loc main_arg2) : FVec Ideal S2048x8192 .f32) (broadcastInDim S2048x8192 ![] bcast_S_S2048x8192 (constant S_ .f32 0x00000000#32)))) bitsLt_bf16_f32 i = _
  pointwise []

set_option maxHeartbeats 1000000 in
theorem final (c : Dev nD) : (dats m 0 c).arrAt 3 cfg0.N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  pointwise [val_main_call0_cst, val_main_call0_v0, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14]
  have e2 : (iblk m c 2 t y : EReal)
      = HMul.hMul (α := EReal) (β := EReal) (γ := EReal) (max (m ((c : Thread nD τ).loc main_arg2) (((View.whole main_v3).slice (win0_3.rect t)).emb y) : EReal) 0) (max (m ((c : Thread nD τ).loc main_arg2) (((View.whole main_v3).slice (win0_3.rect t)).emb y) : EReal) 0) := by
    refine (V_h2 m c _).trans ?_
    blk_point [idx0 t, idx1 t, idx2 t, idx3 t]
  rw [e2, sqrt_sq (le_max_right _ _)]
  split_ifs with h0
  · blk_point [iblk, V_main_arg0, V_main_arg1, idx0 t, idx1 t, idx2 t, idx3 t]
  · rw [max_eq_right (not_lt.1 h0)]
    simp

end Cert.FfTwoXIdeal.Val

namespace Cert.Proof.FfTwoXClaims

theorem frame_k : Cert.quiescent_FfTwoX := fun m ρ _ => Cert.FfTwoX.Gen.frame m ρ
theorem frame_i : Cert.quiescent_FfTwoXIdeal := fun m ρ _ => Cert.FfTwoXIdeal.Gen.frame m ρ
theorem frame_r : Cert.quiescent_FfTwoXRefIdeal := fun m ρ _ =>
  (θ_run Cert.FfTwoXRefIdeal.defs _ _).mono (fun r h => ⟨fun c => (h c).2,
      Idealize.ShloMosaic.sem_eq_zero_of_no_sems (by decide) r.2⟩)
    (Cert.FfTwoXRefIdeal.Value.run (F := Ideal) m ρ)

open Cert.FfTwoXIdeal.Val in
/-- The kernel's result array is the reference's, as a function of the arguments. -/
theorem algebraic : Cert.algebraic_FfTwoXIdeal_FfTwoXRefIdeal := by
  intro m ρ m' ρ' _ hag
  refine ⟨fun c => _, (θ_run Cert.FfTwoXIdeal.defs _ _).mono (fun _ h c => ⟨(h c).1.trans (final m c), (h c).2⟩) (Cert.FfTwoXIdeal.Value.run_blocks (F := Ideal) m ρ), (θ_run Cert.FfTwoXRefIdeal.defs _ _).mono (fun _ h c => ?_) (Cert.FfTwoXRefIdeal.Value.run (F := Ideal) m' ρ')⟩
  obtain ⟨h0, hk⟩ := h c
  obtain ⟨a0, a1, a2⟩ := hag c
  rw [a0, a1, a2] at h0
  exact ⟨h0, hk⟩

end Cert.Proof.FfTwoXClaims

end
-- ==== Proof.FfOneXVal.lean ====
/-
  The first MLP product's gradient with respect to its input: the result array as a function of the arguments, and the reference's, equal at the ideal instance.
-/
module

public import proofs.«01_k».proof.Defs
public import proofs.«01_k».proof.Proof.Gen.FfOneX.Frame
public import proofs.«01_k».proof.Proof.Gen.FfOneXIdeal.Value
public import proofs.«01_k».proof.Proof.Gen.FfOneXRefIdeal.Run
public import proofs.«01_k».proof.Proof.Gen.FfOneXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfOneXIdeal.Val

open Cert.FfOneXIdeal Cert.FfOneXIdeal.Gen Cert.FfOneXRefIdeal.Read

variable (m : (ℓ : Loc nD τ sig) → Buf (Elt Ideal) ℓ) (ρ : Dev nD → PrngReg)

theorem idx0 : ∀ t : Fin cfg0.N, win0_0.index t = ![t.val / 8, t.val % 4] := (by decide +kernel : ∀ t : Fin grid0.N, _)
theorem idx1 : ∀ t : Fin cfg0.N, win0_1.index t = ![t.val / 4 % 2, t.val % 4] := (by decide +kernel : ∀ t : Fin grid0.N, _)
theorem idx2 : ∀ t : Fin cfg0.N, win0_2.index t = ![t.val / 8, t.val / 4 % 2] := (by decide +kernel : ∀ t : Fin grid0.N, _)

/-- The accumulator read back whole. -/
theorem scratch_read (X : Vec Ideal S1024x1024 .f32) :
    View.read (Elt Ideal) (View.whole cc0_scratch0) ((Memref.isWhole_whole cc0_scratch0).unread X) = X :=
  Memref.IsWhole.read_unread _ _

/-- What one point adds to its block. -/
def term (c : Dev nD) (t : Fin cfg0.N) (j : S1024x1024.Idx) : EReal :=
  ∑ k : Fin 2048, HMul.hMul (α := EReal) (β := EReal) (γ := EReal) (iblk m c 0 t (ix2 (j 0) k)) (iblk m c 1 t (ix2 (j 1) k))

theorem rowA (c : Dev nD) (t : Fin cfg0.N) (h : t.val % 4 = 0) (j : S1024x1024.Idx) :
    (outsAt0 m c t.val t.isLt).2 j = (0 : EReal) + term m c t j := by
  rw [outsAt0_A m c t h (by omega) (by omega)]
  dsimp only
  unfold term
  frame_out
  unfold_payloads
  pointwise []

theorem rowB (c : Dev nD) (t : Fin cfg0.N) (h : ¬ t.val % 4 = 0) (h1 : ¬ t.val % 4 = 3) (j : S1024x1024.Idx) :
    (outsAt0 m c t.val t.isLt).2 j = ((outsAt0 m c (t.val - 1) (Nat.lt_of_le_of_lt (Nat.sub_le _ _) t.isLt)).2 j : EReal) + term m c t j := by
  rw [outsAt0_B m c t h (by omega) (by omega)]
  dsimp only
  unfold term
  frame_out
  rw [scratch_read]
  unfold_payloads
  pointwise []

theorem rowC (c : Dev nD) (t : Fin cfg0.N) (h : t.val % 4 = 3) (j : S1024x1024.Idx) :
    (outsAt0 m c t.val t.isLt).1 j = ((outsAt0 m c (t.val - 1) (Nat.lt_of_le_of_lt (Nat.sub_le _ _) t.isLt)).2 j : EReal) + term m c t j := by
  rw [outsAt0_C m c t (by omega) (by omega) h]
  dsimp only
  unfold term
  frame_out
  rw [scratch_read]
  unfold_payloads
  pointwise []

/-- The accumulator's value after a point, the last point of a run included. -/
def acc (c : Dev nD) (n : ℕ) (hn : n < cfg0.N) (j : S1024x1024.Idx) : EReal :=
  if n % 4 = 3 then ((outsAt0 m c (n - 1) (Nat.lt_of_le_of_lt (Nat.sub_le _ _) hn)).2 j : EReal) + term m c ⟨n, hn⟩ j
  else (outsAt0 m c n hn).2 j

theorem acc_flush (c : Dev nD) (t : Fin cfg0.N) (h : t.val % 4 = 3) (j : S1024x1024.Idx) :
    (outsAt0 m c t.val t.isLt).1 j
      = (0 : EReal) + ∑ s : Fin 4, term m c ⟨4 * (t.val / 4) + s.val, Pipeline.run_point_lt_of_flush t h s⟩ j := by
  rw [rowC m c t h, ← Pipeline.eq_sum_fin_of_reset_step_apply_of_flush (fun n h => acc m c n h) 4 (fun _ => (0 : EReal)) (fun t j => term m c t j)
    (fun t h j => by unfold acc; rw [if_neg (by omega), rowA m c t h j])
    (fun t h j => by
      unfold acc
      rw [if_neg (c := (t.val - 1) % 4 = 3) (by omega)]
      by_cases h1 : t.val % 4 = 3
      · rw [if_pos h1]
      · rw [if_neg h1, rowB m c t h h1 j]) t h j]
  dsimp only [acc]
  rw [if_pos h]

set_option maxRecDepth 4000 in
set_option maxHeartbeats 1000000 in
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2]
  refine (acc_flush m c t ht y).trans ?_
  unfold term
  pointwise [val_main_cst, val_main_v0, val_main_v1, val_main_v2, val_main_v3, val_main_v4]
  refine Fin.sum_mul_add_congr fun s k hl => ?_
  have h0 := idx0 ⟨4 * (t.val / 4) + s.val, Pipeline.run_point_lt_of_flush t ht s⟩
  have h1 := idx1 ⟨4 * (t.val / 4) + s.val, Pipeline.run_point_lt_of_flush t ht s⟩
  blk_point [iblk, V, idx0 t, idx1 t, idx2 t, h0, h1]

end Cert.FfOneXIdeal.Val

namespace Cert.Proof.FfOneXClaims

theorem frame_k : Cert.quiescent_FfOneX := fun m ρ _ => Cert.FfOneX.Gen.frame m ρ
theorem frame_i : Cert.quiescent_FfOneXIdeal := fun m ρ _ => Cert.FfOneXIdeal.Gen.frame m ρ
theorem frame_r : Cert.quiescent_FfOneXRefIdeal := fun m ρ _ =>
  (θ_run Cert.FfOneXRefIdeal.defs _ _).mono (fun r h => ⟨fun c => (h c).2,
      Idealize.ShloMosaic.sem_eq_zero_of_no_sems (by decide) r.2⟩)
    (Cert.FfOneXRefIdeal.Value.run (F := Ideal) m ρ)

open Cert.FfOneXIdeal.Val in
/-- The kernel's result array is the reference's, as a function of the arguments. -/
theorem algebraic : Cert.algebraic_FfOneXIdeal_FfOneXRefIdeal := by
  intro m ρ m' ρ' _ hag
  refine ⟨fun c => _, (θ_run Cert.FfOneXIdeal.defs _ _).mono (fun _ h c => ⟨(h c).1.trans (final m c), (h c).2⟩) (Cert.FfOneXIdeal.Value.run_blocks (F := Ideal) m ρ), (θ_run Cert.FfOneXRefIdeal.defs _ _).mono (fun _ h c => ?_) (Cert.FfOneXRefIdeal.Value.run (F := Ideal) m' ρ')⟩
  obtain ⟨h0, hk⟩ := h c
  obtain ⟨a0, a1⟩ := hag c
  rw [a0, a1] at h0
  exact ⟨h0, hk⟩

end Cert.Proof.FfOneXClaims

end
-- ==== Proof.InXVal.lean ====
/-
  The input projection's gradient with respect to its input, gate half: the result array as a function of the arguments, and the reference's, equal at the ideal instance.
-/
module

public import proofs.«01_k».proof.Defs
public import proofs.«01_k».proof.Proof.Gen.InX.Frame
public import proofs.«01_k».proof.Proof.Gen.InXIdeal.Value
public import proofs.«01_k».proof.Proof.Gen.InXRefIdeal.Run
public import proofs.«01_k».proof.Proof.Gen.InXRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.InXIdeal.Val

open Cert.InXIdeal Cert.InXIdeal.Gen Cert.InXRefIdeal.Read

variable (m : (ℓ : Loc nD τ sig) → Buf (Elt Ideal) ℓ) (ρ : Dev nD → PrngReg)

theorem idx0 : ∀ t : Fin cfg0.N, win0_0.index t = ![t.val / 6, t.val % 3] := (by decide +kernel : ∀ t : Fin grid0.N, _)
theorem idx1 : ∀ t : Fin cfg0.N, win0_1.index t = ![t.val % 3, t.val / 3 % 2] := (by decide +kernel : ∀ t : Fin grid0.N, _)
theorem idx2 : ∀ t : Fin cfg0.N, win0_2.index t = ![t.val / 6, t.val / 3 % 2] := (by decide +kernel : ∀ t : Fin grid0.N, _)
theorem idx3 : ∀ t : Fin cfg0.N, win0_3.index t = ![t.val / 6, t.val / 3 % 2] := (by decide +kernel : ∀ t : Fin grid0.N, _)

/-- The accumulator read back whole. -/
theorem scratch_read (X : Vec Ideal S1024x1024 .f32) :
    View.read (Elt Ideal) (View.whole cc0_scratch0) ((Memref.isWhole_whole cc0_scratch0).unread X) = X :=
  Memref.IsWhole.read_unread _ _

/-- What one point adds to its block. -/
def term (c : Dev nD) (t : Fin cfg0.N) (j : S1024x1024.Idx) : EReal :=
  ∑ k : Fin 2048, HMul.hMul (α := EReal) (β := EReal) (γ := EReal) (iblk m c 0 t (ix2 (j 0) k)) (iblk m c 1 t (ix2 k (j 1)))

theorem rowA (c : Dev nD) (t : Fin cfg0.N) (h : t.val % 3 = 0) (j : S1024x1024.Idx) :
    (outsAt0 m c t.val t.isLt).2 j = (0 : EReal) + term m c t j := by
  rw [outsAt0_A m c t h (by omega) (by omega)]
  dsimp only
  unfold term
  frame_out
  unfold_payloads
  pointwise []

theorem rowB (c : Dev nD) (t : Fin cfg0.N) (h : ¬ t.val % 3 = 0) (h1 : ¬ t.val % 3 = 2) (j : S1024x1024.Idx) :
    (outsAt0 m c t.val t.isLt).2 j = ((outsAt0 m c (t.val - 1) (Nat.lt_of_le_of_lt (Nat.sub_le _ _) t.isLt)).2 j : EReal) + term m c t j := by
  rw [outsAt0_B m c t h (by omega) (by omega)]
  dsimp only
  unfold term
  frame_out
  rw [scratch_read]
  unfold_payloads
  pointwise []

theorem rowC (c : Dev nD) (t : Fin cfg0.N) (h : t.val % 3 = 2) (j : S1024x1024.Idx) :
    (outsAt0 m c t.val t.isLt).1 j = HAdd.hAdd (α := EReal) (β := EReal) (γ := EReal) (((outsAt0 m c (t.val - 1) (Nat.lt_of_le_of_lt (Nat.sub_le _ _) t.isLt)).2 j : EReal) + term m c t j) (iblk m c 2 t j) := by
  rw [outsAt0_C m c t (by omega) (by omega) h]
  dsimp only
  unfold term
  frame_out
  rw [scratch_read]
  unfold_payloads
  pointwise []

/-- The accumulator's value after a point, the last point of a run included. -/
def acc (c : Dev nD) (n : ℕ) (hn : n < cfg0.N) (j : S1024x1024.Idx) : EReal :=
  if n % 3 = 2 then ((outsAt0 m c (n - 1) (Nat.lt_of_le_of_lt (Nat.sub_le _ _) hn)).2 j : EReal) + term m c ⟨n, hn⟩ j
  else (outsAt0 m c n hn).2 j

theorem acc_flush (c : Dev nD) (t : Fin cfg0.N) (h : t.val % 3 = 2) (j : S1024x1024.Idx) :
    (outsAt0 m c t.val t.isLt).1 j
      = HAdd.hAdd (α := EReal) (β := EReal) (γ := EReal) ((0 : EReal) + ∑ s : Fin 3, term m c ⟨3 * (t.val / 3) + s.val, Pipeline.run_point_lt_of_flush t h s⟩ j) (iblk m c 2 t j) := by
  rw [rowC m c t h, ← Pipeline.eq_sum_fin_of_reset_step_apply_of_flush (fun n h => acc m c n h) 3 (fun _ => (0 : EReal)) (fun t j => term m c t j)
    (fun t h j => by unfold acc; rw [if_neg (by omega), rowA m c t h j])
    (fun t h j => by
      unfold acc
      rw [if_neg (c := (t.val - 1) % 3 = 2) (by omega)]
      by_cases h1 : t.val % 3 = 2
      · rw [if_pos h1]
      · rw [if_neg h1, rowB m c t h h1 j]) t h j]
  dsimp only [acc]
  rw [if_pos h]

set_option maxRecDepth 4000 in
set_option maxHeartbeats 1000000 in
theorem final (c : Dev nD) : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 3 = 2 := (flush0_3 t).mp hf
  blk_simp
  rw [after0_3]
  refine (acc_flush m c t ht y).trans ?_
  unfold term
  pointwise [val_main_cst, val_main_v0, val_main_v1, val_main_v2, val_main_v3, val_main_v4, val_main_v5, val_main_v6]
  refine congrArg₂ (HAdd.hAdd (α := EReal) (β := EReal) (γ := EReal)) ?_ ?_
  · refine Fin.sum_mul_add_congr fun s k hl => ?_
    have h0 := idx0 ⟨3 * (t.val / 3) + s.val, Pipeline.run_point_lt_of_flush t ht s⟩
    have h1 := idx1 ⟨3 * (t.val / 3) + s.val, Pipeline.run_point_lt_of_flush t ht s⟩
    blk_point [iblk, V, idx0 t, idx1 t, idx2 t, idx3 t, h0, h1]
  · blk_point [iblk, V, idx0 t, idx1 t, idx2 t, idx3 t]

end Cert.InXIdeal.Val

namespace Cert.Proof.InXClaims

theorem frame_k : Cert.quiescent_InX := fun m ρ _ => Cert.InX.Gen.frame m ρ
theorem frame_i : Cert.quiescent_InXIdeal := fun m ρ _ => Cert.InXIdeal.Gen.frame m ρ
theorem frame_r : Cert.quiescent_InXRefIdeal := fun m ρ _ =>
  (θ_run Cert.InXRefIdeal.defs _ _).mono (fun r h => ⟨fun c => (h c).2,
      Idealize.ShloMosaic.sem_eq_zero_of_no_sems (by decide) r.2⟩)
    (Cert.InXRefIdeal.Value.run (F := Ideal) m ρ)

open Cert.InXIdeal.Val in
/-- The kernel's result array is the reference's, as a function of the arguments. -/
theorem algebraic : Cert.algebraic_InXIdeal_InXRefIdeal := by
  intro m ρ m' ρ' _ hag
  refine ⟨fun c => _, (θ_run Cert.InXIdeal.defs _ _).mono (fun _ h c => ⟨(h c).1.trans (final m c), (h c).2⟩) (Cert.InXIdeal.Value.run_blocks (F := Ideal) m ρ), (θ_run Cert.InXRefIdeal.defs _ _).mono (fun _ h c => ?_) (Cert.InXRefIdeal.Value.run (F := Ideal) m' ρ')⟩
  obtain ⟨h0, hk⟩ := h c
  obtain ⟨a0, a1, a2⟩ := hag c
  rw [a0, a1, a2] at h0
  exact ⟨h0, hk⟩

end Cert.Proof.InXClaims

end
-- ==== Proof.InFVal.lean ====
/-
  The input projection: the result array as a function of the arguments, and the reference's, equal at the ideal instance.
-/
module

public import proofs.«01_k».proof.Defs
public import proofs.«01_k».proof.Proof.Gen.InF.Frame
public import proofs.«01_k».proof.Proof.Gen.InFIdeal.Value
public import proofs.«01_k».proof.Proof.Gen.InFRefIdeal.Run
public import proofs.«01_k».proof.Proof.Gen.InFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.InFIdeal.Val

open Cert.InFIdeal Cert.InFIdeal.Gen Cert.InFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_v3]
  first
  | (blk_point [iblk, V, idx0 t, idx1 t, idx2 t]; done)
  | (refine (Finset.sum_congr rfl fun k _ => mul_comm (G := EReal) _ _).trans ?_
     blk_point [iblk, V, idx0 t, idx1 t, idx2 t])

end Cert.InFIdeal.Val

namespace Cert.Proof.InFClaims

theorem frame_k : Cert.quiescent_InF := fun m ρ _ => Cert.InF.Gen.frame m ρ
theorem frame_i : Cert.quiescent_InFIdeal := fun m ρ _ => Cert.InFIdeal.Gen.frame m ρ
theorem frame_r : Cert.quiescent_InFRefIdeal := fun m ρ _ =>
  (θ_run Cert.InFRefIdeal.defs _ _).mono (fun r h => ⟨fun c => (h c).2,
      Idealize.ShloMosaic.sem_eq_zero_of_no_sems (by decide) r.2⟩)
    (Cert.InFRefIdeal.Value.run (F := Ideal) m ρ)

open Cert.InFIdeal.Val in
/-- The kernel's result array is the reference's, as a function of the arguments. -/
theorem algebraic : Cert.algebraic_InFIdeal_InFRefIdeal := by
  intro m ρ m' ρ' _ hag
  refine ⟨fun c => _, (θ_run Cert.InFIdeal.defs _ _).mono (fun _ h c => ⟨(h c).1.trans (final m c), (h c).2⟩) (Cert.InFIdeal.Value.run_blocks (F := Ideal) m ρ), (θ_run Cert.InFRefIdeal.defs _ _).mono (fun _ h c => ?_) (Cert.InFRefIdeal.Value.run (F := Ideal) m' ρ')⟩
  obtain ⟨h0, hk⟩ := h c
  obtain ⟨a0, a1⟩ := hag c
  rw [a0, a1] at h0
  exact ⟨h0, hk⟩

end Cert.Proof.InFClaims

end
-- ==== Proof.GatesFVal.lean ====
/-
  The gate half of the input projection: the result array as a function of the arguments, and the reference's, equal at the ideal instance.
-/
module

public import proofs.«01_k».proof.Defs
public import proofs.«01_k».proof.Proof.Gen.GatesF.Frame
public import proofs.«01_k».proof.Proof.Gen.GatesFIdeal.Value
public import proofs.«01_k».proof.Proof.Gen.GatesFRefIdeal.Run
public import proofs.«01_k».proof.Proof.Gen.GatesFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.GatesFIdeal.Val

open Cert.GatesFIdeal Cert.GatesFIdeal.Gen Cert.GatesFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_v3, val_main_v4]
  first
  | (blk_point [iblk, V, idx0 t, idx1 t, idx2 t]; done)
  | (refine (Finset.sum_congr rfl fun k _ => mul_comm (G := EReal) _ _).trans ?_
     blk_point [iblk, V, idx0 t, idx1 t, idx2 t])

end Cert.GatesFIdeal.Val

namespace Cert.Proof.GatesFClaims

theorem frame_k : Cert.quiescent_GatesF := fun m ρ _ => Cert.GatesF.Gen.frame m ρ
theorem frame_i : Cert.quiescent_GatesFIdeal := fun m ρ _ => Cert.GatesFIdeal.Gen.frame m ρ
theorem frame_r : Cert.quiescent_GatesFRefIdeal := fun m ρ _ =>
  (θ_run Cert.GatesFRefIdeal.defs _ _).mono (fun r h => ⟨fun c => (h c).2,
      Idealize.ShloMosaic.sem_eq_zero_of_no_sems (by decide) r.2⟩)
    (Cert.GatesFRefIdeal.Value.run (F := Ideal) m ρ)

open Cert.GatesFIdeal.Val in
/-- The kernel's result array is the reference's, as a function of the arguments. -/
theorem algebraic : Cert.algebraic_GatesFIdeal_GatesFRefIdeal := by
  intro m ρ m' ρ' _ hag
  refine ⟨fun c => _, (θ_run Cert.GatesFIdeal.defs _ _).mono (fun _ h c => ⟨(h c).1.trans (final m c), (h c).2⟩) (Cert.GatesFIdeal.Value.run_blocks (F := Ideal) m ρ), (θ_run Cert.GatesFRefIdeal.defs _ _).mono (fun _ h c => ?_) (Cert.GatesFRefIdeal.Value.run (F := Ideal) m' ρ')⟩
  obtain ⟨h0, hk⟩ := h c
  obtain ⟨a0, a1⟩ := hag c
  rw [a0, a1] at h0
  exact ⟨h0, hk⟩

end Cert.Proof.GatesFClaims

end
-- ==== Proof.UpFVal.lean ====
/-
  An up-projection (attention and recurrence paths): the result array as a function of the arguments, and the reference's, equal at the ideal instance.
-/
module

public import proofs.«01_k».proof.Defs
public import proofs.«01_k».proof.Proof.Gen.UpF.Frame
public import proofs.«01_k».proof.Proof.Gen.UpFIdeal.Value
public import proofs.«01_k».proof.Proof.Gen.UpFRefIdeal.Run
public import proofs.«01_k».proof.Proof.Gen.UpFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpFIdeal.Val

open Cert.UpFIdeal Cert.UpFIdeal.Gen Cert.UpFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_v3]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpFIdeal.Val

namespace Cert.Proof.UpFClaims

theorem frame_k : Cert.quiescent_UpF := fun m ρ _ => Cert.UpF.Gen.frame m ρ
theorem frame_i : Cert.quiescent_UpFIdeal := fun m ρ _ => Cert.UpFIdeal.Gen.frame m ρ
theorem frame_r : Cert.quiescent_UpFRefIdeal := fun m ρ _ =>
  (θ_run Cert.UpFRefIdeal.defs _ _).mono (fun r h => ⟨fun c => (h c).2,
      Idealize.ShloMosaic.sem_eq_zero_of_no_sems (by decide) r.2⟩)
    (Cert.UpFRefIdeal.Value.run (F := Ideal) m ρ)

open Cert.UpFIdeal.Val in
/-- The kernel's result array is the reference's, as a function of the arguments. -/
theorem algebraic : Cert.algebraic_UpFIdeal_UpFRefIdeal := by
  intro m ρ m' ρ' _ hag
  refine ⟨fun c => _, (θ_run Cert.UpFIdeal.defs _ _).mono (fun _ h c => ⟨(h c).1.trans (final m c), (h c).2⟩) (Cert.UpFIdeal.Value.run_blocks (F := Ideal) m ρ), (θ_run Cert.UpFRefIdeal.defs _ _).mono (fun _ h c => ?_) (Cert.UpFRefIdeal.Value.run (F := Ideal) m' ρ')⟩
  obtain ⟨h0, hk⟩ := h c
  obtain ⟨a0, a1⟩ := hag c
  rw [a0, a1] at h0
  exact ⟨h0, hk⟩

end Cert.Proof.UpFClaims

end
-- ==== Proof.UpPoolFVal.lean ====
/-
  The pooling path's up-projection: the result array as a function of the arguments, and the reference's, equal at the ideal instance.
-/
module

public import proofs.«01_k».proof.Defs
public import proofs.«01_k».proof.Proof.Gen.UpPoolF.Frame
public import proofs.«01_k».proof.Proof.Gen.UpPoolFIdeal.Value
public import proofs.«01_k».proof.Proof.Gen.UpPoolFRefIdeal.Run
public import proofs.«01_k».proof.Proof.Gen.UpPoolFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpPoolFIdeal.Val

open Cert.UpPoolFIdeal Cert.UpPoolFIdeal.Gen Cert.UpPoolFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_v3]
  first
  | (blk_point [iblk, V, idx0 t, idx1 t, idx2 t]; done)
  | (refine (Finset.sum_congr rfl fun k _ => mul_comm (G := EReal) _ _).trans ?_
     blk_point [iblk, V, idx0 t, idx1 t, idx2 t])

end Cert.UpPoolFIdeal.Val

namespace Cert.Proof.UpPoolFClaims

theorem frame_k : Cert.quiescent_UpPoolF := fun m ρ _ => Cert.UpPoolF.Gen.frame m ρ
theorem frame_i : Cert.quiescent_UpPoolFIdeal := fun m ρ _ => Cert.UpPoolFIdeal.Gen.frame m ρ
theorem frame_r : Cert.quiescent_UpPoolFRefIdeal := fun m ρ _ =>
  (θ_run Cert.UpPoolFRefIdeal.defs _ _).mono (fun r h => ⟨fun c => (h c).2,
      Idealize.ShloMosaic.sem_eq_zero_of_no_sems (by decide) r.2⟩)
    (Cert.UpPoolFRefIdeal.Value.run (F := Ideal) m ρ)

open Cert.UpPoolFIdeal.Val in
/-- The kernel's result array is the reference's, as a function of the arguments. -/
theorem algebraic : Cert.algebraic_UpPoolFIdeal_UpPoolFRefIdeal := by
  intro m ρ m' ρ' _ hag
  refine ⟨fun c => _, (θ_run Cert.UpPoolFIdeal.defs _ _).mono (fun _ h c => ⟨(h c).1.trans (final m c), (h c).2⟩) (Cert.UpPoolFIdeal.Value.run_blocks (F := Ideal) m ρ), (θ_run Cert.UpPoolFRefIdeal.defs _ _).mono (fun _ h c => ?_) (Cert.UpPoolFRefIdeal.Value.run (F := Ideal) m' ρ')⟩
  obtain ⟨h0, hk⟩ := h c
  obtain ⟨a0, a1⟩ := hag c
  rw [a0, a1] at h0
  exact ⟨h0, hk⟩

end Cert.Proof.UpPoolFClaims

end
-- ==== Proof.OutFVal.lean ====
/-
  The output projection with its residual: the result array as a function of the arguments, and the reference's, equal at the ideal instance.
-/
module

public import proofs.«01_k».proof.Defs
public import proofs.«01_k».proof.Proof.Gen.OutF.Frame
public import proofs.«01_k».proof.Proof.Gen.OutFIdeal.Value
public import proofs.«01_k».proof.Proof.Gen.OutFRefIdeal.Run
public import proofs.«01_k».proof.Proof.Gen.OutFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.OutFIdeal.Val

open Cert.OutFIdeal Cert.OutFIdeal.Gen Cert.OutFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)

set_option maxHeartbeats 1000000 in
theorem final (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  pointwise [val_main_v0, val_main_v1, val_main_v2, val_main_v3]
  first
  | (blk_point [iblk, V, idx0 t, idx1 t, idx2 t, idx3 t]; done)
  | (refine (Finset.sum_congr rfl fun k _ => mul_comm (G := EReal) _ _).trans ?_
     blk_point [iblk, V, idx0 t, idx1 t, idx2 t, idx3 t])

end Cert.OutFIdeal.Val

namespace Cert.Proof.OutFClaims

theorem frame_k : Cert.quiescent_OutF := fun m ρ _ => Cert.OutF.Gen.frame m ρ
theorem frame_i : Cert.quiescent_OutFIdeal := fun m ρ _ => Cert.OutFIdeal.Gen.frame m ρ
theorem frame_r : Cert.quiescent_OutFRefIdeal := fun m ρ _ =>
  (θ_run Cert.OutFRefIdeal.defs _ _).mono (fun r h => ⟨fun c => (h c).2,
      Idealize.ShloMosaic.sem_eq_zero_of_no_sems (by decide) r.2⟩)
    (Cert.OutFRefIdeal.Value.run (F := Ideal) m ρ)

open Cert.OutFIdeal.Val in
/-- The kernel's result array is the reference's, as a function of the arguments. -/
theorem algebraic : Cert.algebraic_OutFIdeal_OutFRefIdeal := by
  intro m ρ m' ρ' _ hag
  refine ⟨fun c => _, (θ_run Cert.OutFIdeal.defs _ _).mono (fun _ h c => ⟨(h c).1.trans (final m c), (h c).2⟩) (Cert.OutFIdeal.Value.run_blocks (F := Ideal) m ρ), (θ_run Cert.OutFRefIdeal.defs _ _).mono (fun _ h c => ?_) (Cert.OutFRefIdeal.Value.run (F := Ideal) m' ρ')⟩
  obtain ⟨h0, hk⟩ := h c
  obtain ⟨a0, a1, a2⟩ := hag c
  rw [a0, a1, a2] at h0
  exact ⟨h0, hk⟩

end Cert.Proof.OutFClaims

end
-- ==== Proof.FfOneFVal.lean ====
/-
  The first MLP product with the squared ReLU: the result array as a function of the arguments, and the reference's, equal at the ideal instance.
-/
module

public import proofs.«01_k».proof.Defs
public import proofs.«01_k».proof.Proof.Gen.FfOneF.Frame
public import proofs.«01_k».proof.Proof.Gen.FfOneFIdeal.Value
public import proofs.«01_k».proof.Proof.Gen.FfOneFRefIdeal.Run
public import proofs.«01_k».proof.Proof.Gen.FfOneFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfOneFIdeal.Val

open Cert.FfOneFIdeal Cert.FfOneFIdeal.Gen Cert.FfOneFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

set_option maxHeartbeats 1000000 in
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_call0_cst, val_main_call0_v0, val_main_v3, val_main_v4, val_main_v5]
  first
  | (blk_point [iblk, V, idx0 t, idx1 t, idx2 t]; done)
  | (refine (Finset.sum_congr rfl fun k _ => mul_comm (G := EReal) _ _).trans ?_
     blk_point [iblk, V, idx0 t, idx1 t, idx2 t])

end Cert.FfOneFIdeal.Val

namespace Cert.Proof.FfOneFClaims

theorem frame_k : Cert.quiescent_FfOneF := fun m ρ _ => Cert.FfOneF.Gen.frame m ρ
theorem frame_i : Cert.quiescent_FfOneFIdeal := fun m ρ _ => Cert.FfOneFIdeal.Gen.frame m ρ
theorem frame_r : Cert.quiescent_FfOneFRefIdeal := fun m ρ _ =>
  (θ_run Cert.FfOneFRefIdeal.defs _ _).mono (fun r h => ⟨fun c => (h c).2,
      Idealize.ShloMosaic.sem_eq_zero_of_no_sems (by decide) r.2⟩)
    (Cert.FfOneFRefIdeal.Value.run (F := Ideal) m ρ)

open Cert.FfOneFIdeal.Val in
/-- The kernel's result array is the reference's, as a function of the arguments. -/
theorem algebraic : Cert.algebraic_FfOneFIdeal_FfOneFRefIdeal := by
  intro m ρ m' ρ' _ hag
  refine ⟨fun c => _, (θ_run Cert.FfOneFIdeal.defs _ _).mono (fun _ h c => ⟨(h c).1.trans (final m c), (h c).2⟩) (Cert.FfOneFIdeal.Value.run_blocks (F := Ideal) m ρ), (θ_run Cert.FfOneFRefIdeal.defs _ _).mono (fun _ h c => ?_) (Cert.FfOneFRefIdeal.Value.run (F := Ideal) m' ρ')⟩
  obtain ⟨h0, hk⟩ := h c
  obtain ⟨a0, a1⟩ := hag c
  rw [a0, a1] at h0
  exact ⟨h0, hk⟩

end Cert.Proof.FfOneFClaims

end
-- ==== Proof.FfTwoFVal.lean ====
/-
  The second MLP product with its residual: the result array as a function of the arguments, and the reference's, equal at the ideal instance.
-/
module

public import proofs.«01_k».proof.Defs
public import proofs.«01_k».proof.Proof.Gen.FfTwoF.Frame
public import proofs.«01_k».proof.Proof.Gen.FfTwoFIdeal.Value
public import proofs.«01_k».proof.Proof.Gen.FfTwoFRefIdeal.Run
public import proofs.«01_k».proof.Proof.Gen.FfTwoFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfTwoFIdeal.Val

open Cert.FfTwoFIdeal Cert.FfTwoFIdeal.Gen Cert.FfTwoFRefIdeal.Read

variable (m : (ℓ : Loc nD τ sig) → Buf (Elt Ideal) ℓ) (ρ : Dev nD → PrngReg)

theorem idx0 : ∀ t : Fin cfg0.N, win0_0.index t = ![t.val / 8, t.val % 4] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, t.val / 4 % 2] := (by decide +kernel : ∀ t : Fin grid0.N, _)
theorem idx3 : ∀ t : Fin cfg0.N, win0_3.index t = ![t.val / 8, t.val / 4 % 2] := (by decide +kernel : ∀ t : Fin grid0.N, _)

/-- The accumulator read back whole. -/
theorem scratch_read (X : Vec Ideal S1024x1024 .f32) :
    View.read (Elt Ideal) (View.whole cc0_scratch0) ((Memref.isWhole_whole cc0_scratch0).unread X) = X :=
  Memref.IsWhole.read_unread _ _

/-- What one point adds to its block. -/
def term (c : Dev nD) (t : Fin cfg0.N) (j : S1024x1024.Idx) : EReal :=
  ∑ k : Fin 2048, HMul.hMul (α := EReal) (β := EReal) (γ := EReal) (iblk m c 0 t (ix2 (j 0) k)) (iblk m c 1 t (ix2 k (j 1)))

theorem rowA (c : Dev nD) (t : Fin cfg0.N) (h : t.val % 4 = 0) (j : S1024x1024.Idx) :
    (outsAt0 m c t.val t.isLt).2 j = (0 : EReal) + term m c t j := by
  rw [outsAt0_A m c t h (by omega) (by omega)]
  dsimp only
  unfold term
  frame_out
  unfold_payloads
  pointwise []

theorem rowB (c : Dev nD) (t : Fin cfg0.N) (h : ¬ t.val % 4 = 0) (h1 : ¬ t.val % 4 = 3) (j : S1024x1024.Idx) :
    (outsAt0 m c t.val t.isLt).2 j = ((outsAt0 m c (t.val - 1) (Nat.lt_of_le_of_lt (Nat.sub_le _ _) t.isLt)).2 j : EReal) + term m c t j := by
  rw [outsAt0_B m c t h (by omega) (by omega)]
  dsimp only
  unfold term
  frame_out
  rw [scratch_read]
  unfold_payloads
  pointwise []

theorem rowC (c : Dev nD) (t : Fin cfg0.N) (h : t.val % 4 = 3) (j : S1024x1024.Idx) :
    (outsAt0 m c t.val t.isLt).1 j = HAdd.hAdd (α := EReal) (β := EReal) (γ := EReal) (((outsAt0 m c (t.val - 1) (Nat.lt_of_le_of_lt (Nat.sub_le _ _) t.isLt)).2 j : EReal) + term m c t j) (iblk m c 2 t j) := by
  rw [outsAt0_C m c t (by omega) (by omega) h]
  dsimp only
  unfold term
  frame_out
  rw [scratch_read]
  unfold_payloads
  pointwise []

/-- The accumulator's value after a point, the last point of a run included. -/
def acc (c : Dev nD) (n : ℕ) (hn : n < cfg0.N) (j : S1024x1024.Idx) : EReal :=
  if n % 4 = 3 then ((outsAt0 m c (n - 1) (Nat.lt_of_le_of_lt (Nat.sub_le _ _) hn)).2 j : EReal) + term m c ⟨n, hn⟩ j
  else (outsAt0 m c n hn).2 j

theorem acc_flush (c : Dev nD) (t : Fin cfg0.N) (h : t.val % 4 = 3) (j : S1024x1024.Idx) :
    (outsAt0 m c t.val t.isLt).1 j
      = HAdd.hAdd (α := EReal) (β := EReal) (γ := EReal) ((0 : EReal) + ∑ s : Fin 4, term m c ⟨4 * (t.val / 4) + s.val, Pipeline.run_point_lt_of_flush t h s⟩ j) (iblk m c 2 t j) := by
  rw [rowC m c t h, ← Pipeline.eq_sum_fin_of_reset_step_apply_of_flush (fun n h => acc m c n h) 4 (fun _ => (0 : EReal)) (fun t j => term m c t j)
    (fun t h j => by unfold acc; rw [if_neg (by omega), rowA m c t h j])
    (fun t h j => by
      unfold acc
      rw [if_neg (c := (t.val - 1) % 4 = 3) (by omega)]
      by_cases h1 : t.val % 4 = 3
      · rw [if_pos h1]
      · rw [if_neg h1, rowB m c t h h1 j]) t h j]
  dsimp only [acc]
  rw [if_pos h]

set_option maxRecDepth 4000 in
set_option maxHeartbeats 1000000 in
theorem final (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 4 = 3 := (flush0_3 t).mp hf
  blk_simp
  rw [after0_3]
  refine (acc_flush m c t ht y).trans ?_
  unfold term
  pointwise [val_main_v0, val_main_v1, val_main_v2, val_main_v3]
  refine (add_comm (G := EReal) _ _).trans ?_
  refine congrArg₂ (HAdd.hAdd (α := EReal) (β := EReal) (γ := EReal)) ?_ ?_
  · blk_point [iblk, V, idx0 t, idx1 t, idx2 t, idx3 t]
  · refine Fin.sum_mul_add_congr fun s k hl => ?_
    have h0 := idx0 ⟨4 * (t.val / 4) + s.val, Pipeline.run_point_lt_of_flush t ht s⟩
    have h1 := idx1 ⟨4 * (t.val / 4) + s.val, Pipeline.run_point_lt_of_flush t ht s⟩
    blk_point [iblk, V, idx0 t, idx1 t, idx2 t, idx3 t, h0, h1]

end Cert.FfTwoFIdeal.Val

namespace Cert.Proof.FfTwoFClaims

theorem frame_k : Cert.quiescent_FfTwoF := fun m ρ _ => Cert.FfTwoF.Gen.frame m ρ
theorem frame_i : Cert.quiescent_FfTwoFIdeal := fun m ρ _ => Cert.FfTwoFIdeal.Gen.frame m ρ
theorem frame_r : Cert.quiescent_FfTwoFRefIdeal := fun m ρ _ =>
  (θ_run Cert.FfTwoFRefIdeal.defs _ _).mono (fun r h => ⟨fun c => (h c).2,
      Idealize.ShloMosaic.sem_eq_zero_of_no_sems (by decide) r.2⟩)
    (Cert.FfTwoFRefIdeal.Value.run (F := Ideal) m ρ)

open Cert.FfTwoFIdeal.Val in
/-- The kernel's result array is the reference's, as a function of the arguments. -/
theorem algebraic : Cert.algebraic_FfTwoFIdeal_FfTwoFRefIdeal := by
  intro m ρ m' ρ' _ hag
  refine ⟨fun c => _, (θ_run Cert.FfTwoFIdeal.defs _ _).mono (fun _ h c => ⟨(h c).1.trans (final m c), (h c).2⟩) (Cert.FfTwoFIdeal.Value.run_blocks (F := Ideal) m ρ), (θ_run Cert.FfTwoFRefIdeal.defs _ _).mono (fun _ h c => ?_) (Cert.FfTwoFRefIdeal.Value.run (F := Ideal) m' ρ')⟩
  obtain ⟨h0, hk⟩ := h c
  obtain ⟨a0, a1, a2⟩ := hag c
  rw [a0, a1, a2] at h0
  exact ⟨h0, hk⟩

end Cert.Proof.FfTwoFClaims

end
-- ==== Proof.RmsBVal.lean ====
/-
  The backward call of the RMS norm, with the residual added: the result array as a function of the arguments, and the reference's, equal at the ideal instance.
-/
module

public import proofs.«01_k».proof.Defs
public import proofs.«01_k».proof.Proof.Gen.RmsB.Frame
public import proofs.«01_k».proof.Proof.Gen.RmsBIdeal.Value
public import proofs.«01_k».proof.Proof.Gen.RmsBRefIdeal.Run
public import proofs.«01_k».proof.Proof.Gen.RmsBRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.RmsBIdeal.Val

open Cert.RmsBIdeal Cert.RmsBIdeal.Gen Cert.RmsBRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![0, 0] := (by decide +kernel : ∀ t : Fin grid0.N, _)

theorem idxv0 : ∀ t : Fin cfg0.N, win0_0.index t = ![t.val, 0] := (by decide +kernel : ∀ t : Fin grid0.N, _)
theorem idxv1 : ∀ t : Fin cfg0.N, win0_1.index t = ![t.val, 0] := (by decide +kernel : ∀ t : Fin grid0.N, _)

/-- What one point adds to the gradient of the scale: its rows' products of the normalised row and the cotangent. -/
def term (c : Dev nD) (t : Fin cfg0.N) (j : S1x2048.Idx) : EReal :=
  ∑ x : Fin 256,
    HMul.hMul (α := EReal) (β := EReal) (γ := EReal)
      (HMul.hMul (α := EReal) (β := EReal) (γ := EReal) (iblk m c 0 t (ix2 x (j 1)))
        (Ideal.rsqrt
          (Ideal.div (∑ x_1 : Fin 2048, HMul.hMul (α := EReal) (β := EReal) (γ := EReal) (iblk m c 0 t (ix2 x x_1)) (iblk m c 0 t (ix2 x x_1)))
              (Ideal.ofBits FTy.f32 1157627904#32) +
            Ideal.ofBits FTy.f32 897988541#32)))
      (iblk m c 1 t (ix2 x (j 1)))

theorem rowA (c : Dev nD) (t : Fin cfg0.N) (h : t.val % 8 = 0) (j : S1x2048.Idx) :
    (outsAt0 m c t.val t.isLt).2.2 j = (0 : EReal) + term m c t j := by
  rw [outsAt0_A m c t h (by have : t.val < 8 := t.isLt; omega)]
  dsimp only
  unfold term
  frame_out
  unfold_payloads
  pointwise []

theorem rowB (c : Dev nD) (t : Fin cfg0.N) (h : ¬ t.val % 8 = 0) (j : S1x2048.Idx) :
    (outsAt0 m c t.val t.isLt).2.2 j
      = ((outsAt0 m c (t.val - 1) (Nat.lt_of_le_of_lt (Nat.sub_le _ _) t.isLt)).2.2 j : EReal) + term m c t j := by
  rw [outsAt0_B m c t h (by omega)]
  dsimp only
  unfold term
  frame_out
  unfold_payloads
  pointwise []

theorem acc_flush (c : Dev nD) (t : Fin cfg0.N) (h : t.val % 8 = 7) (j : S1x2048.Idx) :
    (outsAt0 m c t.val t.isLt).2.2 j
      = (0 : EReal) + ∑ s : Fin 8, term m c ⟨8 * (t.val / 8) + s.val, Pipeline.run_point_lt_of_flush t h s⟩ j :=
  Pipeline.eq_sum_fin_of_reset_step_apply_of_flush (fun n h j => ((outsAt0 m c n h).2.2 j : EReal)) 8 (fun _ => (0 : EReal))
    (fun t j => term m c t j) (fun t h j => rowA m c t h j) (fun t h j => rowB m c t h j) t h j

set_option maxRecDepth 4000 in
set_option maxHeartbeats 2000000 in
theorem final6 (c : Dev nD) : (dats m 0 c).arrAt 6 cfg0.N
    = val_main_v39 (F := Ideal) (m ((c : Thread nD τ).loc main_arg0)) (m ((c : Thread nD τ).loc main_arg1)) := by
  refine (dats m 0 c).arrAt_eq_of_covers 6 _ (by decide +kernel) fun t hf y => ?_
  have ht : t.val % 8 = 7 := (flush0_6 t).mp hf
  have ht8 : t.val / 8 = 0 := by have : t.val < 8 := t.isLt; omega
  blk_simp
  rw [after0_6]
  refine (acc_flush m c t ht y).trans ?_
  unfold term
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
  refine Eq.trans ?_ (Fin.sum_univ_one _).symm
  refine Fin.sum_mul_add_congr fun s k hl => ?_
  have h0 := idxv0 ⟨8 * (t.val / 8) + s.val, Pipeline.run_point_lt_of_flush t ht s⟩
  have h1 := idxv1 ⟨8 * (t.val / 8) + s.val, Pipeline.run_point_lt_of_flush t ht s⟩
  blk_point [iblk, V, idx0 t, idx1 t, idx2 t, idx3 t, idx4 t, idx5 t, idx6 t, h0, h1]

set_option maxHeartbeats 2000000 in
theorem final4 (c : Dev nD) : (dats m 0 c).arrAt 4 cfg0.N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 8 = 0
  · rw [outsAt0_A m c t h (by have : t.val < 8 := t.isLt; omega)]
    dsimp only
    frame_out
    unfold_payloads
    pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
    blk_point [iblk, V, idx0 t, idx1 t, idx2 t, idx3 t, idx4 t, idx5 t, idx6 t]
  · rw [outsAt0_B m c t h (by omega)]
    dsimp only
    frame_out
    unfold_payloads
    pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
    blk_point [iblk, V, idx0 t, idx1 t, idx2 t, idx3 t, idx4 t, idx5 t, idx6 t]

set_option maxHeartbeats 2000000 in
theorem final5 (c : Dev nD) : (dats m 0 c).arrAt 5 cfg0.N
    = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h : t.val % 8 = 0
  · rw [outsAt0_A m c t h (by have : t.val < 8 := t.isLt; omega)]
    dsimp only
    frame_out
    unfold_payloads
    pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
    blk_point [iblk, V, idx0 t, idx1 t, idx2 t, idx3 t, idx4 t, idx5 t, idx6 t]
  · rw [outsAt0_B m c t h (by omega)]
    dsimp only
    frame_out
    unfold_payloads
    pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
    blk_point [iblk, V, idx0 t, idx1 t, idx2 t, idx3 t, idx4 t, idx5 t, idx6 t]

end Cert.RmsBIdeal.Val

namespace Cert.Proof.RmsBClaims

theorem frame_k : Cert.quiescent_RmsB := fun m ρ _ => Cert.RmsB.Gen.frame m ρ
theorem frame_i : Cert.quiescent_RmsBIdeal := fun m ρ _ => Cert.RmsBIdeal.Gen.frame m ρ
theorem frame_r : Cert.quiescent_RmsBRefIdeal := fun m ρ _ =>
  (θ_run Cert.RmsBRefIdeal.defs _ _).mono (fun r h => ⟨fun c => (h c).2.2.2,
      Idealize.ShloMosaic.sem_eq_zero_of_no_sems (by decide) r.2⟩)
    (Cert.RmsBRefIdeal.Value.run (F := Ideal) m ρ)

open Cert.RmsBIdeal.Val in
/-- The kernel's results are the reference's, as functions of the arguments. -/
theorem algebraic : Cert.algebraic_RmsBIdeal_RmsBRefIdeal := by
  intro m ρ m' ρ' _ hag
  refine ⟨fun c => _, fun c => _, fun c => _, (θ_run Cert.RmsBIdeal.defs _ _).mono (fun _ h c => ⟨(h c).1.trans (final4 m c), (h c).2.1.trans (final5 m c), (h c).2.2.1.trans (final6 m c), (h c).2.2.2⟩) (Cert.RmsBIdeal.Value.run_blocks (F := Ideal) m ρ), (θ_run Cert.RmsBRefIdeal.defs _ _).mono (fun _ h c => ?_) (Cert.RmsBRefIdeal.Value.run (F := Ideal) m' ρ')⟩
  obtain ⟨h0, h1, h2, hk⟩ := h c
  obtain ⟨a0, a1, a2, a3⟩ := hag c
  unfold Cert.RmsBRefIdeal.Value.res_main_v37 at h0
  unfold Cert.RmsBRefIdeal.Value.res_main_v38 at h1
  rw [a0, a1, a2, a3] at h0
  rw [a0, a1, a2, a3] at h1
  rw [a0, a1] at h2
  exact ⟨h0, h1, h2, hk⟩

end Cert.Proof.RmsBClaims

end
-- ==== Proof.GdnOutBVal.lean ====
/-
  The backward call of the recurrence's output norm and gate: the result array as a function of the arguments, and the reference's, equal at the ideal instance.
-/
module

public import proofs.«01_k».proof.Defs
public import proofs.«01_k».proof.Proof.Gen.GdnOutB.Frame
public import proofs.«01_k».proof.Proof.Gen.GdnOutBIdeal.Value
public import proofs.«01_k».proof.Proof.Gen.GdnOutBRefIdeal.Run
public import proofs.«01_k».proof.Proof.Gen.GdnOutBRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.GdnOutBIdeal.Val

open Cert.GdnOutBIdeal Cert.GdnOutBIdeal.Gen Cert.GdnOutBRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 6] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![0, 0] := (by decide +kernel : ∀ t : Fin grid0.N, _)

/-- A sum over the first two axes of three, at an index of the last. -/
theorem reduce_two {n0 n1 n2 : Nat} {t : Shape} (h : (⟨3, ![n0, n1, n2]⟩ : Shape).ReducesTo [0, 1] t)
    (v : (⟨3, ![n0, n1, n2]⟩ : Shape).Idx → EReal) (init : EReal) (j : t.Idx) (lt : 0 < t.rank := by decide)
    (hs : t.size ⟨0, lt⟩ = n2 := by rfl) :
    Ideal.hostReduceAdd h v init j = init + ∑ a : Fin n0, ∑ b : Fin n1, v (ix3 a b ⟨(j ⟨0, lt⟩).val, Shape.coordLt (j ⟨0, lt⟩) hs⟩) :=
  congrArg (init + ·) ((Finset.sum_filter_eq_sum_of_fiber _ (fun k : Fin n0 × Fin n1 => ix3 k.1 k.2 ⟨(j ⟨0, lt⟩).val, Shape.coordLt (j ⟨0, lt⟩) hs⟩)
    (fun _ _ e => Prod.ext (congrFun e 0) (congrFun e 1)) (fun i => by
      constructor
      · intro e
        refine ⟨(i 0, i 1), ?_⟩
        funext a; apply Fin.ext
        match a with
        | ⟨0, _⟩ => rfl
        | ⟨1, _⟩ => rfl
        | ⟨2, _⟩ => exact (congrArg Fin.val (congrFun e ⟨0, lt⟩)).symm
      · rintro ⟨k, rfl⟩
        funext b
        apply Fin.ext
        match b with
        | ⟨0, _⟩ => rfl
        | ⟨_ + 1, hb⟩ => exact absurd hb (by have : t.rank = 1 := h.1; omega)) v).trans (Fintype.sum_prod_type _))

/-- The six heads' columns. -/
theorem heads {a : Nat} (h : a < 768) : a < 128 ∨ (128 ≤ a ∧ a < 256) ∨ (256 ≤ a ∧ a < 384) ∨ (384 ≤ a ∧ a < 512) ∨
    (512 ≤ a ∧ a < 640) ∨ (640 ≤ a ∧ a < 768) := by omega

theorem idxv0 : ∀ t : Fin cfg0.N, win0_0.index t = ![t.val, 0] := (by decide +kernel : ∀ t : Fin grid0.N, _)
theorem idxv1 : ∀ t : Fin cfg0.N, win0_1.index t = ![t.val, 6] := (by decide +kernel : ∀ t : Fin grid0.N, _)
theorem idxv2 : ∀ t : Fin cfg0.N, win0_2.index t = ![t.val, 0] := (by decide +kernel : ∀ t : Fin grid0.N, _)

/-- What one point adds to the gradient of the scale: its rows' products of the normalised head and the gated cotangent,
    the last head first. -/
def term (c : Dev nD) (t : Fin cfg0.N) (j : S1x128.Idx) : EReal :=
  (∑ x : Fin 256,
      (HMul.hMul (α := EReal) (β := EReal) (γ := EReal) (HMul.hMul (α := EReal) (β := EReal) (γ := EReal) (iblk m c 0 t (ix2 x ⟨640 + (j 1).val, by have h : (j 1).val < 128 := (j 1).isLt; omega⟩)) (Ideal.rsqrt (Ideal.div (∑ x_1 : Fin 128, (HMul.hMul (α := EReal) (β := EReal) (γ := EReal) (iblk m c 0 t (ix2 x ⟨640 + x_1.val, by have h : x_1.val < 128 := x_1.isLt; omega⟩)) (iblk m c 0 t (ix2 x ⟨640 + x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨640 + (j 1).val, by have h : (j 1).val < 128 := (j 1).isLt; omega⟩)) (HMul.hMul (α := EReal) (β := EReal) (γ := EReal) (iblk m c 1 t (ix2 x ⟨640 + (j 1).val, by have h : (j 1).val < 128 := (j 1).isLt; omega⟩)) (Ideal.logistic (iblk m c 1 t (ix2 x ⟨640 + (j 1).val, by have h : (j 1).val < 128 := (j 1).isLt; omega⟩))))))) + (∑ x : Fin 256,
      (HMul.hMul (α := EReal) (β := EReal) (γ := EReal) (HMul.hMul (α := EReal) (β := EReal) (γ := EReal) (iblk m c 0 t (ix2 x ⟨512 + (j 1).val, by have h : (j 1).val < 128 := (j 1).isLt; omega⟩)) (Ideal.rsqrt (Ideal.div (∑ x_1 : Fin 128, (HMul.hMul (α := EReal) (β := EReal) (γ := EReal) (iblk m c 0 t (ix2 x ⟨512 + x_1.val, by have h : x_1.val < 128 := x_1.isLt; omega⟩)) (iblk m c 0 t (ix2 x ⟨512 + x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨512 + (j 1).val, by have h : (j 1).val < 128 := (j 1).isLt; omega⟩)) (HMul.hMul (α := EReal) (β := EReal) (γ := EReal) (iblk m c 1 t (ix2 x ⟨512 + (j 1).val, by have h : (j 1).val < 128 := (j 1).isLt; omega⟩)) (Ideal.logistic (iblk m c 1 t (ix2 x ⟨512 + (j 1).val, by have h : (j 1).val < 128 := (j 1).isLt; omega⟩))))))) + (∑ x : Fin 256,
      (HMul.hMul (α := EReal) (β := EReal) (γ := EReal) (HMul.hMul (α := EReal) (β := EReal) (γ := EReal) (iblk m c 0 t (ix2 x ⟨384 + (j 1).val, by have h : (j 1).val < 128 := (j 1).isLt; omega⟩)) (Ideal.rsqrt (Ideal.div (∑ x_1 : Fin 128, (HMul.hMul (α := EReal) (β := EReal) (γ := EReal) (iblk m c 0 t (ix2 x ⟨384 + x_1.val, by have h : x_1.val < 128 := x_1.isLt; omega⟩)) (iblk m c 0 t (ix2 x ⟨384 + x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨384 + (j 1).val, by have h : (j 1).val < 128 := (j 1).isLt; omega⟩)) (HMul.hMul (α := EReal) (β := EReal) (γ := EReal) (iblk m c 1 t (ix2 x ⟨384 + (j 1).val, by have h : (j 1).val < 128 := (j 1).isLt; omega⟩)) (Ideal.logistic (iblk m c 1 t (ix2 x ⟨384 + (j 1).val, by have h : (j 1).val < 128 := (j 1).isLt; omega⟩))))))) + (∑ x : Fin 256,
      (HMul.hMul (α := EReal) (β := EReal) (γ := EReal) (HMul.hMul (α := EReal) (β := EReal) (γ := EReal) (iblk m c 0 t (ix2 x ⟨256 + (j 1).val, by have h : (j 1).val < 128 := (j 1).isLt; omega⟩)) (Ideal.rsqrt (Ideal.div (∑ x_1 : Fin 128, (HMul.hMul (α := EReal) (β := EReal) (γ := EReal) (iblk m c 0 t (ix2 x ⟨256 + x_1.val, by have h : x_1.val < 128 := x_1.isLt; omega⟩)) (iblk m c 0 t (ix2 x ⟨256 + x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨256 + (j 1).val, by have h : (j 1).val < 128 := (j 1).isLt; omega⟩)) (HMul.hMul (α := EReal) (β := EReal) (γ := EReal) (iblk m c 1 t (ix2 x ⟨256 + (j 1).val, by have h : (j 1).val < 128 := (j 1).isLt; omega⟩)) (Ideal.logistic (iblk m c 1 t (ix2 x ⟨256 + (j 1).val, by have h : (j 1).val < 128 := (j 1).isLt; omega⟩))))))) + (∑ x : Fin 256,
      (HMul.hMul (α := EReal) (β := EReal) (γ := EReal) (HMul.hMul (α := EReal) (β := EReal) (γ := EReal) (iblk m c 0 t (ix2 x ⟨128 + (j 1).val, by have h : (j 1).val < 128 := (j 1).isLt; omega⟩)) (Ideal.rsqrt (Ideal.div (∑ x_1 : Fin 128, (HMul.hMul (α := EReal) (β := EReal) (γ := EReal) (iblk m c 0 t (ix2 x ⟨128 + x_1.val, by have h : x_1.val < 128 := x_1.isLt; omega⟩)) (iblk m c 0 t (ix2 x ⟨128 + x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨128 + (j 1).val, by have h : (j 1).val < 128 := (j 1).isLt; omega⟩)) (HMul.hMul (α := EReal) (β := EReal) (γ := EReal) (iblk m c 1 t (ix2 x ⟨128 + (j 1).val, by have h : (j 1).val < 128 := (j 1).isLt; omega⟩)) (Ideal.logistic (iblk m c 1 t (ix2 x ⟨128 + (j 1).val, by have h : (j 1).val < 128 := (j 1).isLt; omega⟩))))))) + (∑ x : Fin 256,
      (HMul.hMul (α := EReal) (β := EReal) (γ := EReal) (HMul.hMul (α := EReal) (β := EReal) (γ := EReal) (iblk m c 0 t (ix2 x ⟨(j 1).val, by have h : (j 1).val < 128 := (j 1).isLt; omega⟩)) (Ideal.rsqrt (Ideal.div (∑ x_1 : Fin 128, (HMul.hMul (α := EReal) (β := EReal) (γ := EReal) (iblk m c 0 t (ix2 x ⟨x_1.val, by have h : x_1.val < 128 := x_1.isLt; omega⟩)) (iblk m c 0 t (ix2 x ⟨x_1.val, by have h : x_1.val < 128 := x_1.isLt; omega⟩)))) (Ideal.ofBits FTy.f32 1124073472#32) + Ideal.ofBits FTy.f32 897988541#32))) (HMul.hMul (α := EReal) (β := EReal) (γ := EReal) (iblk m c 2 t (ix2 x ⟨(j 1).val, by have h : (j 1).val < 128 := (j 1).isLt; omega⟩)) (HMul.hMul (α := EReal) (β := EReal) (γ := EReal) (iblk m c 1 t (ix2 x ⟨(j 1).val, by have h : (j 1).val < 128 := (j 1).isLt; omega⟩)) (Ideal.logistic (iblk m c 1 t (ix2 x ⟨(j 1).val, by have h : (j 1).val < 128 := (j 1).isLt; omega⟩)))))))

set_option maxHeartbeats 1000000 in
theorem rowA (c : Dev nD) (t : Fin cfg0.N) (h : t.val % 8 = 0) (j : S1x128.Idx) :
    (outsAt0 m c t.val t.isLt).2.2 j = (0 : EReal) + term m c t j := by
  rw [outsAt0_A m c t h (by have : t.val < 8 := t.isLt; omega)]
  dsimp only
  unfold term
  frame_out
  unfold_payloads
  pointwise []

set_option maxHeartbeats 1000000 in
theorem rowB (c : Dev nD) (t : Fin cfg0.N) (h : ¬ t.val % 8 = 0) (j : S1x128.Idx) :
    (outsAt0 m c t.val t.isLt).2.2 j
      = ((outsAt0 m c (t.val - 1) (Nat.lt_of_le_of_lt (Nat.sub_le _ _) t.isLt)).2.2 j : EReal) + term m c t j := by
  rw [outsAt0_B m c t h (by omega)]
  dsimp only
  unfold term
  frame_out
  unfold_payloads
  pointwise []

theorem acc_flush (c : Dev nD) (t : Fin cfg0.N) (h : t.val % 8 = 7) (j : S1x128.Idx) :
    (outsAt0 m c t.val t.isLt).2.2 j
      = (0 : EReal) + ∑ s : Fin 8, term m c ⟨8 * (t.val / 8) + s.val, Pipeline.run_point_lt_of_flush t h s⟩ j :=
  Pipeline.eq_sum_fin_of_reset_step_apply_of_flush (fun n h j => ((outsAt0 m c n h).2.2 j : EReal)) 8 (fun _ => (0 : EReal))
    (fun t j => term m c t j) (fun t h j => rowA m c t h j) (fun t h j => rowB m c t h j) t h j

/-- Six terms in the reverse order. -/
theorem reverse_six {a b c d e f : EReal} : a + b + c + d + e + f = f + e + d + c + b + a := by ac_rfl

set_option maxRecDepth 4000 in
set_option maxHeartbeats 2000000 in
theorem final6 (c : Dev nD) : (dats m 0 c).arrAt 6 cfg0.N
    = val_main_v51 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  have ht : t.val % 8 = 7 := (flush0_6 t).mp hf
  have ht8 : t.val / 8 = 0 := by have : t.val < 8 := t.isLt; omega
  blk_simp
  rw [after0_6]
  refine (acc_flush m c t ht y).trans ?_
  unfold term
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v20_0, val_main_v21, val_main_v22, val_main_v23, val_main_v24, val_main_v25, val_main_v26, val_main_call1_v0, val_main_call1_v1, val_main_call1_v2, val_main_v27, val_main_v28, val_main_v29, val_main_cst_3, val_main_v30, val_main_v31, val_main_v32, val_main_v33, val_main_cst_4, val_main_v34, val_main_v35, val_main_cst_5, val_main_v36, val_main_v37, val_main_v38, val_main_v39, val_main_v40, val_main_cst_6, val_main_v41, val_main_v42, val_main_cst_7, val_main_v43, val_main_v44, val_main_v45, val_main_v46, val_main_v47, val_main_v48, val_main_v49, val_main_v50, val_main_v51, reduce_two]
  simp only [Finset.univ_unique, Finset.sum_singleton, ← Finset.sum_add_distrib, Fin.sum_univ_six, Ideal.logistic]
  refine Fin.sum_mul_add_congr fun s k hl => ?_
  have h0 := idxv0 ⟨8 * (t.val / 8) + s.val, Pipeline.run_point_lt_of_flush t ht s⟩
  have h1 := idxv1 ⟨8 * (t.val / 8) + s.val, Pipeline.run_point_lt_of_flush t ht s⟩
  have h2 := idxv2 ⟨8 * (t.val / 8) + s.val, Pipeline.run_point_lt_of_flush t ht s⟩
  refine reverse_six.trans ?_
  blk_point [iblk, V, idx0 t, idx1 t, idx2 t, idx3 t, idx4 t, idx5 t, idx6 t, h0, h1, h2]

/-- A block of this result, at the first point and at the others. -/
theorem block4 (c : Dev nD) (t : Fin cfg0.N) : (outsAt0 m c t.val t.isLt).1 = k0_pay1 (k0_pay4 (iblk m c 0 t))
        (k0_pay90 (iblk m c 3 t) (k0_pay14 (iblk m c 0 t)) (k0_pay16 (iblk m c 0 t)) (k0_pay17 (iblk m c 0 t))
          (k0_pay86 (iblk m c 3 t) (k0_pay24 (iblk m c 0 t)) (k0_pay26 (iblk m c 0 t)) (k0_pay27 (iblk m c 0 t))
            (k0_pay33 (iblk m c 1 t)) (k0_pay67 (iblk m c 2 t))
            (k0_pay78 (k0_pay44 (iblk m c 0 t)) (k0_pay46 (iblk m c 0 t)) (k0_pay47 (iblk m c 0 t))
              (k0_pay72 (iblk m c 3 t) (k0_pay54 (iblk m c 0 t)) (k0_pay56 (iblk m c 0 t)) (k0_pay57 (iblk m c 0 t))
                (k0_pay63 (iblk m c 1 t)) (k0_pay64 (iblk m c 2 t)))
              (k0_pay76 (iblk m c 3 t) (k0_pay53 (iblk m c 1 t)) (k0_pay64 (iblk m c 2 t)))
              (k0_pay77 (iblk m c 3 t) (k0_pay44 (iblk m c 0 t)) (k0_pay53 (iblk m c 1 t)) (k0_pay64 (iblk m c 2 t))))
            (k0_pay82 (iblk m c 3 t) (k0_pay34 (iblk m c 0 t)) (k0_pay36 (iblk m c 0 t)) (k0_pay37 (iblk m c 0 t))
              (k0_pay43 (k0_pay40 (iblk m c 1 t)) (k0_pay41 (iblk m c 1 t))) (k0_pay68 (iblk m c 2 t)))
            (FloatOps.ofBits FTy.f32 0#32) k0_pay83)
          (k0_pay87 (k0_pay23 (iblk m c 1 t)) (k0_pay66 (iblk m c 2 t))))
        (k0_pay95 (iblk m c 3 t) (k0_pay6 (iblk m c 0 t)) (k0_pay13 (iblk m c 1 t)) (k0_pay65 (iblk m c 2 t)))
        (k0_pay96 (iblk m c 3 t) (k0_pay4 (iblk m c 0 t)) (k0_pay7 (iblk m c 0 t)) (k0_pay13 (iblk m c 1 t))
          (k0_pay65 (iblk m c 2 t))) := by
  by_cases h : t.val % 8 = 0
  · rw [outsAt0_A m c t h (by have : t.val < 8 := t.isLt; omega)]
    dsimp only
    frame_out
  · rw [outsAt0_B m c t h (by omega)]
    dsimp only
    frame_out

set_option maxRecDepth 4000 in
set_option maxHeartbeats 4000000 in
theorem final4 (c : Dev nD) : (dats m 0 c).arrAt 4 cfg0.N
    = val_main_v49 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hy : (y 1).val < 768 := (y 1).isLt
  rw [block4]
  unfold_payloads
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v20_0, val_main_v21, val_main_v22, val_main_v23, val_main_v24, val_main_v25, val_main_v26, val_main_call1_v0, val_main_call1_v1, val_main_call1_v2, val_main_v27, val_main_v28, val_main_v29, val_main_cst_3, val_main_v30, val_main_v31, val_main_v32, val_main_v33, val_main_cst_4, val_main_v34, val_main_v35, val_main_cst_5, val_main_v36, val_main_v37, val_main_v38, val_main_v39, val_main_v40, val_main_cst_6, val_main_v41, val_main_v42, val_main_cst_7, val_main_v43, val_main_v44, val_main_v45, val_main_v46, val_main_v47, val_main_v48, val_main_v49, val_main_v50, val_main_v51]
  simp only [Ideal.logistic]
  rcases heads hy with hk | hk | hk | hk | hk | hk
  · simp only [show (y 1).val < 128 by omega, show (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show ¬ (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show ¬ (y 1).val < 512 by omega, show ¬ (y 1).val < 640 by omega, ↓reduceDIte, zero_add, add_zero]
    blk_point [iblk, V, idx0 t, idx1 t, idx2 t, idx3 t, idx4 t, idx5 t, idx6 t]
/-- A block of this result, at the first point and at the others. -/
theorem block5 (c : Dev nD) (t : Fin cfg0.N) : (outsAt0 m c t.val t.isLt).2.1 =
    k0_pay2
        (k0_pay92 (k0_pay9 (iblk m c 0 t) (iblk m c 3 t)) (k0_pay10 (iblk m c 1 t)) (k0_pay11 (iblk m c 1 t))
          (k0_pay12 (iblk m c 1 t)) (k0_pay65 (iblk m c 2 t))
          (k0_pay88 (k0_pay19 (iblk m c 0 t) (iblk m c 3 t)) (k0_pay20 (iblk m c 1 t)) (k0_pay21 (iblk m c 1 t))
            (k0_pay22 (iblk m c 1 t)) (k0_pay29 (iblk m c 0 t) (iblk m c 3 t)) (k0_pay30 (iblk m c 1 t))
            (k0_pay31 (iblk m c 1 t)) (k0_pay32 (iblk m c 1 t)) (k0_pay66 (iblk m c 2 t)) (k0_pay67 (iblk m c 2 t))
            (k0_pay80 (k0_pay39 (iblk m c 0 t) (iblk m c 3 t)) (k0_pay40 (iblk m c 1 t)) (k0_pay41 (iblk m c 1 t))
              (k0_pay42 (iblk m c 1 t)) (k0_pay68 (iblk m c 2 t))
              (k0_pay74 (k0_pay49 (iblk m c 0 t) (iblk m c 3 t)) (k0_pay50 (iblk m c 1 t)) (k0_pay51 (iblk m c 1 t))
                (k0_pay52 (iblk m c 1 t)) (k0_pay59 (iblk m c 0 t) (iblk m c 3 t)) (k0_pay60 (iblk m c 1 t))
                (k0_pay61 (iblk m c 1 t)) (k0_pay62 (iblk m c 1 t)) (k0_pay64 (iblk m c 2 t)))))) := by
  by_cases h : t.val % 8 = 0
  · rw [outsAt0_A m c t h (by have : t.val < 8 := t.isLt; omega)]
    dsimp only
    frame_out
  · rw [outsAt0_B m c t h (by omega)]
    dsimp only
    frame_out

set_option maxRecDepth 4000 in
set_option maxHeartbeats 4000000 in
theorem final5 (c : Dev nD) : (dats m 0 c).arrAt 5 cfg0.N
    = val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hy : (y 1).val < 768 := (y 1).isLt
  rw [block5]
  unfold_payloads
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v20_0, val_main_v21, val_main_v22, val_main_v23, val_main_v24, val_main_v25, val_main_v26, val_main_call1_v0, val_main_call1_v1, val_main_call1_v2, val_main_v27, val_main_v28, val_main_v29, val_main_cst_3, val_main_v30, val_main_v31, val_main_v32, val_main_v33, val_main_cst_4, val_main_v34, val_main_v35, val_main_cst_5, val_main_v36, val_main_v37, val_main_v38, val_main_v39, val_main_v40, val_main_cst_6, val_main_v41, val_main_v42, val_main_cst_7, val_main_v43, val_main_v44, val_main_v45, val_main_v46, val_main_v47, val_main_v48, val_main_v49, val_main_v50, val_main_v51]
  simp only [Ideal.logistic]
  rcases heads hy with hk | hk | hk | hk | hk | hk
  · simp only [show (y 1).val < 128 by omega, show (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show ¬ (y 1).val < 512 by omega, show (y 1).val < 640 by omega, ↓reduceDIte, zero_add, add_zero]
    blk_point [iblk, V, idx0 t, idx1 t, idx2 t, idx3 t, idx4 t, idx5 t, idx6 t]
  · simp only [show ¬ (y 1).val < 128 by omega, show ¬ (y 1).val < 256 by omega, show ¬ (y 1).val < 384 by omega, show ¬ (y 1).val < 512 by omega, show ¬ (y 1).val < 640 by omega, ↓reduceDIte, zero_add, add_zero]
    blk_point [iblk, V, idx0 t, idx1 t, idx2 t, idx3 t, idx4 t, idx5 t, idx6 t]

end Cert.GdnOutBIdeal.Val

namespace Cert.Proof.GdnOutBClaims

theorem frame_k : Cert.quiescent_GdnOutB := fun m ρ _ => Cert.GdnOutB.Gen.frame m ρ
theorem frame_i : Cert.quiescent_GdnOutBIdeal := fun m ρ _ => Cert.GdnOutBIdeal.Gen.frame m ρ
theorem frame_r : Cert.quiescent_GdnOutBRefIdeal := fun m ρ _ =>
  (θ_run Cert.GdnOutBRefIdeal.defs _ _).mono (fun r h => ⟨fun c => (h c).2.2.2,
      Idealize.ShloMosaic.sem_eq_zero_of_no_sems (by decide) r.2⟩)
    (Cert.GdnOutBRefIdeal.Value.run (F := Ideal) m ρ)

open Cert.GdnOutBIdeal.Val in
/-- The kernel's results are the reference's, as functions of the arguments. -/
theorem algebraic : Cert.algebraic_GdnOutBIdeal_GdnOutBRefIdeal := by
  intro m ρ m' ρ' _ hag
  refine ⟨fun c => _, fun c => _, fun c => _, (θ_run Cert.GdnOutBIdeal.defs _ _).mono (fun _ h c => ⟨(h c).1.trans (final4 m c), (h c).2.1.trans (final5 m c), (h c).2.2.1.trans (final6 m c), (h c).2.2.2⟩) (Cert.GdnOutBIdeal.Value.run_blocks (F := Ideal) m ρ), (θ_run Cert.GdnOutBRefIdeal.defs _ _).mono (fun _ h c => ?_) (Cert.GdnOutBRefIdeal.Value.run (F := Ideal) m' ρ')⟩
  obtain ⟨h0, h1, h2, hk⟩ := h c
  obtain ⟨a0, a1, a2, a3⟩ := hag c
  unfold Cert.GdnOutBRefIdeal.Value.res_main_v49 at h0
  rw [a0, a1, a2, a3] at h0
  rw [a0, a1, a2, a3] at h1
  rw [a0, a1, a3] at h2
  exact ⟨h0, h1, h2, hk⟩

end Cert.Proof.GdnOutBClaims

end
-- ==== Proof.MergeFVal.lean ====
/-
  The gate mix: the result array as a function of the arguments, and the reference's, equal at the ideal instance.
-/
module

public import proofs.«01_k».proof.Defs
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.MergeFIdeal.Val

open Cert.MergeFIdeal Cert.MergeFIdeal.Gen Cert.MergeFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)

set_option maxHeartbeats 1000000 in
theorem final4 (c : Dev nD) : (dats m 0 c).arrAt 4 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold_payloads
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_v15, val_main_v16, val_main_v17, val_main_v18]
  simp only [Ideal.logistic]
  blk_point [iblk, V, idx0 t, idx1 t, idx2 t, idx3 t, idx4 t]

end Cert.MergeFIdeal.Val

namespace Cert.Proof.MergeFClaims

theorem frame_k : Cert.quiescent_MergeF := fun m ρ _ => Cert.MergeF.Gen.frame m ρ
theorem frame_i : Cert.quiescent_MergeFIdeal := fun m ρ _ => Cert.MergeFIdeal.Gen.frame m ρ
theorem frame_r : Cert.quiescent_MergeFRefIdeal := fun m ρ _ =>
  (θ_run Cert.MergeFRefIdeal.defs _ _).mono (fun r h => ⟨fun c => (h c).2,
      Idealize.ShloMosaic.sem_eq_zero_of_no_sems (by decide) r.2⟩)
    (Cert.MergeFRefIdeal.Value.run (F := Ideal) m ρ)

open Cert.MergeFIdeal.Val in
/-- The kernel's results are the reference's, as functions of the arguments. -/
theorem algebraic : Cert.algebraic_MergeFIdeal_MergeFRefIdeal := by
  intro m ρ m' ρ' _ hag
  refine ⟨fun c => _, (θ_run Cert.MergeFIdeal.defs _ _).mono (fun _ h c => ⟨(h c).1.trans (final4 m c), (h c).2⟩) (Cert.MergeFIdeal.Value.run_blocks (F := Ideal) m ρ), (θ_run Cert.MergeFRefIdeal.defs _ _).mono (fun _ h c => ?_) (Cert.MergeFRefIdeal.Value.run (F := Ideal) m' ρ')⟩
  obtain ⟨h0, hk⟩ := h c
  obtain ⟨a0, a1, a2, a3⟩ := hag c
  rw [a0, a1, a2, a3] at h0
  exact ⟨h0, hk⟩

end Cert.Proof.MergeFClaims

end
-- ==== Proof.RmsFVal.lean ====
/-
  The RMS norm: the result array as a function of the arguments, and the reference's, equal at the ideal instance.
-/
module

public import proofs.«01_k».proof.Defs
public import proofs.«01_k».proof.Proof.Gen.RmsF.Frame
public import proofs.«01_k».proof.Proof.Gen.RmsFIdeal.Value
public import proofs.«01_k».proof.Proof.Gen.RmsFRefIdeal.Run
public import proofs.«01_k».proof.Proof.Gen.RmsFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.RmsFIdeal.Val

open Cert.RmsFIdeal Cert.RmsFIdeal.Gen Cert.RmsFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

set_option maxHeartbeats 1000000 in
theorem final2 (c : Dev nD) : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]
  blk_point [iblk, V, idx0 t, idx1 t, idx2 t]

end Cert.RmsFIdeal.Val

namespace Cert.Proof.RmsFClaims

theorem frame_k : Cert.quiescent_RmsF := fun m ρ _ => Cert.RmsF.Gen.frame m ρ
theorem frame_i : Cert.quiescent_RmsFIdeal := fun m ρ _ => Cert.RmsFIdeal.Gen.frame m ρ
theorem frame_r : Cert.quiescent_RmsFRefIdeal := fun m ρ _ =>
  (θ_run Cert.RmsFRefIdeal.defs _ _).mono (fun r h => ⟨fun c => (h c).2,
      Idealize.ShloMosaic.sem_eq_zero_of_no_sems (by decide) r.2⟩)
    (Cert.RmsFRefIdeal.Value.run (F := Ideal) m ρ)

open Cert.RmsFIdeal.Val in
/-- The kernel's results are the reference's, as functions of the arguments. -/
theorem algebraic : Cert.algebraic_RmsFIdeal_RmsFRefIdeal := by
  intro m ρ m' ρ' _ hag
  refine ⟨fun c => _, (θ_run Cert.RmsFIdeal.defs _ _).mono (fun _ h c => ⟨(h c).1.trans (final2 m c), (h c).2⟩) (Cert.RmsFIdeal.Value.run_blocks (F := Ideal) m ρ), (θ_run Cert.RmsFRefIdeal.defs _ _).mono (fun _ h c => ?_) (Cert.RmsFRefIdeal.Value.run (F := Ideal) m' ρ')⟩
  obtain ⟨h0, hk⟩ := h c
  obtain ⟨a0, a1⟩ := hag c
  rw [a0, a1] at h0
  exact ⟨h0, hk⟩

end Cert.Proof.RmsFClaims

end
-- ==== Proof.GdnOutFVal.lean ====
/-
  The recurrence's output norm and gate: the result array as a function of the arguments, and the reference's, equal at the ideal instance.
-/
module

public import proofs.«01_k».proof.Defs
public import proofs.«01_k».proof.Proof.Gen.GdnOutF.Frame
public import proofs.«01_k».proof.Proof.Gen.GdnOutFIdeal.Value
public import proofs.«01_k».proof.Proof.Gen.GdnOutFRefIdeal.Run
public import proofs.«01_k».proof.Proof.Gen.GdnOutFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.GdnOutFIdeal.Val

open Cert.GdnOutFIdeal Cert.GdnOutFIdeal.Gen Cert.GdnOutFRefIdeal.Read

variable (m : (ℓ : Loc nD τ sig) → Buf (Elt Ideal) ℓ) (ρ : Dev nD → PrngReg)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 6] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)

set_option maxHeartbeats 2000000 in
theorem final3 (c : Dev nD) : (dats m 0 c).arrAt 3 cfg0.N
    = val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18, val_main_v19, val_main_v20]
  simp only [Ideal.logistic]
  have hy : (y 1).val < 768 := (y 1).isLt
  by_cases h0 : (y 1).val < 128
  · simp only [h0, ↓reduceDIte]
    blk_point [iblk, V, idx0 t, idx1 t, idx2 t, idx3 t]
  by_cases h1 : (y 1).val - 128 < 128
  · simp only [h0, h1, ↓reduceDIte]
    blk_point [iblk, V, idx0 t, idx1 t, idx2 t, idx3 t]
  by_cases h2 : (y 1).val - 128 - 128 < 128
  · simp only [h0, h1, h2, ↓reduceDIte]
    blk_point [iblk, V, idx0 t, idx1 t, idx2 t, idx3 t]
  by_cases h3 : (y 1).val - 128 - 128 - 128 < 128
  · simp only [h0, h1, h2, h3, ↓reduceDIte]
    blk_point [iblk, V, idx0 t, idx1 t, idx2 t, idx3 t]
  by_cases h4 : (y 1).val - 128 - 128 - 128 - 128 < 128
  · simp only [h0, h1, h2, h3, h4, ↓reduceDIte]
    blk_point [iblk, V, idx0 t, idx1 t, idx2 t, idx3 t]
  simp only [h0, h1, h2, h3, h4, ↓reduceDIte]
  blk_point [iblk, V, idx0 t, idx1 t, idx2 t, idx3 t]

end Cert.GdnOutFIdeal.Val

namespace Cert.Proof.GdnOutFClaims

theorem frame_k : Cert.quiescent_GdnOutF := fun m ρ _ => Cert.GdnOutF.Gen.frame m ρ
theorem frame_i : Cert.quiescent_GdnOutFIdeal := fun m ρ _ => Cert.GdnOutFIdeal.Gen.frame m ρ
theorem frame_r : Cert.quiescent_GdnOutFRefIdeal := fun m ρ _ =>
  (θ_run Cert.GdnOutFRefIdeal.defs _ _).mono (fun r h => ⟨fun c => (h c).2,
      Idealize.ShloMosaic.sem_eq_zero_of_no_sems (by decide) r.2⟩)
    (Cert.GdnOutFRefIdeal.Value.run (F := Ideal) m ρ)

open Cert.GdnOutFIdeal.Val in
/-- The kernel's results are the reference's, as functions of the arguments. -/
theorem algebraic : Cert.algebraic_GdnOutFIdeal_GdnOutFRefIdeal := by
  intro m ρ m' ρ' _ hag
  refine ⟨fun c => _, (θ_run Cert.GdnOutFIdeal.defs _ _).mono (fun _ h c => ⟨(h c).1.trans (final3 m c), (h c).2⟩) (Cert.GdnOutFIdeal.Value.run_blocks (F := Ideal) m ρ), (θ_run Cert.GdnOutFRefIdeal.defs _ _).mono (fun _ h c => ?_) (Cert.GdnOutFRefIdeal.Value.run (F := Ideal) m' ρ')⟩
  obtain ⟨h0, hk⟩ := h c
  obtain ⟨a0, a1, a2⟩ := hag c
  rw [a0, a1, a2] at h0
  exact ⟨h0, hk⟩

end Cert.Proof.GdnOutFClaims

end
-- ==== Proof.ConvFVal.lean ====
/-
  The short causal convolution with SiLU: the result array as a function of the arguments, and the reference's, equal at the ideal instance.
-/
module

public import proofs.«01_k».proof.Defs
public import proofs.«01_k».proof.Proof.Gen.ConvF.Frame
public import proofs.«01_k».proof.Proof.Gen.ConvFIdeal.Value
public import proofs.«01_k».proof.Proof.Gen.ConvFRefIdeal.Run
public import proofs.«01_k».proof.Proof.Gen.ConvFRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.ConvFIdeal.Val

open Cert.ConvFIdeal Cert.ConvFIdeal.Gen Cert.ConvFRefIdeal.Read

variable (m : (ℓ : Loc nD τ sig) → Buf (Elt Ideal) ℓ) (ρ : Dev nD → PrngReg)

theorem idx0 : ∀ t : Fin cfg0.N, win0_0.index t = ![0, 9 + (grid0.coords t 0).val] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)

/-- The lanes' row test, as a test of numbers. -/
theorem row_lt {α : Type} (n k : Nat) (hn : n < 2048) (hk : k < 2048) (a b : α) :
    Scalar.select (IntOp.cmpi CmpIPredicate.slt (BitVec.ofNat 32 n) (BitVec.ofNat 32 k)) a b = if n < k then a else b := by
  rw [Idealize.ShloMosaic.WordCmp.cmpi_slt_ofNat (by omega) (by omega), Idealize.ShloMosaic.WordCmp.select_ofBool]
  simp only [decide_eq_true_eq]

theorem silu_congr {a b : EReal} (h : a = b) :
    a * Ideal.div 1 (1 + Ideal.exp (-a)) = b * Ideal.div 1 (1 + Ideal.exp (-b)) := by rw [h]

theorem reverse_two {a b : EReal} : a + b = b + a := add_comm _ _
theorem reverse_three {a b c : EReal} : a + b + c = c + b + a := by ac_rfl
theorem reverse_four {a b c d : EReal} : a + b + c + d = d + c + b + a := by ac_rfl

set_option maxHeartbeats 2000000 in
theorem final2 (c : Dev nD) : (dats m 0 c).arrAt 2 cfg0.N
    = val_main_v32 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_cst, val_main_v1, val_main_v2, val_main_v3, val_main_v4, val_main_v5, val_main_v6, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_call0_v5, val_main_v32]
  simp only [Ideal.logistic]
  have hy : (y 0).val < 2048 := (y 0).isLt
  have e0 : (((View.whole main_v0).slice (win0_2.rect t)).emb y 0).val = (y 0).val := by
    blk_point [idx2 t]
  refine silu_congr ?_
  rw [row_lt _ _ hy (by omega), row_lt _ _ hy (by omega), row_lt _ _ hy (by omega)]
  rcases (by omega : (y 0).val = 0 ∨ (y 0).val = 1 ∨ (y 0).val = 2 ∨ 3 ≤ (y 0).val) with hk | hk | hk | hk
  · simp only [show (y 0).val < 1 by omega, show (y 0).val < 2 by omega, show (y 0).val < 3 by omega, show (((View.whole main_v0).slice (win0_2.rect t)).emb y 0).val < 3 by omega, show 1 + (((View.whole main_v0).slice (win0_2.rect t)).emb y 0).val < 3 by omega, show 2 + (((View.whole main_v0).slice (win0_2.rect t)).emb y 0).val < 3 by omega, ↓reduceIte, ↓reduceDIte, mul_zero, zero_add, add_zero]
    blk_point [iblk, V, idx0 t, idx1 t, idx2 t]
  · simp only [show ¬ (y 0).val < 1 by omega, show (y 0).val < 2 by omega, show (y 0).val < 3 by omega, show (((View.whole main_v0).slice (win0_2.rect t)).emb y 0).val < 3 by omega, show 1 + (((View.whole main_v0).slice (win0_2.rect t)).emb y 0).val < 3 by omega, show ¬ 2 + (((View.whole main_v0).slice (win0_2.rect t)).emb y 0).val < 3 by omega, ↓reduceIte, ↓reduceDIte, mul_zero, zero_add, add_zero]
    refine reverse_two.trans ?_
    blk_point [iblk, V, idx0 t, idx1 t, idx2 t]
  · simp only [show ¬ (y 0).val < 1 by omega, show ¬ (y 0).val < 2 by omega, show (y 0).val < 3 by omega, show (((View.whole main_v0).slice (win0_2.rect t)).emb y 0).val < 3 by omega, show ¬ 1 + (((View.whole main_v0).slice (win0_2.rect t)).emb y 0).val < 3 by omega, show ¬ 2 + (((View.whole main_v0).slice (win0_2.rect t)).emb y 0).val < 3 by omega, ↓reduceIte, ↓reduceDIte, mul_zero, zero_add, add_zero]
    refine reverse_three.trans ?_
    blk_point [iblk, V, idx0 t, idx1 t, idx2 t]
  · simp only [show ¬ (y 0).val < 1 by omega, show ¬ (y 0).val < 2 by omega, show ¬ (y 0).val < 3 by omega, show ¬ (((View.whole main_v0).slice (win0_2.rect t)).emb y 0).val < 3 by omega, show ¬ 1 + (((View.whole main_v0).slice (win0_2.rect t)).emb y 0).val < 3 by omega, show ¬ 2 + (((View.whole main_v0).slice (win0_2.rect t)).emb y 0).val < 3 by omega, ↓reduceIte, ↓reduceDIte, mul_zero, zero_add, add_zero]
    refine reverse_four.trans ?_
    blk_point [iblk, V, idx0 t, idx1 t, idx2 t]

end Cert.ConvFIdeal.Val

namespace Cert.Proof.ConvFClaims

theorem frame_k : Cert.quiescent_ConvF := fun m ρ _ => Cert.ConvF.Gen.frame m ρ
theorem frame_i : Cert.quiescent_ConvFIdeal := fun m ρ _ => Cert.ConvFIdeal.Gen.frame m ρ
theorem frame_r : Cert.quiescent_ConvFRefIdeal := fun m ρ _ =>
  (θ_run Cert.ConvFRefIdeal.defs _ _).mono (fun r h => ⟨fun c => (h c).2,
      Idealize.ShloMosaic.sem_eq_zero_of_no_sems (by decide) r.2⟩)
    (Cert.ConvFRefIdeal.Value.run (F := Ideal) m ρ)

open Cert.ConvFIdeal.Val in
/-- The kernel's results are the reference's, as functions of the arguments. -/
theorem algebraic : Cert.algebraic_ConvFIdeal_ConvFRefIdeal := by
  intro m ρ m' ρ' _ hag
  refine ⟨fun c => _, (θ_run Cert.ConvFIdeal.defs _ _).mono (fun _ h c => ⟨(h c).1.trans (final2 m c), (h c).2⟩) (Cert.ConvFIdeal.Value.run_blocks (F := Ideal) m ρ), (θ_run Cert.ConvFRefIdeal.defs _ _).mono (fun _ h c => ?_) (Cert.ConvFRefIdeal.Value.run (F := Ideal) m' ρ')⟩
  obtain ⟨h0, hk⟩ := h c
  obtain ⟨a0, a1⟩ := hag c
  unfold Cert.ConvFRefIdeal.Value.res_main_v32 at h0
  rw [a0, a1] at h0
  exact ⟨h0, hk⟩

end Cert.Proof.ConvFClaims

end
-- ==== Proof.ConvBVal.lean ====
/-
  The backward call of the short causal convolution with SiLU: the result array as a function of the arguments, and the reference's, equal at the ideal instance.
-/
module

public import proofs.«01_k».proof.Defs
public import proofs.«01_k».proof.Proof.Gen.Pre_finite_cotangent
public import proofs.«01_k».proof.Proof.Gen.ConvB.Frame
public import proofs.«01_k».proof.Proof.Gen.ConvBIdeal.Value
public import proofs.«01_k».proof.Proof.Gen.ConvBRefIdeal.Run
public import proofs.«01_k».proof.Proof.Gen.ConvBRefIdeal.Read
public import Idealize.ShloMosaic.Lib.Pipeline.ValueKit.Point
public import Idealize.ShloMosaic.Lib.Pipeline.ValueKit.Acc
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.ConvBIdeal.Val

open Cert.ConvBIdeal Cert.ConvBIdeal.Gen Cert.ConvBRefIdeal.Read

variable (m : (ℓ : Loc nD τ sig) → Buf (Elt Ideal) ℓ) (ρ : Dev nD → PrngReg)

theorem idx0 : ∀ t : Fin cfg0.N, win0_0.index t = ![0, 9 + (grid0.coords t 0).val] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, (grid0.coords t 0).val] := (by decide +kernel : ∀ t : Fin grid0.N, _)
theorem idx4 : ∀ t : Fin cfg0.N, win0_4.index t = ![0, (grid0.coords t 0).val] := (by decide +kernel : ∀ t : Fin grid0.N, _)

/-- The lanes' row test, as a test of numbers. -/
theorem row_lt {α : Type} (n k : Nat) (hn : n < 2048) (hk : k < 2048) (a b : α) :
    Scalar.select (IntOp.cmpi CmpIPredicate.slt (BitVec.ofNat 32 n) (BitVec.ofNat 32 k)) a b = if n < k then a else b := by
  rw [Idealize.ShloMosaic.WordCmp.cmpi_slt_ofNat (by omega) (by omega), Idealize.ShloMosaic.WordCmp.select_ofBool]
  simp only [decide_eq_true_eq]

set_option maxHeartbeats 1000000 in
theorem xs1 (c : Dev nD) (t : Fin cfg0.N) (y : S2048x256.Idx) (g : S2048x2304.Idx)
    (h0 : (g 0).val = (y 0).val) (h1 : (g 1).val = 256 * (grid0.coords t 0).val + (y 1).val) :
    k0_pay2 (iblk m c 0 t) y = val_main_v21 (F := Ideal) (m ((c : Thread nD τ).loc main_arg0)) g := by
  unfold_payloads
  pointwise [val_main_v0, val_main_cst, val_main_v1, val_main_v2, val_main_v21]
  have hy : (y 0).val < 2048 := (y 0).isLt
  rw [row_lt _ _ hy (by omega)]
  by_cases hk : (y 0).val < 1
  · simp only [hk, show 2 + (g 0).val < 3 by omega, ↓reduceIte, ↓reduceDIte]
  · simp only [hk, show ¬ 2 + (g 0).val < 3 by omega, ↓reduceIte, ↓reduceDIte]
    blk_point [iblk, V, idx0 t, h0, h1]

set_option maxHeartbeats 1000000 in
theorem xs2 (c : Dev nD) (t : Fin cfg0.N) (y : S2048x256.Idx) (g : S2048x2304.Idx)
    (h0 : (g 0).val = (y 0).val) (h1 : (g 1).val = 256 * (grid0.coords t 0).val + (y 1).val) :
    k0_pay3 (iblk m c 0 t) y = val_main_v14 (F := Ideal) (m ((c : Thread nD τ).loc main_arg0)) g := by
  unfold_payloads
  pointwise [val_main_v0, val_main_cst, val_main_v1, val_main_v2, val_main_v14]
  have hy : (y 0).val < 2048 := (y 0).isLt
  rw [row_lt _ _ hy (by omega)]
  by_cases hk : (y 0).val < 2
  · simp only [hk, show 1 + (g 0).val < 3 by omega, ↓reduceIte, ↓reduceDIte]
  · simp only [hk, show ¬ 1 + (g 0).val < 3 by omega, ↓reduceIte, ↓reduceDIte]
    blk_point [iblk, V, idx0 t, h0, h1]

set_option maxHeartbeats 1000000 in
theorem xs3 (c : Dev nD) (t : Fin cfg0.N) (y : S2048x256.Idx) (g : S2048x2304.Idx)
    (h0 : (g 0).val = (y 0).val) (h1 : (g 1).val = 256 * (grid0.coords t 0).val + (y 1).val) :
    k0_pay4 (iblk m c 0 t) y = val_main_v6 (F := Ideal) (m ((c : Thread nD τ).loc main_arg0)) g := by
  unfold_payloads
  pointwise [val_main_v0, val_main_cst, val_main_v1, val_main_v2, val_main_v6]
  have hy : (y 0).val < 2048 := (y 0).isLt
  rw [row_lt _ _ hy (by omega)]
  by_cases hk : (y 0).val < 3
  · simp only [hk, show (g 0).val < 3 by omega, ↓reduceIte, ↓reduceDIte]
  · simp only [hk, show ¬ (g 0).val < 3 by omega, ↓reduceIte, ↓reduceDIte]
    blk_point [iblk, V, idx0 t, h0, h1]

set_option maxHeartbeats 1000000 in
theorem xs0 (c : Dev nD) (t : Fin cfg0.N) (y : S2048x256.Idx) (g : S2048x2304.Idx)
    (h0 : (g 0).val = (y 0).val) (h1 : (g 1).val = 256 * (grid0.coords t 0).val + (y 1).val) :
    iblk m c 0 t y = val_main_v28 (F := Ideal) (m ((c : Thread nD τ).loc main_arg0)) g := by
  pointwise [val_main_v0, val_main_cst, val_main_v1, val_main_v2, val_main_v28]
  blk_point [iblk, V, idx0 t, h0, h1]

theorem reverse_four {a b c d : EReal} : a + b + c + d = d + c + b + a := by ac_rfl

set_option maxHeartbeats 1000000 in
theorem y_eq (c : Dev nD) (t : Fin cfg0.N) (y : S2048x256.Idx) (g : S2048x2304.Idx)
    (h0 : (g 0).val = (y 0).val) (h1 : (g 1).val = 256 * (grid0.coords t 0).val + (y 1).val) :
    k0_pay5 (iblk m c 0 t) (iblk m c 1 t) y = val_main_v32 (F := Ideal) (m ((c : Thread nD τ).loc main_arg0)) (m ((c : Thread nD τ).loc main_arg1)) g := by
  unfold k0_pay5
  pointwise [val_main_v3, val_main_cst_0, val_main_v4, val_main_v5, val_main_v7, val_main_v8, val_main_v9, val_main_cst_1, val_main_v10, val_main_v11, val_main_v12, val_main_v13, val_main_v15, val_main_v16, val_main_v17, val_main_v18, val_main_v19, val_main_v20, val_main_v22, val_main_v23, val_main_v24, val_main_v25, val_main_v26, val_main_v27, val_main_v29, val_main_v30, val_main_v31, val_main_v32]
  rw [xs0 m c t y g h0 h1, xs1 m c t y g h0 h1, xs2 m c t y g h0 h1, xs3 m c t y g h0 h1]
  refine reverse_four.trans ?_
  blk_point [iblk, V, idx1 t, h0, h1]

theorem sum_same {n : Nat} {f g : Fin n → EReal} (h : ∀ x, f x = g x) : ∑ x, f x = ∑ x, g x := Finset.sum_congr rfl fun x _ => h x

/-- A number times an entry or zero, on the two sides of one test. -/
theorem term_same {p q : Prop} [Decidable p] [Decidable q] {w w' u : EReal} {f : p → EReal} {g : q → EReal} (hw : w = w')
    (hu : u = if k : p then f k else 0) (hpq : p ↔ q) (h : ∀ hp hq, f hp = g hq) : w * u = if k : q then w' * g k else 0 := by
  rw [hw, hu]
  by_cases k : p
  · rw [dif_pos k, dif_pos (hpq.mp k), h k (hpq.mp k)]
  · rw [dif_neg k, dif_neg (fun e => k (hpq.mpr e)), mul_zero]

theorem add_same {a b a' b' : EReal} (h : a = a') (k : b = b') : a + b = a' + b' := by rw [h, k]
theorem mul_same {w w' a b : EReal} (k : w = w') (h : a = b) : w * a = w' * b := by rw [h, k]

/-- Every entry is a finite number. -/
def Finite (d : S2048x2304.Idx → EReal) : Prop := ∀ g, d g ≠ ⊤ ∧ d g ≠ ⊥

/-- The derivative of SiLU times a finite number, in the kernel's form and in the reference's: at an infinite point both
    are the limit. -/
theorem dz_pt (y d : EReal) (h1 : d ≠ ⊤) (h2 : d ≠ ⊥) :
    d * (Ideal.div 1 (1 + Ideal.exp (-y)) * (1 + y * (1 - Ideal.div 1 (1 + Ideal.exp (-y)))))
      = d * Ideal.div 1 (1 + Ideal.exp (-y)) + y * d * (Ideal.div 1 (1 + Ideal.exp (-y)) * (1 - Ideal.div 1 (1 + Ideal.exp (-y)))) := by
  induction y using EReal.rec with
  | bot =>
    have e : Ideal.div 1 (1 + Ideal.exp (-(⊥ : EReal))) = 0 := by
      rw [EReal.neg_bot, show Ideal.exp ⊤ = ⊤ from rfl, show (1 : EReal) + ⊤ = ⊤ by norm_cast, Ideal.div, if_neg (by simp), EReal.inv_top, mul_zero]
    rw [e]; simp
  | top =>
    have e : Ideal.div 1 (1 + Ideal.exp (-(⊤ : EReal))) = 1 := by
      rw [EReal.neg_top, show Ideal.exp ⊥ = 0 from rfl, add_zero, Ideal.div, if_neg one_ne_zero, one_mul]
      exact_mod_cast (EReal.coe_inv 1).symm.trans (by norm_num)
    have z : (1 : EReal) - 1 = 0 := by
      show ((1 : ℝ) : EReal) - ((1 : ℝ) : EReal) = 0
      rw [← EReal.coe_sub, sub_self]; rfl
    rw [e, z]; simp
  | coe r =>
    have e : Ideal.div 1 (1 + Ideal.exp (-(r : EReal))) = ((1 + Real.exp (-r))⁻¹ : ℝ) := by
      have p : (1 : ℝ) + Real.exp (-r) ≠ 0 := by positivity
      have q : (1 : EReal) + Ideal.exp (-(r : EReal)) = ((1 + Real.exp (-r) : ℝ) : EReal) := by
        rw [← EReal.coe_neg]; rfl
      rw [q, Ideal.div, if_neg (by exact_mod_cast p), one_mul, EReal.coe_inv]
    rw [e]
    lift d to ℝ using ⟨h1, h2⟩
    generalize (1 + Real.exp (-r))⁻¹ = s
    norm_cast
    ring

/-- What the precondition says of an entry of the cotangent. -/
theorem finite (x : FVec Ideal Cert.Pre_finite_cotangent.S2048x6144 .f32) (w : FVec Ideal Cert.Pre_finite_cotangent.S4x2304 .f32)
    (d : FVec Ideal Cert.Pre_finite_cotangent.S2048x2304 .f32)
    (h : Cert.Pre_finite_cotangent.fn (F := Ideal) x w d = fun _ => 1#1) (g : Cert.Pre_finite_cotangent.S2048x2304.Idx) :
    (d g : EReal) ≠ ⊤ ∧ (d g : EReal) ≠ ⊥ := by
  have e := congrFun h g
  have e' : Ideal.cmp .olt (max (d g : EReal) (-(d g : EReal))) (Ideal.ofBits .f32 0x7F800000#32) = 1 := e
  rw [Ideal.cmp_olt_eq_one, show Ideal.ofBits .f32 0x7F800000#32 = (⊤ : EReal) by simp [Ideal.ofBits, Ideal.ieee]] at e'
  constructor
  · intro k; rw [k] at e'; simp at e'
  · intro k; rw [k] at e'; simp at e'

theorem dc_eq (c : Dev nD) (t : Fin cfg0.N) (y : S2048x256.Idx) (g : S2048x2304.Idx)
    (h0 : (g 0).val = (y 0).val) (h1 : (g 1).val = 256 * (grid0.coords t 0).val + (y 1).val) :
    iblk m c 2 t y = (m ((c : Thread nD τ).loc main_arg2)) g := by
  blk_point [iblk, V, idx2 t, h0, h1]

set_option maxHeartbeats 1000000 in
theorem dz_eq (c : Dev nD) (hF : Finite (m ((c : Thread nD τ).loc main_arg2))) (t : Fin cfg0.N) (y : S2048x256.Idx) (g : S2048x2304.Idx)
    (h0 : (g 0).val = (y 0).val) (h1 : (g 1).val = 256 * (grid0.coords t 0).val + (y 1).val) :
    k0_pay8 (k0_pay12 (iblk m c 0 t) (iblk m c 1 t) (iblk m c 2 t)) (iblk m c 2 t) (k0_pay13 (iblk m c 0 t) (iblk m c 1 t) (iblk m c 2 t)) y = val_main_v34 (F := Ideal) (m ((c : Thread nD τ).loc main_arg0)) (m ((c : Thread nD τ).loc main_arg1)) (m ((c : Thread nD τ).loc main_arg2)) g := by
  unfold k0_pay8 k0_pay12 k0_pay13 k0_pay6 k0_pay7 k0_pay6
  frame_out
  pointwise [val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_call1_v0, val_main_call1_v1, val_main_call1_v2, val_main_v34]
  simp only [Ideal.logistic]
  rw [y_eq m c t y g h0 h1, dc_eq m c t y g h0 h1]
  exact dz_pt _ _ (hF g).1 (hF g).2

/-- The lanes rotated back `k` rows, the last `k` rows cleared. -/
theorem up (Z : FVec Ideal S2048x256 .f32) (n k : Nat) (h : n + k = 2048) (hk : 0 < k) (hi : S2048x256.Iotas .tc 32 [0])
    (hr : S2048x256.Rotates 0 none) (y : S2048x256.Idx) :
    select (cmpi .sge (iota .tc S2048x256 32 [0] hi) (broadcast S2048x256 (BitVec.ofNat 32 n)))
        (broadcast S2048x256 (Scalar.ofBits (F := Ideal) .f32 0x00000000#32)) (dynamicRotate 0 (BitVec.ofNat 32 n) none Z hr) y
      = if hy : (y 0).val + k < 2048 then Z (ix2 ⟨(y 0).val + k, hy⟩ (y 1)) else (0 : EReal) := by
  pointwise []
  have hy : (y 0).val < 2048 := (y 0).isLt
  have e : ((y 0).val + 2048 - (BitVec.ofNat 32 n).toNat % 2048) % 2048 = ((y 0).val + k) % 2048 := by
    rw [BitVec.toNat_ofNat]; omega
  rw [Idealize.ShloMosaic.WordCmp.cmpi_sge_ofNat (by omega) (by omega), Idealize.ShloMosaic.WordCmp.select_ofBool]
  simp only [decide_eq_true_eq, e]
  by_cases q : (y 0).val + k < 2048
  · rw [if_neg (by omega), dif_pos q]
    simp only [Nat.mod_eq_of_lt q]
  · rw [if_pos (by omega), dif_neg q]

set_option maxRecDepth 8000 in
set_option maxHeartbeats 300000 in
theorem final3 (c : Dev nD) (hF : Finite (m ((c : Thread nD τ).loc main_arg2))) : (dats m 0 c).arrAt 3 cfg0.N
    = val_main_v79 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have hZ := dz_eq m c hF t
  unfold k0_pay9
  dsimp only
  generalize k0_pay8 (k0_pay12 (iblk m c 0 t) (iblk m c 1 t) (iblk m c 2 t)) (iblk m c 2 t) (k0_pay13 (iblk m c 0 t) (iblk m c 1 t) (iblk m c 2 t)) = Z at hZ ⊢
  have u1 := fun y => up Z 2047 1 rfl (by omega) iota_S2048x256_d0_w32 rotates_S2048x256_d0 y
  generalize select (cmpi .sge (iota .tc S2048x256 32 [0] iota_S2048x256_d0_w32) (broadcast S2048x256 2047#32)) (broadcast S2048x256 (Scalar.ofBits (F := Ideal) .f32 0x00000000#32)) (dynamicRotate 0 2047#32 none Z rotates_S2048x256_d0) = U1 at u1 ⊢
  have u2 := fun y => up Z 2046 2 rfl (by omega) iota_S2048x256_d0_w32 rotates_S2048x256_d0 y
  generalize select (cmpi .sge (iota .tc S2048x256 32 [0] iota_S2048x256_d0_w32) (broadcast S2048x256 2046#32)) (broadcast S2048x256 (Scalar.ofBits (F := Ideal) .f32 0x00000000#32)) (dynamicRotate 0 2046#32 none Z rotates_S2048x256_d0) = U2 at u2 ⊢
  have u3 := fun y => up Z 2045 3 rfl (by omega) iota_S2048x256_d0_w32 rotates_S2048x256_d0 y
  generalize select (cmpi .sge (iota .tc S2048x256 32 [0] iota_S2048x256_d0_w32) (broadcast S2048x256 2045#32)) (broadcast S2048x256 (Scalar.ofBits (F := Ideal) .f32 0x00000000#32)) (dynamicRotate 0 2045#32 none Z rotates_S2048x256_d0) = U3 at u3 ⊢
  have hy : (y 0).val < 2048 := (y 0).isLt
  have e0 : (((View.whole main_v0_0).slice (win0_3.rect t)).emb y 0).val = (y 0).val := by
    blk_point [idx3 t]
  have e1 : (((View.whole main_v0_0).slice (win0_3.rect t)).emb y 1).val = 256 * (grid0.coords t 0).val + (y 1).val := by
    have q : (((View.whole main_v0_0).slice (win0_3.rect t)).emb y 1).val = win0_3.index t 1 * 256 + 1 * (y 1).val := rfl
    rw [q, idx3 t]
    show (grid0.coords t 0).val * 256 + 1 * (y 1).val = _
    omega
  pointwise [val_main_v4, val_main_v5, val_main_v7, val_main_v12, val_main_v13, val_main_v15, val_main_v19, val_main_v20, val_main_v22, val_main_v26, val_main_v27, val_main_v29, val_main_v35, val_main_v36, val_main_v37, val_main_cst_2, val_main_v38, val_main_v39, val_main_cst_3, val_main_v40, val_main_cst_4, val_main_v41, val_main_v42, val_main_cst_5, val_main_v43, val_main_v44, val_main_v45, val_main_v46, val_main_cst_6, val_main_v47, val_main_v48, val_main_cst_7, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_cst_12, val_main_v61, val_main_v62, val_main_v63, val_main_cst_13, val_main_v64, val_main_v65, val_main_v66, val_main_v67, val_main_v68, val_main_cst_14, val_main_v69, val_main_v70, val_main_cst_15, val_main_v71, val_main_cst_16, val_main_v72, val_main_v73, val_main_v74, val_main_cst_17, val_main_v75, val_main_v76, val_main_v77, val_main_v78, val_main_v79]
  have hw : ∀ k : Fin 4, iblk m c 1 t (ix2 k (y 1)) = (m ((c : Thread nD τ).loc main_arg1)) (ix2 k ((((View.whole main_v0_0).slice (win0_3.rect t)).emb y) 1)) := by
    intro k
    blk_point [iblk, V, idx1 t, e1]
  have hy2 : (((View.whole main_v0_0).slice (win0_3.rect t)).emb y 0).val < 2048 := by omega
  refine add_same (add_same (add_same (mul_same (hw 3) (hZ y _ e0 e1)) (term_same (hw 2) (u1 y) ?_ ?_)) (term_same (hw 1) (u2 y) ?_ ?_))
    (term_same (hw 0) (u3 y) ?_ ?_)
  · omega
  · intro p q
    refine hZ _ _ ?_ e1
    show 3 + (((View.whole main_v0_0).slice (win0_3.rect t)).emb y 0).val - 2 = (y 0).val + 1
    omega
  · omega
  · intro p q
    refine hZ _ _ ?_ e1
    show 3 + (((View.whole main_v0_0).slice (win0_3.rect t)).emb y 0).val - 1 = (y 0).val + 2
    omega
  · omega
  · intro p q
    refine hZ _ _ ?_ e1
    show 3 + (((View.whole main_v0_0).slice (win0_3.rect t)).emb y 0).val = (y 0).val + 3
    omega

set_option maxHeartbeats 300000 in
theorem final4 (c : Dev nD) (hF : Finite (m ((c : Thread nD τ).loc main_arg2))) : (dats m 0 c).arrAt 4 cfg0.N
    = val_main_v76 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  have hZ := dz_eq m c hF t
  unfold k0_pay1 k0_pay10 k0_pay11
  generalize k0_pay8 (k0_pay12 (iblk m c 0 t) (iblk m c 1 t) (iblk m c 2 t)) (iblk m c 2 t) (k0_pay13 (iblk m c 0 t) (iblk m c 1 t) (iblk m c 2 t)) = Z at hZ ⊢
  have hy : (y 0).val < 4 := (y 0).isLt
  have e0 : (((View.whole main_v0_1).slice (win0_4.rect t)).emb y 0).val = (y 0).val := by
    blk_point [idx4 t]
  have e1 : (((View.whole main_v0_1).slice (win0_4.rect t)).emb y 1).val = 256 * (grid0.coords t 0).val + (y 1).val := by
    have q : (((View.whole main_v0_1).slice (win0_4.rect t)).emb y 1).val = win0_4.index t 1 * 256 + 1 * (y 1).val := rfl
    rw [q, idx4 t]
    show (grid0.coords t 0).val * 256 + 1 * (y 1).val = _
    omega
  pointwise [val_main_v4, val_main_v5, val_main_v7, val_main_v12, val_main_v13, val_main_v15, val_main_v19, val_main_v20, val_main_v22, val_main_v26, val_main_v27, val_main_v29, val_main_v35, val_main_v36, val_main_v37, val_main_cst_2, val_main_v38, val_main_v39, val_main_cst_3, val_main_v40, val_main_cst_4, val_main_v41, val_main_v42, val_main_cst_5, val_main_v43, val_main_v44, val_main_v45, val_main_v46, val_main_cst_6, val_main_v47, val_main_v48, val_main_cst_7, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_cst_12, val_main_v61, val_main_v62, val_main_v63, val_main_cst_13, val_main_v64, val_main_v65, val_main_v66, val_main_v67, val_main_v68, val_main_cst_14, val_main_v69, val_main_v70, val_main_cst_15, val_main_v71, val_main_cst_16, val_main_v72, val_main_v73, val_main_v74, val_main_cst_17, val_main_v75, val_main_v76, val_main_v77, val_main_v78, val_main_v79]
  generalize ((View.whole main_v0_1).slice (win0_4.rect t)).emb y = g at e0 e1 ⊢
  simp only [Finset.univ_unique, Finset.sum_singleton]
  rcases (by omega : (y 0).val = 0 ∨ (y 0).val = 1 ∨ (y 0).val = 2 ∨ (y 0).val = 3) with hk | hk | hk | hk
  · simp only [show (y 0).val < 1 by omega, show ¬ (3 ≤ (g 0).val ∧ (g 0).val - 3 < 1) by omega, show ¬ (2 ≤ (g 0).val ∧ (g 0).val - 2 < 1) by omega, show ¬ (1 ≤ (g 0).val ∧ (g 0).val - 1 < 1) by omega, show (g 0).val < 1 by omega, ↓reduceDIte, zero_add, add_zero]
    refine sum_same fun x => ?_
    rw [hZ (ix2 x (y 1)) (ix2 x (g 1)) rfl e1, xs3 m c t (ix2 x (y 1)) (ix2 x (g 1)) rfl e1]
  · simp only [show ¬ (y 0).val < 1 by omega, show (y 0).val - 1 < 1 by omega, show ¬ (3 ≤ (g 0).val ∧ (g 0).val - 3 < 1) by omega, show ¬ (2 ≤ (g 0).val ∧ (g 0).val - 2 < 1) by omega, show (1 ≤ (g 0).val ∧ (g 0).val - 1 < 1) by omega, show ¬ (g 0).val < 1 by omega, ↓reduceDIte, zero_add, add_zero]
    refine sum_same fun x => ?_
    rw [hZ (ix2 x (y 1)) (ix2 x (g 1)) rfl e1, xs2 m c t (ix2 x (y 1)) (ix2 x (g 1)) rfl e1]
  · simp only [show ¬ (y 0).val < 1 by omega, show ¬ (y 0).val - 1 < 1 by omega, show (y 0).val - 1 - 1 < 1 by omega, show ¬ (3 ≤ (g 0).val ∧ (g 0).val - 3 < 1) by omega, show (2 ≤ (g 0).val ∧ (g 0).val - 2 < 1) by omega, show ¬ (1 ≤ (g 0).val ∧ (g 0).val - 1 < 1) by omega, show ¬ (g 0).val < 1 by omega, ↓reduceDIte, zero_add, add_zero]
    refine sum_same fun x => ?_
    rw [hZ (ix2 x (y 1)) (ix2 x (g 1)) rfl e1, xs1 m c t (ix2 x (y 1)) (ix2 x (g 1)) rfl e1]
  · simp only [show ¬ (y 0).val < 1 by omega, show ¬ (y 0).val - 1 < 1 by omega, show ¬ (y 0).val - 1 - 1 < 1 by omega, show (3 ≤ (g 0).val ∧ (g 0).val - 3 < 1) by omega, show ¬ (2 ≤ (g 0).val ∧ (g 0).val - 2 < 1) by omega, show ¬ (1 ≤ (g 0).val ∧ (g 0).val - 1 < 1) by omega, show ¬ (g 0).val < 1 by omega, ↓reduceDIte, zero_add, add_zero]
    refine sum_same fun x => ?_
    rw [hZ (ix2 x (y 1)) (ix2 x (g 1)) rfl e1, xs0 m c t (ix2 x (y 1)) (ix2 x (g 1)) rfl e1]

end Cert.ConvBIdeal.Val

namespace Cert.Proof.ConvBClaims

theorem frame_k : Cert.quiescent_ConvB := fun m ρ _ => Cert.ConvB.Gen.frame m ρ
theorem frame_i : Cert.quiescent_ConvBIdeal := fun m ρ _ => Cert.ConvBIdeal.Gen.frame m ρ
theorem frame_r : Cert.quiescent_ConvBRefIdeal := fun m ρ _ =>
  (θ_run Cert.ConvBRefIdeal.defs _ _).mono (fun r h => ⟨fun c => (h c).2.2,
      Idealize.ShloMosaic.sem_eq_zero_of_no_sems (by decide) r.2⟩)
    (Cert.ConvBRefIdeal.Value.run (F := Ideal) m ρ)

theorem frame_i_pre : Cert.quiescent_ConvBIdeal_pre_finite_cotangent := fun m ρ _ => Cert.ConvBIdeal.Gen.frame m ρ
theorem frame_r_pre : Cert.quiescent_ConvBRefIdeal_pre_finite_cotangent := fun m ρ _ => frame_r m ρ trivial

open Cert.ConvBIdeal.Val in
/-- The kernel's results are the reference's, as functions of the arguments. -/
theorem algebraic : Cert.algebraic_ConvBIdeal_ConvBRefIdeal_pre_finite_cotangent := by
  intro m ρ m' ρ' hp hag
  refine ⟨fun c => _, fun c => _, (θ_run Cert.ConvBIdeal.defs _ _).mono (fun _ h c => ⟨(h c).1.trans (final3 m c fun g => finite _ _ _ (hp c) g), (h c).2.1.trans (final4 m c fun g => finite _ _ _ (hp c) g), (h c).2.2⟩) (Cert.ConvBIdeal.Value.run_blocks (F := Ideal) m ρ), (θ_run Cert.ConvBRefIdeal.defs _ _).mono (fun _ h c => ?_) (Cert.ConvBRefIdeal.Value.run (F := Ideal) m' ρ')⟩
  obtain ⟨h0, h1, hk⟩ := h c
  obtain ⟨a0, a1, a2⟩ := hag c
  unfold Cert.ConvBRefIdeal.Value.res_main_v79 at h0
  unfold Cert.ConvBRefIdeal.Value.res_main_v76 at h1
  rw [a0, a1, a2] at h0
  rw [a0, a1, a2] at h1
  exact ⟨h0, h1, hk⟩

end Cert.Proof.ConvBClaims

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeVal
public import proofs.«01_k».proof.Proof.Gen.SbRefIdeal.Run
public import proofs.«01_k».proof.Proof.Gen.SbRefIdeal.Read
public import proofs.«01_k».proof.Proof.SbFrame
public import proofs.«01_k».proof.Proof.SbSame
public import proofs.«01_k».proof.Proof.Gen.Sb
public import proofs.«01_k».proof.Proof.Gen.Pre_finite_cotangent
public import proofs.«01_k».proof.Proof.FfTwoWVal
public import proofs.«01_k».proof.Proof.FfOneWVal
public import proofs.«01_k».proof.Proof.OutWVal
public import proofs.«01_k».proof.Proof.UpWVal
public import proofs.«01_k».proof.Proof.UpPoolWVal
public import proofs.«01_k».proof.Proof.InWVal
public import proofs.«01_k».proof.Proof.OutXVal
public import proofs.«01_k».proof.Proof.UpXVal
public import proofs.«01_k».proof.Proof.UpPoolXVal
public import proofs.«01_k».proof.Proof.FfTwoXVal
public import proofs.«01_k».proof.Proof.FfOneXVal
public import proofs.«01_k».proof.Proof.InXVal
public import proofs.«01_k».proof.Proof.InFVal
public import proofs.«01_k».proof.Proof.GatesFVal
public import proofs.«01_k».proof.Proof.UpFVal
public import proofs.«01_k».proof.Proof.UpPoolFVal
public import proofs.«01_k».proof.Proof.OutFVal
public import proofs.«01_k».proof.Proof.FfOneFVal
public import proofs.«01_k».proof.Proof.FfTwoFVal
public import proofs.«01_k».proof.Proof.RmsBVal
public import proofs.«01_k».proof.Proof.GdnOutBVal
public import proofs.«01_k».proof.Proof.MergeFVal
public import proofs.«01_k».proof.Proof.RmsFVal
public import proofs.«01_k».proof.Proof.GdnOutFVal
public import proofs.«01_k».proof.Proof.ConvFVal
public import proofs.«01_k».proof.Proof.ConvBVal
public import Idealize.ShloMosaic.Adequacy
public import Idealize.ShloMosaic.Init

@[expose] public section

noncomputable section

namespace Cert.Proof

open Idealize.ShloMosaic Idealize.SL.Sem Cert.Merge

theorem frame_sb_i : Cert.quiescent_SbIdeal := fun m ρ _ => Cert.SbIdeal.Hand.frame (F := Ideal) m ρ
theorem frame_sb_r : Cert.quiescent_SbRefIdeal := fun m ρ _ =>
  (θ_run _ _ _).mono (fun r h => ⟨fun c => (h c).2.2.2, Idealize.ShloMosaic.sem_eq_zero_of_no_sems (by decide) r.2⟩) (Cert.SbRefIdeal.Value.run (F := Ideal) m ρ)

theorem claim : Cert.Claim := ⟨Cert.Merge.Gen.facts, Cert.MergeIdeal.Gen.facts, Cert.MergeRefIdeal.Gen.facts, Cert.Sb.Gen.facts, Cert.SbIdeal.Gen.facts, Cert.SbRefIdeal.Gen.facts, Cert.FfTwoW.Gen.facts, Cert.FfTwoWIdeal.Gen.facts, Cert.FfTwoWRefIdeal.Gen.facts, Cert.FfOneW.Gen.facts, Cert.FfOneWIdeal.Gen.facts, Cert.FfOneWRefIdeal.Gen.facts, Cert.OutW.Gen.facts, Cert.OutWIdeal.Gen.facts, Cert.OutWRefIdeal.Gen.facts, Cert.UpW.Gen.facts, Cert.UpWIdeal.Gen.facts, Cert.UpWRefIdeal.Gen.facts, Cert.UpPoolW.Gen.facts, Cert.UpPoolWIdeal.Gen.facts, Cert.UpPoolWRefIdeal.Gen.facts, Cert.InW.Gen.facts, Cert.InWIdeal.Gen.facts, Cert.InWRefIdeal.Gen.facts, Cert.OutX.Gen.facts, Cert.OutXIdeal.Gen.facts, Cert.OutXRefIdeal.Gen.facts, Cert.UpX.Gen.facts, Cert.UpXIdeal.Gen.facts, Cert.UpXRefIdeal.Gen.facts, Cert.UpPoolX.Gen.facts, Cert.UpPoolXIdeal.Gen.facts, Cert.UpPoolXRefIdeal.Gen.facts, Cert.FfTwoX.Gen.facts, Cert.FfTwoXIdeal.Gen.facts, Cert.FfTwoXRefIdeal.Gen.facts, Cert.FfOneX.Gen.facts, Cert.FfOneXIdeal.Gen.facts, Cert.FfOneXRefIdeal.Gen.facts, Cert.InX.Gen.facts, Cert.InXIdeal.Gen.facts, Cert.InXRefIdeal.Gen.facts, Cert.InF.Gen.facts, Cert.InFIdeal.Gen.facts, Cert.InFRefIdeal.Gen.facts, Cert.GatesF.Gen.facts, Cert.GatesFIdeal.Gen.facts, Cert.GatesFRefIdeal.Gen.facts, Cert.UpF.Gen.facts, Cert.UpFIdeal.Gen.facts, Cert.UpFRefIdeal.Gen.facts, Cert.UpPoolF.Gen.facts, Cert.UpPoolFIdeal.Gen.facts, Cert.UpPoolFRefIdeal.Gen.facts, Cert.OutF.Gen.facts, Cert.OutFIdeal.Gen.facts, Cert.OutFRefIdeal.Gen.facts, Cert.FfOneF.Gen.facts, Cert.FfOneFIdeal.Gen.facts, Cert.FfOneFRefIdeal.Gen.facts, Cert.FfTwoF.Gen.facts, Cert.FfTwoFIdeal.Gen.facts, Cert.FfTwoFRefIdeal.Gen.facts, Cert.RmsB.Gen.facts, Cert.RmsBIdeal.Gen.facts, Cert.RmsBRefIdeal.Gen.facts, Cert.GdnOutB.Gen.facts, Cert.GdnOutBIdeal.Gen.facts, Cert.GdnOutBRefIdeal.Gen.facts, Cert.MergeF.Gen.facts, Cert.MergeFIdeal.Gen.facts, Cert.MergeFRefIdeal.Gen.facts, Cert.RmsF.Gen.facts, Cert.RmsFIdeal.Gen.facts, Cert.RmsFRefIdeal.Gen.facts, Cert.GdnOutF.Gen.facts, Cert.GdnOutFIdeal.Gen.facts, Cert.GdnOutFRefIdeal.Gen.facts, Cert.ConvF.Gen.facts, Cert.ConvFIdeal.Gen.facts, Cert.ConvFRefIdeal.Gen.facts, Cert.ConvB.Gen.facts, Cert.ConvBIdeal.Gen.facts, Cert.ConvBRefIdeal.Gen.facts, Cert.Pre_finite_cotangent.Gen.facts,
  MergeClaims.frame_k, MergeClaims.frame_i, MergeClaims.frame_r, frame_sb, frame_sb_i, frame_sb_r, FfTwoWClaims.frame_k, FfTwoWClaims.frame_i,
  FfTwoWClaims.frame_r, FfOneWClaims.frame_k, FfOneWClaims.frame_i, FfOneWClaims.frame_r, OutWClaims.frame_k, OutWClaims.frame_i, OutWClaims.frame_r, UpWClaims.frame_k,
  UpWClaims.frame_i, UpWClaims.frame_r, UpPoolWClaims.frame_k, UpPoolWClaims.frame_i, UpPoolWClaims.frame_r, InWClaims.frame_k, InWClaims.frame_i, InWClaims.frame_r,
  OutXClaims.frame_k, OutXClaims.frame_i, OutXClaims.frame_r, UpXClaims.frame_k, UpXClaims.frame_i, UpXClaims.frame_r, UpPoolXClaims.frame_k, UpPoolXClaims.frame_i,
  UpPoolXClaims.frame_r, FfTwoXClaims.frame_k, FfTwoXClaims.frame_i, FfTwoXClaims.frame_r, FfOneXClaims.frame_k, FfOneXClaims.frame_i, FfOneXClaims.frame_r, InXClaims.frame_k,
  InXClaims.frame_i, InXClaims.frame_r, InFClaims.frame_k, InFClaims.frame_i, InFClaims.frame_r, GatesFClaims.frame_k, GatesFClaims.frame_i, GatesFClaims.frame_r,
  UpFClaims.frame_k, UpFClaims.frame_i, UpFClaims.frame_r, UpPoolFClaims.frame_k, UpPoolFClaims.frame_i, UpPoolFClaims.frame_r, OutFClaims.frame_k, OutFClaims.frame_i,
  OutFClaims.frame_r, FfOneFClaims.frame_k, FfOneFClaims.frame_i, FfOneFClaims.frame_r, FfTwoFClaims.frame_k, FfTwoFClaims.frame_i, FfTwoFClaims.frame_r, RmsBClaims.frame_k,
  RmsBClaims.frame_i, RmsBClaims.frame_r, GdnOutBClaims.frame_k, GdnOutBClaims.frame_i, GdnOutBClaims.frame_r, MergeFClaims.frame_k, MergeFClaims.frame_i, MergeFClaims.frame_r,
  RmsFClaims.frame_k, RmsFClaims.frame_i, RmsFClaims.frame_r, GdnOutFClaims.frame_k, GdnOutFClaims.frame_i, GdnOutFClaims.frame_r, ConvFClaims.frame_k, ConvFClaims.frame_i,
  ConvFClaims.frame_r, ConvBClaims.frame_k, ConvBClaims.frame_i, ConvBClaims.frame_i_pre, ConvBClaims.frame_r, ConvBClaims.frame_r_pre, trivial, MergeClaims.algebraic,
  trivial, trivial, FfTwoWClaims.algebraic, trivial, FfOneWClaims.algebraic, trivial, OutWClaims.algebraic, trivial,
  UpWClaims.algebraic, trivial, UpPoolWClaims.algebraic, trivial, InWClaims.algebraic, trivial, OutXClaims.algebraic, trivial,
  UpXClaims.algebraic, trivial, UpPoolXClaims.algebraic, trivial, FfTwoXClaims.algebraic, trivial, FfOneXClaims.algebraic, trivial,
  InXClaims.algebraic, trivial, InFClaims.algebraic, trivial, GatesFClaims.algebraic, trivial, UpFClaims.algebraic, trivial,
  UpPoolFClaims.algebraic, trivial, OutFClaims.algebraic, trivial, FfOneFClaims.algebraic, trivial, FfTwoFClaims.algebraic, trivial,
  RmsBClaims.algebraic, trivial, GdnOutBClaims.algebraic, trivial, MergeFClaims.algebraic, trivial, RmsFClaims.algebraic, trivial,
  GdnOutFClaims.algebraic, trivial, ConvFClaims.algebraic, trivial, ConvBClaims.algebraic⟩

end Cert.Proof

end
